-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v36_0)) (v1 : (c : Dev Cert.Kernel2Ideal.nD) → Buf (Elt Ideal) ((c.tc : Thread Cert.Kernel2Ideal.nD Cert.Kernel2Ideal.τ).loc Cert.Kernel2Ideal.main_v36_1)) (v2 : (c : Dev Cert.Kernel2Ideal.nD) → Buf (Elt Ideal) ((c.tc : Thread Cert.Kernel2Ideal.nD Cert.Kernel2Ideal.τ).loc Cert.Kernel2Ideal.main_v36_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36_0) = v0 c
          ∧ r.2.mem ((c.tc : Thread Cert.Kernel2Ideal.nD Cert.Kernel2Ideal.τ).loc Cert.Kernel2Ideal.main_v36_1) = v1 c
          ∧ r.2.mem ((c.tc : Thread Cert.Kernel2Ideal.nD Cert.Kernel2Ideal.τ).loc Cert.Kernel2Ideal.main_v36_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_v76) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)) (v4 : (c : Dev Cert.Kernel4Ideal.nD) → Buf (Elt Ideal) ((c.tc : Thread Cert.Kernel4Ideal.nD Cert.Kernel4Ideal.τ).loc Cert.Kernel4Ideal.main_v1_4)) (v5 : (c : Dev Cert.Kernel4Ideal.nD) → Buf (Elt Ideal) ((c.tc : Thread Cert.Kernel4Ideal.nD Cert.Kernel4Ideal.τ).loc Cert.Kernel4Ideal.main_v1_5)) (v6 : (c : Dev Cert.Kernel4Ideal.nD) → Buf (Elt Ideal) ((c.tc : Thread Cert.Kernel4Ideal.nD Cert.Kernel4Ideal.τ).loc Cert.Kernel4Ideal.main_v1_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_v1_4) = v4 c
          ∧ r.2.mem ((c.tc : Thread Cert.Kernel4Ideal.nD Cert.Kernel4Ideal.τ).loc Cert.Kernel4Ideal.main_v1_5) = v5 c
          ∧ r.2.mem ((c.tc : Thread Cert.Kernel4Ideal.nD Cert.Kernel4Ideal.τ).loc Cert.Kernel4Ideal.main_v1_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v33) = v1 c
          ∧ r.2.mem ((c.tc : Thread Cert.Reference4Ideal.nD Cert.Reference4Ideal.τ).loc Cert.Reference4Ideal.main_v34) = v2 c
          ∧ r.2.mem ((c.tc : Thread Cert.Reference4Ideal.nD Cert.Reference4Ideal.τ).loc Cert.Reference4Ideal.main_v32) = v3 c
          ∧ r.2.mem ((c.tc : Thread Cert.Reference4Ideal.nD Cert.Reference4Ideal.τ).loc Cert.Reference4Ideal.main_v29) = v4 c
          ∧ r.2.mem ((c.tc : Thread Cert.Reference4Ideal.nD Cert.Reference4Ideal.τ).loc Cert.Reference4Ideal.main_v35) = v5 c
          ∧ r.2.mem ((c.tc : Thread Cert.Reference4Ideal.nD Cert.Reference4Ideal.τ).loc Cert.Reference4Ideal.main_v39) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S4x8192x96 : Shape := ⟨3, ![4, 8192, 96]⟩
abbrev S4x8192x128 : Shape := ⟨3, ![4, 8192, 128]⟩
abbrev S8192x512 : Shape := ⟨2, ![8192, 512]⟩
abbrev S_ : Shape := ⟨0, ![]⟩

class Facts : Prop where
  bcast_S_S4x8192x96 : S_.BroadcastsInDim S4x8192x96 (![] : Fin 0 → Fin S4x8192x96.rank)
  bcast_S_S4x8192x128 : S_.BroadcastsInDim S4x8192x128 (![] : Fin 0 → Fin S4x8192x128.rank)
  bcast_S_S8192x512 : S_.BroadcastsInDim S8192x512 (![] : Fin 0 → Fin S8192x512.rank)

variable [Facts]

def fn {F : FTy → Type} [FloatOps F] (main_arg0 : FVec F S4x8192x96 .f32) (main_arg1 : FVec F S4x8192x96 .f32) (main_arg2 : FVec F S4x8192x128 .f32) (main_arg3 : FVec F S8192x512 .f32) : IVec S4x8192x96 1 × IVec S4x8192x96 1 × IVec S4x8192x128 1 × IVec S8192x512 1 :=
  let main_v0 : FVec F S4x8192x96 .f32 := Host.absf main_arg0
  let main_cst : FVec F S_ .f32 := constant S_ .f32 0x7F800000#32
  let main_v1 : FVec F S4x8192x96 .f32 := broadcastInDim S4x8192x96 ![] bcast_S_S4x8192x96 main_cst
  let main_v2 : IVec S4x8192x96 1 := cmpf .olt main_v0 main_v1
  let main_v3 : FVec F S4x8192x96 .f32 := Host.absf main_arg1
  let main_cst_0 : FVec F S_ .f32 := constant S_ .f32 0x7F800000#32
  let main_v4 : FVec F S4x8192x96 .f32 := broadcastInDim S4x8192x96 ![] bcast_S_S4x8192x96 main_cst_0
  let main_v5 : IVec S4x8192x96 1 := cmpf .olt main_v3 main_v4
  let main_v6 : FVec F S4x8192x128 .f32 := Host.absf main_arg2
  let main_cst_1 : FVec F S_ .f32 := constant S_ .f32 0x7F800000#32
  let main_v7 : FVec F S4x8192x128 .f32 := broadcastInDim S4x8192x128 ![] bcast_S_S4x8192x128 main_cst_1
  let main_v8 : IVec S4x8192x128 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Pre_finite2.lean ====
abbrev S8x8192x64 : Shape := ⟨3, ![8, 8192, 64]⟩
abbrev S2x8192x64 : Shape := ⟨3, ![2, 8192, 64]⟩
abbrev S8192x512 : Shape := ⟨2, ![8192, 512]⟩
abbrev S_ : Shape := ⟨0, ![]⟩

class Facts : Prop where
  bcast_S_S8x8192x64 : S_.BroadcastsInDim S8x8192x64 (![] : Fin 0 → Fin S8x8192x64.rank)
  bcast_S_S2x8192x64 : S_.BroadcastsInDim S2x8192x64 (![] : Fin 0 → Fin S2x8192x64.rank)
  bcast_S_S8192x512 : S_.BroadcastsInDim S8192x512 (![] : Fin 0 → Fin S8192x512.rank)

variable [Facts]

def fn {F : FTy → Type} [FloatOps F] (main_arg0 : FVec F S8x8192x64 .f32) (main_arg1 : FVec F S2x8192x64 .f32) (main_arg2 : FVec F S2x8192x64 .f32) (main_arg3 : FVec F S8192x512 .f32) : IVec S8x8192x64 1 × IVec S2x8192x64 1 × IVec S2x8192x64 1 × IVec S8192x512 1 :=
  let main_v0 : FVec F S8x8192x64 .f32 := Host.absf main_arg0
  let main_cst : FVec F S_ .f32 := constant S_ .f32 0x7F800000#32
  let main_v1 : FVec F S8x8192x64 .f32 := broadcastInDim S8x8192x64 ![] bcast_S_S8x8192x64 main_cst
  let main_v2 : IVec S8x8192x64 1 := cmpf .olt main_v0 main_v1
  let main_v3 : FVec F S2x8192x64 .f32 := Host.absf main_arg1
  let main_cst_0 : FVec F S_ .f32 := constant S_ .f32 0x7F800000#32
  let main_v4 : FVec F S2x8192x64 .f32 := broadcastInDim S2x8192x64 ![] bcast_S_S2x8192x64 main_cst_0
  let main_v5 : IVec S2x8192x64 1 := cmpf .olt main_v3 main_v4
  let main_v6 : FVec F S2x8192x64 .f32 := Host.absf main_arg2
  let main_cst_1 : FVec F S_ .f32 := constant S_ .f32 0x7F800000#32
  let main_v7 : FVec F S2x8192x64 .f32 := broadcastInDim S2x8192x64 ![] bcast_S_S2x8192x64 main_cst_1
  let main_v8 : IVec S2x8192x64 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Pre_finite4.lean ====
abbrev S8192x1024 : Shape := ⟨2, ![8192, 1024]⟩
abbrev S8192x512 : Shape := ⟨2, ![8192, 512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S1024x1024 : S_.BroadcastsInDim S1024x1024 (![] : Fin 0 → Fin S1024x1024.rank)

variable [Facts]

def fn_part1 {F : FTy → Type} [FloatOps F] (main_arg6 : FVec F S1024x1024 .f32) (main_v2 : IVec S8192x1024 1) (main_v5 : IVec S8192x1024 1) (main_v8 : IVec S8192x512 1) (main_v11 : IVec S8192x512 1) (main_v14 : IVec S8192x512 1) (main_v17 : IVec S8192x512 1) : IVec S8192x1024 1 × IVec S8192x1024 1 × IVec S8192x512 1 × IVec S8192x512 1 × IVec S8192x512 1 × IVec S8192x512 1 × IVec S1024x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S8192x512 .f32) (main_arg3 : FVec F S8192x512 .f32) (main_arg4 : FVec F S8192x512 .f32) (main_arg5 : FVec F S8192x512 .f32) (main_arg6 : FVec F S1024x1024 .f32) : IVec S8192x1024 1 × IVec S8192x1024 1 × IVec S8192x512 1 × IVec S8192x512 1 × IVec S8192x512 1 × IVec S8192x512 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_v2 main_v5 main_v8 main_v11 main_v14 main_v17
-- ==== Kernel.lean ====
abbrev S4x8192x96 : Shape := ⟨3, ![4, 8192, 96]⟩
abbrev S4x8192x128 : Shape := ⟨3, ![4, 8192, 128]⟩
abbrev S8192x512 : Shape := ⟨2, ![8192, 512]⟩
abbrev S_ : Shape := ⟨0, ![]⟩
abbrev S4x8192x8192 : Shape := ⟨3, ![4, 8192, 8192]⟩
abbrev S4x8192 : Shape := ⟨2, ![4, 8192]⟩
abbrev S4x8192x1 : Shape := ⟨3, ![4, 8192, 1]⟩
abbrev S4x1x8192 : Shape := ⟨3, ![4, 1, 8192]⟩
abbrev S8192x4x128 : Shape := ⟨3, ![8192, 4, 128]⟩
abbrev S512x8192 : Shape := ⟨2, ![512, 8192]⟩
abbrev S512x256 : Shape := ⟨2, ![512, 256]⟩
abbrev S4096x256 : Shape := ⟨2, ![4096, 256]⟩
abbrev S2x1x512 : Shape := ⟨3, ![2, 1, 512]⟩
abbrev S8192x256 : Shape := ⟨2, ![8192, 256]⟩
abbrev S256x4096 : Shape := ⟨2, ![256, 4096]⟩
abbrev S512x128 : Shape := ⟨2, ![512, 128]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S128x512 : Shape := ⟨2, ![128, 512]⟩
abbrev S256x128 : Shape := ⟨2, ![256, 128]⟩
abbrev S128x256 : Shape := ⟨2, ![128, 256]⟩

abbrev nBuf : Space → Nat
  | .hbm => 50
  | .vmem => 18
  | .smem => 0
  | _ => 0

abbrev bufTy : (tb : Table) → Fin (tcTables nBuf tb) → BufTy
  | .hbm, ⟨0, _⟩ => ⟨S4x8192x96, .f32⟩
  | .hbm, ⟨1, _⟩ => ⟨S4x8192x96, .f32⟩
  | .hbm, ⟨2, _⟩ => ⟨S4x8192x128, .f32⟩
  | .hbm, ⟨3, _⟩ => ⟨S8192x512, .f32⟩
  | .hbm, ⟨4, _⟩ => ⟨S_, .f32⟩
  | .hbm, ⟨5, _⟩ => ⟨S4x8192x96, .f32⟩
  | .hbm, ⟨6, _⟩ => ⟨S4x8192x96, .f32⟩
  | .hbm, ⟨7, _⟩ => ⟨S4x8192x8192, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x8192, .f32⟩
  | .hbm, ⟨18, _⟩ => ⟨S4x8192x8192, .f32⟩
  | .hbm, ⟨19, _⟩ => ⟨S4x8192x128, .f32⟩
  | .hbm, ⟨20, _⟩ => ⟨S4x8192x1, .f32⟩
  | .hbm, ⟨21, _⟩ => ⟨S4x8192x1, .f32⟩
  | .hbm, ⟨22, _⟩ => ⟨S4x1x8192, .f32⟩
  | .hbm, ⟨23, _⟩ => ⟨S_, .i32⟩
  | .hbm, ⟨24, _⟩ => ⟨S_, .f32⟩
  | .hbm, ⟨25, _⟩ => ⟨S4x8192x128, .f32⟩
  | .hbm, ⟨26, _⟩ => ⟨S8192x4x128, .f32⟩
  | .hbm, ⟨27, _⟩ => ⟨S8192x512, .f32⟩
  | .hbm, ⟨28, _⟩ => ⟨S8192x512, .bf16⟩
  | .hbm, ⟨29, _⟩ => ⟨S_, .i32⟩
  | .hbm, ⟨30, _⟩ => ⟨S_, .f32⟩
  | .hbm, ⟨31, _⟩ => ⟨S4x8192x128, .f32⟩
  | .hbm, ⟨32, _⟩ => ⟨S8192x4x128, .f32⟩
  | .hbm, ⟨33, _⟩ => ⟨S8192x512, .f32⟩
  | .hbm, ⟨34, _⟩ => ⟨S8192x512, .bf16⟩
  | .hbm, ⟨35, _⟩ => ⟨S_, .i32⟩
  | .hbm, ⟨36, _⟩ => ⟨S_, .f32⟩
  | .hbm, ⟨37, _⟩ => ⟨S4x8192x128, .f32⟩
  | .hbm, ⟨38, _⟩ => ⟨S8192x4x128, .f32⟩
  | .hbm, ⟨39, _⟩ => ⟨S8192x512, .f32⟩
  | .hbm, ⟨40, _⟩ => ⟨S8192x512, .bf16⟩
  | .hbm, ⟨41, _⟩ => ⟨S8192x512, .bf16⟩
  | .hbm, ⟨42, _⟩ => ⟨S_, .i32⟩
  | .hbm, ⟨43, _⟩ => ⟨S_, .f32⟩
  | .hbm, ⟨44, _⟩ => ⟨S4x8192x128, .f32⟩
  | .hbm, ⟨45, _⟩ => ⟨S8192x4x128, .f32⟩
  | .hbm, ⟨46, _⟩ => ⟨S8192x512, .f32⟩
  | .hbm, ⟨47, _⟩ => ⟨S8192x512, .f32⟩
  | .hbm, ⟨48, _⟩ => ⟨S512x8192, .f32⟩
  | .hbm, ⟨49, _⟩ => ⟨S512x8192, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x256, .bf16⟩
  | .local _ .vmem, ⟨7, _⟩ => ⟨S512x256, .bf16⟩
  | .local _ .vmem, ⟨8, _⟩ => ⟨S512x256, .f32⟩
  | .local _ .vmem, ⟨9, _⟩ => ⟨S512x256, .f32⟩
  | .local _ .vmem, ⟨10, _⟩ => ⟨S2x1x512, .f32⟩
  | .local _ .vmem, ⟨11, _⟩ => ⟨S2x1x512, .f32⟩
  | .local _ .vmem, ⟨12, _⟩ => ⟨S8192x256, .f32⟩
  | .local _ .vmem, ⟨13, _⟩ => ⟨S8192x256, .f32⟩
  | .local _ .vmem, ⟨14, _⟩ => ⟨S256x4096, .f32⟩
  | .local _ .vmem, ⟨15, _⟩ => ⟨S256x4096, .f32⟩
  | .local _ .vmem, ⟨16, _⟩ => ⟨S256x4096, .f32⟩
  | .local _ .vmem, ⟨17, _⟩ => ⟨S256x4096, .f32⟩
  | _, _ => ⟨S4x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_call1_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_call2_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_call3_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 16], ![false, false, false]⟩

def k0_mult1 (i : grid0.Coords) : BitVec 32 :=
  let arg2 : BitVec 32 := BitVec.ofNat 32 (i 2).val
  let c512_i32 : BitVec 32 := 512#32
  let v942 : BitVec 32 := Scalar.muli arg2 c512_i32
  v942
def k0_off1 (i : grid0.Coords) : Fin 2 → Nat :=
  let arg2 : BitVec 32 := BitVec.ofNat 32 (i 2).val
  let c512_i32 : BitVec 32 := 512#32
  let v942 : BitVec 32 := Scalar.muli arg2 c512_i32
  let v943 : BitVec 32 := v942
  let v944 : Index := Scalar.indexCast v943
  let c0_615 : Index := 0#32
  ![v944.toNat, 0]
def k0_off2 (i : grid0.Coords) : Fin 2 → Nat :=
  let arg2 : BitVec 32 := BitVec.ofNat 32 (i 2).val
  let c512_i32 : BitVec 32 := 512#32
  let v942 : BitVec 32 := Scalar.muli arg2 c512_i32
  let v943 : BitVec 32 := v942
  let v950 : Index := Scalar.indexCast v943
  let c128_617 : Index := 128#32
  ![v950.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S2x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S4x8192x96 : Shape := ⟨3, ![4, 8192, 96]⟩
abbrev S4x8192x128 : Shape := ⟨3, ![4, 8192, 128]⟩
abbrev S8192x512 : Shape := ⟨2, ![8192, 512]⟩
abbrev S_ : Shape := ⟨0, ![]⟩
abbrev S4x8192x8192 : Shape := ⟨3, ![4, 8192, 8192]⟩
abbrev S4x8192 : Shape := ⟨2, ![4, 8192]⟩
abbrev S4x8192x1 : Shape := ⟨3, ![4, 8192, 1]⟩
abbrev S8192x4x128 : Shape := ⟨3, ![8192, 4, 128]⟩
abbrev S4x128x8192 : Shape := ⟨3, ![4, 128, 8192]⟩
abbrev S512x8192 : Shape := ⟨2, ![512, 8192]⟩

abbrev nBuf : Space → Nat
  | .hbm => 82
  | .vmem => 0
  | .smem => 0
  | _ => 0

abbrev bufTy : (tb : Table) → Fin (tcTables nBuf tb) → BufTy
  | .hbm, ⟨0, _⟩ => ⟨S4x8192x96, .f32⟩
  | .hbm, ⟨1, _⟩ => ⟨S4x8192x96, .f32⟩
  | .hbm, ⟨2, _⟩ => ⟨S4x8192x128, .f32⟩
  | .hbm, ⟨3, _⟩ => ⟨S8192x512, .f32⟩
  | .hbm, ⟨4, _⟩ => ⟨S_, .f32⟩
  | .hbm, ⟨5, _⟩ => ⟨S4x8192x96, .f32⟩
  | .hbm, ⟨6, _⟩ => ⟨S4x8192x96, .f32⟩
  | .hbm, ⟨7, _⟩ => ⟨S4x8192x8192, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S4x8192x8192, .f32⟩
  | .hbm, ⟨12, _⟩ => ⟨S4x8192x8192, .i1⟩
  | .hbm, ⟨13, _⟩ => ⟨S4x8192x8192, .f32⟩
  | .hbm, ⟨14, _⟩ => ⟨S_, .f32⟩
  | .hbm, ⟨15, _⟩ => ⟨S4x8192, .f32⟩
  | .hbm, ⟨16, _⟩ => ⟨S_, .f32⟩
  | .hbm, ⟨17, _⟩ => ⟨S4x8192, .f32⟩
  | .hbm, ⟨18, _⟩ => ⟨S4x8192, .f32⟩
  | .hbm, ⟨19, _⟩ => ⟨S_, .f32⟩
  | .hbm, ⟨20, _⟩ => ⟨S4x8192, .f32⟩
  | .hbm, ⟨21, _⟩ => ⟨S4x8192, .i1⟩
  | .hbm, ⟨22, _⟩ => ⟨S_, .f32⟩
  | .hbm, ⟨23, _⟩ => ⟨S4x8192, .f32⟩
  | .hbm, ⟨24, _⟩ => ⟨S4x8192, .i1⟩
  | .hbm, ⟨25, _⟩ => ⟨S_, .f32⟩
  | .hbm, ⟨26, _⟩ => ⟨S4x8192, .f32⟩
  | .hbm, ⟨27, _⟩ => ⟨S_, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S4x8192, .f32⟩
  | .hbm, ⟨32, _⟩ => ⟨S4x8192, .f32⟩
  | .hbm, ⟨33, _⟩ => ⟨S4x8192x1, .f32⟩
  | .hbm, ⟨34, _⟩ => ⟨S4x8192x8192, .f32⟩
  | .hbm, ⟨35, _⟩ => ⟨S4x8192x8192, .f32⟩
  | .hbm, ⟨36, _⟩ => ⟨S4x8192x8192, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S4x8192x8192, .f32⟩
  | .hbm, ⟨41, _⟩ => ⟨S4x8192x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x128, .f32⟩
  | .hbm, ⟨47, _⟩ => ⟨S8192x4x128, .f32⟩
  | .hbm, ⟨48, _⟩ => ⟨S8192x512, .f32⟩
  | .hbm, ⟨49, _⟩ => ⟨S8192x4x128, .f32⟩
  | .hbm, ⟨50, _⟩ => ⟨S4x8192x128, .f32⟩
  | .hbm, ⟨51, _⟩ => ⟨S4x128x8192, .f32⟩
  | .hbm, ⟨52, _⟩ => ⟨S4x8192x128, .f32⟩
  | .hbm, ⟨53, _⟩ => ⟨S4x8192x8192, .f32⟩
  | .hbm, ⟨54, _⟩ => ⟨S4x8192x8192, .f32⟩
  | .hbm, ⟨55, _⟩ => ⟨S4x8192x8192, .f32⟩
  | .hbm, ⟨56, _⟩ => ⟨S4x8192x8192, .f32⟩
  | .hbm, ⟨57, _⟩ => ⟨S_, .f32⟩
  | .hbm, ⟨58, _⟩ => ⟨S4x8192, .f32⟩
  | .hbm, ⟨59, _⟩ => ⟨S4x8192x1, .f32⟩
  | .hbm, ⟨60, _⟩ => ⟨S4x8192x1, .f32⟩
  | .hbm, ⟨61, _⟩ => ⟨S4x8192x8192, .f32⟩
  | .hbm, ⟨62, _⟩ => ⟨S4x8192x8192, .f32⟩
  | .hbm, ⟨63, _⟩ => ⟨S_, .f32⟩
  | .hbm, ⟨64, _⟩ => ⟨S4x8192, .f32⟩
  | .hbm, ⟨65, _⟩ => ⟨S4x8192x8192, .f32⟩
  | .hbm, ⟨66, _⟩ => ⟨S4x8192x8192, .f32⟩
  | .hbm, ⟨67, _⟩ => ⟨S4x8192x8192, .f32⟩
  | .hbm, ⟨68, _⟩ => ⟨S4x8192x96, .f32⟩
  | .hbm, ⟨69, _⟩ => ⟨S4x8192x96, .f32⟩
  | .hbm, ⟨70, _⟩ => ⟨S_, .i32⟩
  | .hbm, ⟨71, _⟩ => ⟨S_, .f32⟩
  | .hbm, ⟨72, _⟩ => ⟨S4x8192x128, .f32⟩
  | .hbm, ⟨73, _⟩ => ⟨S8192x4x128, .f32⟩
  | .hbm, ⟨74, _⟩ => ⟨S8192x512, .f32⟩
  | .hbm, ⟨75, _⟩ => ⟨S_, .i32⟩
  | .hbm, ⟨76, _⟩ => ⟨S_, .f32⟩
  | .hbm, ⟨77, _⟩ => ⟨S4x8192x128, .f32⟩
  | .hbm, ⟨78, _⟩ => ⟨S4x128x8192, .f32⟩
  | .hbm, ⟨79, _⟩ => ⟨S512x8192, .f32⟩
  | .hbm, ⟨80, _⟩ => ⟨S4x128x8192, .f32⟩
  | .hbm, ⟨81, _⟩ => ⟨S512x8192, .f32⟩
  | _, _ => ⟨S4x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c : Ref sig .tc := ⟨.hbm, 70, rfl⟩
abbrev main_call0_v0 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_12 : Ref sig .tc := ⟨.hbm, 75, rfl⟩
abbrev main_call1_v0 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Kernel2.lean ====
abbrev S8x8192x64 : Shape := ⟨3, ![8, 8192, 64]⟩
abbrev S2x8192x64 : Shape := ⟨3, ![2, 8192, 64]⟩
abbrev S8192x512 : Shape := ⟨2, ![8192, 512]⟩
abbrev S_ : Shape := ⟨0, ![]⟩
abbrev S2x1x8192x64 : Shape := ⟨4, ![2, 1, 8192, 64]⟩
abbrev S2x4x8192x64 : Shape := ⟨4, ![2, 4, 8192, 64]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8192x8x64 : Shape := ⟨3, ![8192, 8, 64]⟩
abbrev S2x8192x128 : Shape := ⟨3, ![2, 8192, 128]⟩
abbrev S8192x2x128 : Shape := ⟨3, ![8192, 2, 128]⟩
abbrev S8192x256 : Shape := ⟨2, ![8192, 256]⟩
abbrev S256x8192 : Shape := ⟨2, ![256, 8192]⟩
abbrev S512x256 : Shape := ⟨2, ![512, 256]⟩
abbrev S4096x128 : Shape := ⟨2, ![4096, 128]⟩
abbrev S4x1x512 : Shape := ⟨3, ![4, 1, 512]⟩
abbrev S128x4096 : Shape := ⟨2, ![128, 4096]⟩
abbrev S512x128 : Shape := ⟨2, ![512, 128]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S128x512 : Shape := ⟨2, ![128, 512]⟩
abbrev S512x512 : Shape := ⟨2, ![512, 512]⟩

abbrev nBuf : Space → Nat
  | .hbm => 46
  | .vmem => 18
  | .smem => 0
  | _ => 0

abbrev bufTy : (tb : Table) → Fin (tcTables nBuf tb) → BufTy
  | .hbm, ⟨0, _⟩ => ⟨S8x8192x64, .f32⟩
  | .hbm, ⟨1, _⟩ => ⟨S2x8192x64, .f32⟩
  | .hbm, ⟨2, _⟩ => ⟨S2x8192x64, .f32⟩
  | .hbm, ⟨3, _⟩ => ⟨S8192x512, .f32⟩
  | .hbm, ⟨4, _⟩ => ⟨S_, .f32⟩
  | .hbm, ⟨5, _⟩ => ⟨S8x8192x64, .f32⟩
  | .hbm, ⟨6, _⟩ => ⟨S8x8192x64, .f32⟩
  | .hbm, ⟨7, _⟩ => ⟨S2x1x8192x64, .f32⟩
  | .hbm, ⟨8, _⟩ => ⟨S2x4x8192x64, .f32⟩
  | .hbm, ⟨9, _⟩ => ⟨S8x8192x64, .f32⟩
  | .hbm, ⟨10, _⟩ => ⟨S2x1x8192x64, .f32⟩
  | .hbm, ⟨11, _⟩ => ⟨S2x4x8192x64, .f32⟩
  | .hbm, ⟨12, _⟩ => ⟨S8x8192x64, .f32⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S8x8192x8192, .f32⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8x8192x64, .f32⟩
  | .hbm, ⟨26, _⟩ => ⟨S8x8192x1, .f32⟩
  | .hbm, ⟨27, _⟩ => ⟨S8x8192x1, .f32⟩
  | .hbm, ⟨28, _⟩ => ⟨S8x1x8192, .f32⟩
  | .hbm, ⟨29, _⟩ => ⟨S8192x8x64, .f32⟩
  | .hbm, ⟨30, _⟩ => ⟨S8192x512, .f32⟩
  | .hbm, ⟨31, _⟩ => ⟨S8192x512, .bf16⟩
  | .hbm, ⟨32, _⟩ => ⟨S2x8192x128, .f32⟩
  | .hbm, ⟨33, _⟩ => ⟨S8192x2x128, .f32⟩
  | .hbm, ⟨34, _⟩ => ⟨S8192x256, .f32⟩
  | .hbm, ⟨35, _⟩ => ⟨S8192x256, .bf16⟩
  | .hbm, ⟨36, _⟩ => ⟨S2x8192x128, .f32⟩
  | .hbm, ⟨37, _⟩ => ⟨S8192x2x128, .f32⟩
  | .hbm, ⟨38, _⟩ => ⟨S8192x256, .f32⟩
  | .hbm, ⟨39, _⟩ => ⟨S8192x256, .bf16⟩
  | .hbm, ⟨40, _⟩ => ⟨S8192x512, .bf16⟩
  | .hbm, ⟨41, _⟩ => ⟨S8192x8x64, .f32⟩
  | .hbm, ⟨42, _⟩ => ⟨S8192x512, .f32⟩
  | .hbm, ⟨43, _⟩ => ⟨S8192x512, .f32⟩
  | .hbm, ⟨44, _⟩ => ⟨S256x8192, .f32⟩
  | .hbm, ⟨45, _⟩ => ⟨S256x8192, .f32⟩
  | .local _ .vmem, ⟨0, _⟩ => ⟨S512x256, .bf16⟩
  | .local _ .vmem, ⟨1, _⟩ => ⟨S512x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x256, .bf16⟩
  | .local _ .vmem, ⟨7, _⟩ => ⟨S512x256, .bf16⟩
  | .local _ .vmem, ⟨8, _⟩ => ⟨S512x256, .f32⟩
  | .local _ .vmem, ⟨9, _⟩ => ⟨S512x256, .f32⟩
  | .local _ .vmem, ⟨10, _⟩ => ⟨S4x1x512, .f32⟩
  | .local _ .vmem, ⟨11, _⟩ => ⟨S4x1x512, .f32⟩
  | .local _ .vmem, ⟨12, _⟩ => ⟨S8192x256, .f32⟩
  | .local _ .vmem, ⟨13, _⟩ => ⟨S8192x256, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36_0 : Ref sig .tc := ⟨.hbm, 43, rfl⟩
abbrev main_v36_1 : Ref sig .tc := ⟨.hbm, 44, rfl⟩
abbrev main_v36_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 16], ![false, false, false]⟩

def k0_mult1 (i : grid0.Coords) : BitVec 32 :=
  let arg2 : BitVec 32 := BitVec.ofNat 32 (i 2).val
  let c512_i32 : BitVec 32 := 512#32
  let v1001 : BitVec 32 := Scalar.muli arg2 c512_i32
  v1001
def k0_off1 (i : grid0.Coords) : Fin 2 → Nat :=
  let arg2 : BitVec 32 := BitVec.ofNat 32 (i 2).val
  let c512_i32 : BitVec 32 := 512#32
  let v1001 : BitVec 32 := Scalar.muli arg2 c512_i32
  let v1002 : BitVec 32 := v1001
  let v1003 : Index := Scalar.indexCast v1002
  let c0_652 : Index := 0#32
  ![v1003.toNat, 0]
def k0_off2 (i : grid0.Coords) : Fin 2 → Nat :=
  let arg2 : BitVec 32 := BitVec.ofNat 32 (i 2).val
  let c512_i32 : BitVec 32 := 512#32
  let v1001 : BitVec 32 := Scalar.muli arg2 c512_i32
  let v1002 : BitVec 32 := v1001
  let v1010 : Index := Scalar.indexCast v1002
  let c128_654 : Index := 128#32
  ![v1010.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference2Ideal.lean ====
abbrev S8x8192x64 : Shape := ⟨3, ![8, 8192, 64]⟩
abbrev S2x8192x64 : Shape := ⟨3, ![2, 8192, 64]⟩
abbrev S8192x512 : Shape := ⟨2, ![8192, 512]⟩
abbrev S2x1x8192x64 : Shape := ⟨4, ![2, 1, 8192, 64]⟩
abbrev S2x2x8192x64 : Shape := ⟨4, ![2, 2, 8192, 64]⟩
abbrev S_ : Shape := ⟨0, ![]⟩
abbrev S2x1x2x8192x64 : Shape := ⟨5, ![2, 1, 2, 8192, 64]⟩
abbrev S2x2x2x8192x64 : Shape := ⟨5, ![2, 2, 2, 8192, 64]⟩
abbrev S8x8192x8192 : Shape := ⟨3, ![8, 8192, 8192]⟩
abbrev S8x8192 : Shape := ⟨2, ![8, 8192]⟩
abbrev S8x8192x1 : Shape := ⟨3, ![8, 8192, 1]⟩
abbrev S8192x8x64 : Shape := ⟨3, ![8192, 8, 64]⟩
abbrev S8x64x8192 : Shape := ⟨3, ![8, 64, 8192]⟩
abbrev S2x2x64x8192 : Shape := ⟨4, ![2, 2, 64, 8192]⟩
abbrev S256x8192 : Shape := ⟨2, ![256, 8192]⟩

abbrev nBuf : Space → Nat
  | .hbm => 98
  | .vmem => 0
  | .smem => 0
  | _ => 0

abbrev bufTy : (tb : Table) → Fin (tcTables nBuf tb) → BufTy
  | .hbm, ⟨0, _⟩ => ⟨S8x8192x64, .f32⟩
  | .hbm, ⟨1, _⟩ => ⟨S2x8192x64, .f32⟩
  | .hbm, ⟨2, _⟩ => ⟨S2x8192x64, .f32⟩
  | .hbm, ⟨3, _⟩ => ⟨S8192x512, .f32⟩
  | .hbm, ⟨4, _⟩ => ⟨S2x1x8192x64, .f32⟩
  | .hbm, ⟨5, _⟩ => ⟨S2x2x8192x64, .f32⟩
  | .hbm, ⟨6, _⟩ => ⟨S2x1x8192x64, .f32⟩
  | .hbm, ⟨7, _⟩ => ⟨S2x2x8192x64, .f32⟩
  | .hbm, ⟨8, _⟩ => ⟨S_, .f32⟩
  | .hbm, ⟨9, _⟩ => ⟨S8x8192x64, .f32⟩
  | .hbm, ⟨10, _⟩ => ⟨S8x8192x64, .f32⟩
  | .hbm, ⟨11, _⟩ => ⟨S2x1x2x8192x64, .f32⟩
  | .hbm, ⟨12, _⟩ => ⟨S2x2x2x8192x64, .f32⟩
  | .hbm, ⟨13, _⟩ => ⟨S8x8192x64, .f32⟩
  | .hbm, ⟨14, _⟩ => ⟨S2x1x2x8192x64, .f32⟩
  | .hbm, ⟨15, _⟩ => ⟨S2x2x2x8192x64, .f32⟩
  | .hbm, ⟨16, _⟩ => ⟨S8x8192x64, .f32⟩
  | .hbm, ⟨17, _⟩ => ⟨S8x8192x8192, .f32⟩
  | .hbm, ⟨18, _⟩ => ⟨S_, .f32⟩
  | .hbm, ⟨19, _⟩ => ⟨S8x8192, .f32⟩
  | .hbm, ⟨20, _⟩ => ⟨S8x8192x1, .f32⟩
  | .hbm, ⟨21, _⟩ => ⟨S8x8192x8192, .f32⟩
  | .hbm, ⟨22, _⟩ => ⟨S8x8192x8192, .i1⟩
  | .hbm, ⟨23, _⟩ => ⟨S8x8192x8192, .f32⟩
  | .hbm, ⟨24, _⟩ => ⟨S_, .f32⟩
  | .hbm, ⟨25, _⟩ => ⟨S8x8192, .f32⟩
  | .hbm, ⟨26, _⟩ => ⟨S_, .f32⟩
  | .hbm, ⟨27, _⟩ => ⟨S8x8192, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .i1⟩
  | .hbm, ⟨32, _⟩ => ⟨S_, .f32⟩
  | .hbm, ⟨33, _⟩ => ⟨S8x8192, .f32⟩
  | .hbm, ⟨34, _⟩ => ⟨S8x8192, .i1⟩
  | .hbm, ⟨35, _⟩ => ⟨S_, .f32⟩
  | .hbm, ⟨36, _⟩ => ⟨S8x8192, .f32⟩
  | .hbm, ⟨37, _⟩ => ⟨S_, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S8x8192, .f32⟩
  | .hbm, ⟨42, _⟩ => ⟨S8x8192, .f32⟩
  | .hbm, ⟨43, _⟩ => ⟨S8x8192x1, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S_, .f32⟩
  | .hbm, ⟨48, _⟩ => ⟨S8x8192, .f32⟩
  | .hbm, ⟨49, _⟩ => ⟨S8x8192x1, .f32⟩
  | .hbm, ⟨50, _⟩ => ⟨S8x8192x8192, .f32⟩
  | .hbm, ⟨51, _⟩ => ⟨S8x8192x8192, .f32⟩
  | .hbm, ⟨52, _⟩ => ⟨S8x8192x1, .f32⟩
  | .hbm, ⟨53, _⟩ => ⟨S_, .f32⟩
  | .hbm, ⟨54, _⟩ => ⟨S8x8192x1, .f32⟩
  | .hbm, ⟨55, _⟩ => ⟨S8x8192x1, .f32⟩
  | .hbm, ⟨56, _⟩ => ⟨S8x8192x64, .f32⟩
  | .hbm, ⟨57, _⟩ => ⟨S8192x8x64, .f32⟩
  | .hbm, ⟨58, _⟩ => ⟨S8192x512, .f32⟩
  | .hbm, ⟨59, _⟩ => ⟨S8192x8x64, .f32⟩
  | .hbm, ⟨60, _⟩ => ⟨S8x8192x64, .f32⟩
  | .hbm, ⟨61, _⟩ => ⟨S8x64x8192, .f32⟩
  | .hbm, ⟨62, _⟩ => ⟨S8x8192x64, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S8x8192, .f32⟩
  | .hbm, ⟨69, _⟩ => ⟨S8x8192x1, .f32⟩
  | .hbm, ⟨70, _⟩ => ⟨S8x8192x1, .f32⟩
  | .hbm, ⟨71, _⟩ => ⟨S8x8192x8192, .f32⟩
  | .hbm, ⟨72, _⟩ => ⟨S8x8192x8192, .f32⟩
  | .hbm, ⟨73, _⟩ => ⟨S_, .f32⟩
  | .hbm, ⟨74, _⟩ => ⟨S8x8192, .f32⟩
  | .hbm, ⟨75, _⟩ => ⟨S8x8192x8192, .f32⟩
  | .hbm, ⟨76, _⟩ => ⟨S8x8192x8192, .f32⟩
  | .hbm, ⟨77, _⟩ => ⟨S8x8192x8192, .f32⟩
  | .hbm, ⟨78, _⟩ => ⟨S8x8192x64, .f32⟩
  | .hbm, ⟨79, _⟩ => ⟨S8x8192x64, .f32⟩
  | .hbm, ⟨80, _⟩ => ⟨S2x2x2x8192x64, .f32⟩
  | .hbm, ⟨81, _⟩ => ⟨S_, .f32⟩
  | .hbm, ⟨82, _⟩ => ⟨S2x2x8192x64, .f32⟩
  | .hbm, ⟨83, _⟩ => ⟨S2x1x2x8192x64, .f32⟩
  | .hbm, ⟨84, _⟩ => ⟨S_, .f32⟩
  | .hbm, ⟨85, _⟩ => ⟨S2x2x8192x64, .f32⟩
  | .hbm, ⟨86, _⟩ => ⟨S2x2x2x8192x64, .f32⟩
  | .hbm, ⟨87, _⟩ => ⟨S_, .f32⟩
  | .hbm, ⟨88, _⟩ => ⟨S2x2x8192x64, .f32⟩
  | .hbm, ⟨89, _⟩ => ⟨S2x1x2x8192x64, .f32⟩
  | .hbm, ⟨90, _⟩ => ⟨S_, .f32⟩
  | .hbm, ⟨91, _⟩ => ⟨S2x2x8192x64, .f32⟩
  | .hbm, ⟨92, _⟩ => ⟨S8192x8x64, .f32⟩
  | .hbm, ⟨93, _⟩ => ⟨S8192x512, .f32⟩
  | .hbm, ⟨94, _⟩ => ⟨S2x2x64x8192, .f32⟩
  | .hbm, ⟨95, _⟩ => ⟨S256x8192, .f32⟩
  | .hbm, ⟨96, _⟩ => ⟨S2x2x64x8192, .f32⟩
  | .hbm, ⟨97, _⟩ => ⟨S256x8192, .f32⟩
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩

abbrev nD : Nat := 1
abbrev τ : Topo := Topo.v7x

variable {F : FTy → Type} [FloatOps F]
-- ==== Kernel3.lean ====
abbrev S8192x1024 : Shape := ⟨2, ![8192, 1024]⟩
abbrev S8192x3200 : Shape := ⟨2, ![8192, 3200]⟩
abbrev S1024x3200 : Shape := ⟨2, ![1024, 3200]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x3200, .f32⟩
  | .hbm, ⟨2, _⟩ => ⟨S8192x1024, .bf16⟩
  | .hbm, ⟨3, _⟩ => ⟨S8192x3200, .bf16⟩
  | .hbm, ⟨4, _⟩ => ⟨S1024x3200, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3200, .bf16⟩
  | .local _ .vmem, ⟨3, _⟩ => ⟨S1024x3200, .bf16⟩
  | .local _ .vmem, ⟨4, _⟩ => ⟨S1024x3200, .bf16⟩
  | .local _ .vmem, ⟨5, _⟩ => ⟨S1024x3200, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x3200 : Shape := ⟨2, ![8192, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3200, .f32⟩
  | .hbm, ⟨2, _⟩ => ⟨S_, .f32⟩
  | .hbm, ⟨3, _⟩ => ⟨S1024x3200, .f32⟩
  | .hbm, ⟨4, _⟩ => ⟨S8192x3200, .f32⟩
  | .hbm, ⟨5, _⟩ => ⟨S3200x1024, .f32⟩
  | .hbm, ⟨6, _⟩ => ⟨S1024x3200, .f32⟩
  | .hbm, ⟨7, _⟩ => ⟨S1024x3200, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S1024x1024 : Shape := ⟨2, ![1024, 1024]⟩
abbrev S1x128 : Shape := ⟨2, ![1, 128]⟩
abbrev S512x1024 : Shape := ⟨2, ![512, 1024]⟩
abbrev S512x512 : Shape := ⟨2, ![512, 512]⟩
abbrev S1024 : Shape := ⟨1, ![1024]⟩
abbrev S1x1024 : Shape := ⟨2, ![1, 1024]⟩

abbrev nBuf : Space → Nat
  | .hbm => 15
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S1024x1024, .f32⟩
  | .hbm, ⟨7, _⟩ => ⟨S1024x1024, .bf16⟩
  | .hbm, ⟨8, _⟩ => ⟨S8192x1024, .f32⟩
  | .hbm, ⟨9, _⟩ => ⟨S8192x512, .bf16⟩
  | .hbm, ⟨10, _⟩ => ⟨S8192x512, .bf16⟩
  | .hbm, ⟨11, _⟩ => ⟨S8192x512, .f32⟩
  | .hbm, ⟨12, _⟩ => ⟨S8192x512, .f32⟩
  | .hbm, ⟨13, _⟩ => ⟨S1024x1024, .bf16⟩
  | .hbm, ⟨14, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S1024x1024, .bf16⟩
  | .local _ .vmem, ⟨24, _⟩ => ⟨S1x128, .f32⟩
  | .local _ .vmem, ⟨25, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v106 : BitVec 1 := Scalar.cmpi .eq arg0 c15_i32
  let v107 : BitVec 32 := Scalar.extui v106
  let c0_i32_58 : BitVec 32 := 0#32
  let v108 : BitVec 1 := Scalar.cmpi .ne v107 c0_i32_58
  v108

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S8192x1024 : Shape := ⟨2, ![8192, 1024]⟩
abbrev S8192x512 : Shape := ⟨2, ![8192, 512]⟩
abbrev S1024x1024 : Shape := ⟨2, ![1024, 1024]⟩
abbrev S_ : Shape := ⟨0, ![]⟩
abbrev S8192 : Shape := ⟨1, ![8192]⟩
abbrev S1024 : Shape := ⟨1, ![1024]⟩
abbrev S8x128 : Shape := ⟨2, ![8, 128]⟩
abbrev S128 : Shape := ⟨1, ![128]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S1024x1024, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S1024x1024, .f32⟩
  | .hbm, ⟨62, _⟩ => ⟨S1024x1024, .f32⟩
  | .hbm, ⟨63, _⟩ => ⟨S8192x1024, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .bf16⟩
  | .hbm, ⟨79, _⟩ => ⟨S8192x512, .bf16⟩
  | .hbm, ⟨80, _⟩ => ⟨S1024x1024, .bf16⟩
  | .hbm, ⟨81, _⟩ => ⟨S_, .f32⟩
  | .hbm, ⟨82, _⟩ => ⟨S1024, .f32⟩
  | .hbm, ⟨83, _⟩ => ⟨S8x128, .f32⟩
  | .hbm, ⟨84, _⟩ => ⟨S_, .f32⟩
  | .hbm, ⟨85, _⟩ => ⟨S128, .f32⟩
  | .hbm, ⟨86, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v0_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v0_1 : Ref sig .tc := ⟨.hbm, 18, rfl⟩
abbrev main_v0_0 : Ref sig .tc := ⟨.hbm, 19, rfl⟩
abbrev main_v1 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_v2_2 : Ref sig .tc := ⟨.hbm, 28, rfl⟩
abbrev main_call1_cst_1 : Ref sig .tc := ⟨.hbm, 29, rfl⟩
abbrev main_call1_v6 : Ref sig .tc := ⟨.hbm, 30, rfl⟩
abbrev main_call1_v7 : Ref sig .tc := ⟨.hbm, 31, rfl⟩
abbrev main_v2_1 : Ref sig .tc := ⟨.hbm, 32, rfl⟩
abbrev main_v2_0 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst : Ref sig .tc := ⟨.hbm, 40, rfl⟩
abbrev main_v9 : Ref sig .tc := ⟨.hbm, 41, rfl⟩
abbrev main_v10 : Ref sig .tc := ⟨.hbm, 42, rfl⟩
abbrev main_cst_0 : Ref sig .tc := ⟨.hbm, 43, rfl⟩
abbrev main_v11 : Ref sig .tc := ⟨.hbm, 44, rfl⟩
abbrev main_cst_1 : Ref sig .tc := ⟨.hbm, 45, rfl⟩
abbrev main_v12 : Ref sig .tc := ⟨.hbm, 46, rfl⟩
abbrev main_v13 : Ref sig .tc := ⟨.hbm, 47, rfl⟩
abbrev main_cst_2 : Ref sig .tc := ⟨.hbm, 48, rfl⟩
abbrev main_v14 : Ref sig .tc := ⟨.hbm, 49, rfl⟩
abbrev main_cst_3 : Ref sig .tc := ⟨.hbm, 50, rfl⟩
abbrev main_v15 : Ref sig .tc := ⟨.hbm, 51, rfl⟩
abbrev main_cst_4 : Ref sig .tc := ⟨.hbm, 52, rfl⟩
abbrev main_cst_5 : Ref sig .tc := ⟨.hbm, 53, rfl⟩
abbrev main_v16 : Ref sig .tc := ⟨.hbm, 54, rfl⟩
abbrev main_v17 : Ref sig .tc := ⟨.hbm, 55, rfl⟩
abbrev main_cst_6 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_7 : Ref sig .tc := ⟨.hbm, 81, rfl⟩
abbrev main_v36 : Ref sig .tc := ⟨.hbm, 82, rfl⟩
abbrev main_v37 : Ref sig .tc := ⟨.hbm, 83, rfl⟩
abbrev main_cst_8 : Ref sig .tc := ⟨.hbm, 84, rfl⟩
abbrev main_v38 : Ref sig .tc := ⟨.hbm, 85, rfl⟩
abbrev main_v39 : Ref sig .tc := ⟨.hbm, 86, rfl⟩

abbrev nD : Nat := 1
abbrev τ : Topo := Topo.v7x

variable {F : FTy → Type} [FloatOps F]
-- ==== Proof.Step.lean ====
/-
  What one run of the attention gradient's body computes, as plain functions of the blocks it is given: per head
  `h` (128 lanes) and per chunk `c` of 256 keys, the tile the body adds to the key and value gradients, and the
  rows it adds to the query gradient.
-/
module

public import proofs.«01_k».proof.Proof.Gen.KernelIdeal.Frame
public import proofs.«01_k».proof.Proof.Gen.KernelIdeal.Skeleton
public import Idealize.ShloMosaic.Lib.WritesUnit
public import Idealize.ShloMosaic.Lib.Pipeline.ValueKit

@[expose] public section

set_option maxRecDepth 16384

noncomputable section

namespace Cert.KernelIdeal.Bwd

open Idealize.ShloMosaic Idealize.ShloMosaic.TcCoe
open Cert.KernelIdeal.Gen

variable {F : FTy → Type} [FloatOps F]

/-! ## Rectangles -/

/-- Lanes `128 h ..< 128 (h + 1)` of a block of 512 rows. -/
abbrev lanesRect (h : Fin 2) : Rect S512x256 :=
  Rect.unit ![0, 128 * h.val] S512x128.size fun a => by
    match a with
    | ⟨0, _⟩ => exact Nat.le_refl _
    | ⟨1, _⟩ => have := h.isLt; show 128 * h.val + 128 ≤ 256; omega

/-- Rows `256 c ..< 256 (c + 1)` and the lanes of head `h` of a block of keys or values. -/
abbrev keysRect (h : Fin 2) (c : Fin 16) : Rect S4096x256 :=
  Rect.unit ![256 * c.val, 128 * h.val] S256x128.size fun a => by
    match a with
    | ⟨0, _⟩ => have := c.isLt; show 256 * c.val + 256 ≤ 4096; omega
    | ⟨1, _⟩ => have := h.isLt; show 128 * h.val + 128 ≤ 256; omega

/-- Row `h` of a block of row sums. -/
abbrev sumsRect (h : Fin 2) : Rect S2x1x512 :=
  Rect.unit ![h.val, 0, 0] S1x1x512.size fun a => by
    match a with
    | ⟨0, _⟩ => have := h.isLt; show h.val + 1 ≤ 2; omega
    | ⟨1, _⟩ => exact Nat.le_refl _
    | ⟨2, _⟩ => exact Nat.le_refl _

/-- The tile of head `h` and chunk `c` in a block of transposed key or value gradients. -/
abbrev tileRect (h : Fin 2) (c : Fin 16) : Rect S256x4096 :=
  Rect.unit ![128 * h.val, 256 * c.val] S128x256.size fun a => by
    match a with
    | ⟨0, _⟩ => have := h.isLt; show 128 * h.val + 128 ≤ 256; omega
    | ⟨1, _⟩ => have := c.isLt; show 256 * c.val + 256 ≤ 4096; omega

/-- Where the rows of the query gradient that belong to point `i` start, for head `h`. -/
abbrev dqOff (i : grid0.Coords) (h : Fin 2) : Fin 2 → ℕ :=
  match h with
  | ⟨0, _⟩ => k0_off1 i
  | ⟨1, _⟩ => k0_off2 i

theorem dqOff_eq (i : grid0.Coords) (h : Fin 2) : dqOff i h = ![512 * (i 2).val, 128 * h.val] := by
  match h with
  | ⟨0, _⟩ => exact k0_off1_eq i
  | ⟨1, _⟩ => exact k0_off2_eq i

theorem dqOff_inb (i : grid0.Coords) (h : Fin 2) : ∀ a, dqOff i h a + S512x128.size a ≤ S8192x256.size a := by
  match h with
  | ⟨0, _⟩ => exact k0_off1_inb i
  | ⟨1, _⟩ => exact k0_off2_inb i

/-- The rows of the query gradient that belong to point `i`, lanes of head `h`. -/
abbrev rowsRect (i : grid0.Coords) (h : Fin 2) : Rect S8192x256 := Rect.unit (dqOff i h) S512x128.size (dqOff_inb i h)

/-! ## The blocks of one point and what the body makes of them -/

/-- The six blocks a point of the grid is given: queries, keys, values, the output's gradient, the output, and the
    logarithms of the row sums. -/
structure Blocks (F : FTy → Type) where
  q : Vec F S512x256 .bf16
  k : Vec F S4096x256 .bf16
  v : Vec F S4096x256 .bf16
  dy : Vec F S512x256 .bf16
  y : Vec F S512x256 .f32
  lse : Vec F S2x1x512 .f32

namespace Blocks

variable (B : Blocks F)

def qh (h : Fin 2) : Vec F S512x128 .bf16 := View.ld B.q (lanesRect h)
def dyh (h : Fin 2) : Vec F S512x128 .bf16 := View.ld B.dy (lanesRect h)
def yh (h : Fin 2) : Vec F S512x128 .f32 := View.ld B.y (lanesRect h)
def lseh (h : Fin 2) : Vec F S1x1x512 .f32 := View.ld B.lse (sumsRect h)
def kc (h : Fin 2) (c : Fin 16) : Vec F S256x128 .bf16 := View.ld B.k (keysRect h c)
def vc (h : Fin 2) (c : Fin 16) : Vec F S256x128 .bf16 := View.ld B.v (keysRect h c)

/-- The gradient of the scores of head `h` against the keys of chunk `c`. -/
def ds (h : Fin 2) (c : Fin 16) : FVec F S512x256 .bf16 :=
  k0_pay24 (k0_pay6 (B.qh h)) (k0_pay7 (B.dyh h)) (k0_pay8 (B.dyh h) (B.yh h)) (k0_pay9 (B.lseh h)) (B.kc h c) (B.vc h c)

/-- The value gradient's tile after the point, from the tile before it. -/
def dvTile (h : Fin 2) (c : Fin 16) (old : Vec F S128x256 .f32) : Vec F S128x256 .f32 :=
  k0_pay25 (k0_pay6 (B.qh h)) (k0_pay9 (B.lseh h)) (k0_pay11 (B.dyh h)) (B.kc h c) old

/-- The key gradient's tile after the point, from the tile before it. -/
def dkTile (h : Fin 2) (c : Fin 16) (old : Vec F S128x256 .f32) : Vec F S128x256 .f32 :=
  k0_pay26 (k0_pay10 (B.qh h)) (B.ds h c) old

/-- The query gradient that the point's keys contribute, chunk after chunk. -/
def dqSum (h : Fin 2) : List (Fin 16) → FVec F S512x128 .f32 → FVec F S512x128 .f32
  | [], acc => acc
  | c :: cs, acc => dqSum h cs (k0_pay27 acc (B.ds h c) (B.kc h c))

/-- The query gradient's rows after the point, from the rows before it. -/
def dqRows (h : Fin 2) (old : Vec F S512x128 .f32) : Vec F S512x128 .f32 :=
  k0_pay2 (B.dqSum h [0, 1, 2, 3, 4, 5, 6, 7, 8, 9, 10, 11, 12, 13, 14, 15] k0_pay19) old

end Blocks

/-! ## A whole block from its tiles -/

/-- The block whose tile of head `h` and chunk `c` is `T h c`. -/
def ofTiles {α : Type} (T : Fin 2 → Fin 16 → S128x256.Idx → α) : S256x4096.Idx → α := fun y =>
  T ⟨(y 0).val / 128, by have : (y 0).val < 256 := (y 0).isLt; omega⟩ ⟨(y 1).val / 256, by have : (y 1).val < 4096 := (y 1).isLt; omega⟩
    (ix2 ⟨(y 0).val % 128, Nat.mod_lt _ (by decide)⟩ ⟨(y 1).val % 256, Nat.mod_lt _ (by decide)⟩)

theorem ofTiles_emb {α : Type} (T : Fin 2 → Fin 16 → S128x256.Idx → α) (h : Fin 2) (c : Fin 16) (x : S128x256.Idx) :
    ofTiles T ((tileRect h c).emb x) = T h c x := by
  have e0 : ((tileRect h c).emb x 0).val = 128 * h.val + 1 * (x 0).val := rfl
  have e1 : ((tileRect h c).emb x 1).val = 256 * c.val + 1 * (x 1).val := rfl
  have h0 : (x 0).val < 128 := (x 0).isLt
  have h1 : (x 1).val < 256 := (x 1).isLt
  have key : ∀ h' c' x', h' = h → c' = c → x' = x → T h' c' x' = T h c x := by rintro _ _ _ rfl rfl rfl; rfl
  refine key _ _ _ (Fin.ext ?_) (Fin.ext ?_) (funext fun a => ?_)
  · show _ / 128 = h.val; rw [e0]; omega
  · show _ / 256 = c.val; rw [e1]; omega
  · match a with
    | ⟨0, _⟩ => exact Fin.ext (by show ((tileRect h c).emb x 0).val % 128 = (x 0).val; rw [e0]; omega)
    | ⟨1, _⟩ => exact Fin.ext (by show ((tileRect h c).emb x 1).val % 256 = (x 1).val; rw [e1]; omega)

/-- The heads and chunks in the order the body stores them, the last store first. -/
abbrev storeOrder : List (Fin 2 × Fin 16) :=
  [(1, 15), (1, 14), (1, 13), (1, 12), (1, 11), (1, 10), (1, 9), (1, 8), (1, 7), (1, 6), (1, 5), (1, 4), (1, 3), (1, 2), (1, 1), (1, 0),
   (0, 15), (0, 14), (0, 13), (0, 12), (0, 11), (0, 10), (0, 9), (0, 8), (0, 7), (0, 6), (0, 5), (0, 4), (0, 3), (0, 2), (0, 1), (0, 0)]

theorem mem_storeOrder : ∀ (h : Fin 2) (c : Fin 16), (h, c) ∈ storeOrder := by decide

section Read

variable {sp : Space} (v : View sig .tc sp S256x4096 .f32) (f : v.ty.Contents (Elt F))

/-- A buffer after one store per tile reads the block of those tiles, whatever it held before. -/
theorem read_tiles (T : Fin 2 → Fin 16 → S128x256.Idx → Elt F .f32) :
    v.read (Elt F) (v.writes (Elt F) f (storeOrder.map fun hc => ⟨tileRect hc.1 hc.2, T hc.1 hc.2⟩)) = ofTiles T := by
  funext y
  have h0 : (y 0).val < 256 := (y 0).isLt
  have h1 : (y 1).val < 4096 := (y 1).isLt
  refine View.read_writes_apply_of_pieces v f (ofTiles T) _ ?_ y ?_
  · intro p hp x
    obtain ⟨hc, _, rfl⟩ := List.mem_map.mp hp
    exact (ofTiles_emb T hc.1 hc.2 x).symm
  · refine ⟨_, List.mem_map.mpr ⟨(⟨(y 0).val / 128, by omega⟩, ⟨(y 1).val / 256, by omega⟩), mem_storeOrder _ _, rfl⟩, ?_⟩
    rw [Rect.mem_set_unit]
    intro a
    match a with
    | ⟨0, _⟩ => show 128 * ((y 0).val / 128) ≤ (y 0).val ∧ (y 0).val < 128 * ((y 0).val / 128) + 128; omega
    | ⟨1, _⟩ => show 256 * ((y 1).val / 256) ≤ (y 1).val ∧ (y 1).val < 256 * ((y 1).val / 256) + 256; omega

end Read

/-- The rows of point `i` replaced, head by head, the other rows kept. -/
def putRows {α : Type} (i : grid0.Coords) (T : Fin 2 → S512x128.Idx → α) (old : S8192x256.Idx → α) : S8192x256.Idx → α := fun y =>
  if (y 0).val / 512 = (i 2).val then
    T ⟨(y 1).val / 128, by have : (y 1).val < 256 := (y 1).isLt; omega⟩ (ix2 ⟨(y 0).val % 512, Nat.mod_lt _ (by decide)⟩ ⟨(y 1).val % 128, Nat.mod_lt _ (by decide)⟩)
  else old y

section ReadRows

variable {sp : Space} (v : View sig .tc sp S8192x256 .f32) (f : v.ty.Contents (Elt F))

/-- A buffer after the stores of point `i`'s rows, one per head, reads those rows replaced. -/
theorem read_rows (i : grid0.Coords) (T : Fin 2 → S512x128.Idx → Elt F .f32) :
    v.read (Elt F) (v.writes (Elt F) f [⟨rowsRect i 1, T 1⟩, ⟨rowsRect i 0, T 0⟩]) = putRows i T (v.read (Elt F) f) := by
  funext y
  have h0 : (y 0).val < 8192 := (y 0).isLt
  have h1 : (y 1).val < 256 := (y 1).isLt
  unfold putRows
  by_cases hr : (y 0).val / 512 = (i 2).val
  · rw [if_pos hr]
    have key : ∀ h' : Fin 2, h'.val = (y 1).val / 128 → T h' (ix2 ⟨(y 0).val % 512, Nat.mod_lt _ (by decide)⟩ ⟨(y 1).val % 128, Nat.mod_lt _ (by decide)⟩)
        = T ⟨(y 1).val / 128, by omega⟩ (ix2 ⟨(y 0).val % 512, Nat.mod_lt _ (by decide)⟩ ⟨(y 1).val % 128, Nat.mod_lt _ (by decide)⟩) := by
      intro h' e
      rw [Fin.ext (b := ⟨(y 1).val / 128, by omega⟩) e]
    by_cases hl : (y 1).val < 128
    · refine (View.read_writes_cons_unit_of_not_mem (size := S512x128.size) v f _ _ _ y (dqOff_eq i 1) 1 (.inl hl)).trans ?_
      refine (View.read_writes_cons_unit_of_mem (size := S512x128.size) v f _ _ _ y (ix2 ⟨(y 0).val % 512, Nat.mod_lt _ (by decide)⟩ ⟨(y 1).val % 128, Nat.mod_lt _ (by decide)⟩) (dqOff_eq i 0) ?_).trans
        (key 0 (by show 0 = (y 1).val / 128; omega))
      intro a
      match a with
      | ⟨0, _⟩ => show (y 0).val = 512 * (i 2).val + (y 0).val % 512; omega
      | ⟨1, _⟩ => show (y 1).val = 128 * 0 + (y 1).val % 128; omega
    · refine (View.read_writes_cons_unit_of_mem (size := S512x128.size) v f _ _ _ y (ix2 ⟨(y 0).val % 512, Nat.mod_lt _ (by decide)⟩ ⟨(y 1).val % 128, Nat.mod_lt _ (by decide)⟩) (dqOff_eq i 1) ?_).trans
        (key 1 (by show 1 = (y 1).val / 128; omega))
      intro a
      match a with
      | ⟨0, _⟩ => show (y 0).val = 512 * (i 2).val + (y 0).val % 512; omega
      | ⟨1, _⟩ => show (y 1).val = 128 * 1 + (y 1).val % 128; omega
  · rw [if_neg hr]
    have ho : ∀ h, (y 0).val < (![512 * (i 2).val, 128 * h] : Fin 2 → ℕ) 0 ∨ (![512 * (i 2).val, 128 * h] : Fin 2 → ℕ) 0 + S512x128.size 0 ≤ (y 0).val := fun h => by
      show (y 0).val < 512 * (i 2).val ∨ 512 * (i 2).val + 512 ≤ (y 0).val; omega
    exact (View.read_writes_cons_unit_of_not_mem (size := S512x128.size) v f _ _ _ y (dqOff_eq i 1) 0 (ho _)).trans
      (View.read_writes_cons_unit_of_not_mem (size := S512x128.size) v f _ _ _ y (dqOff_eq i 0) 0 (ho _))

end ReadRows

/-! ## The three output blocks after a point, from the blocks before it -/

namespace Blocks

variable (B : Blocks F)

def dvNew (old : Vec F S256x4096 .f32) : Vec F S256x4096 .f32 := ofTiles fun h c => B.dvTile h c (View.ld old (tileRect h c))
def dkNew (old : Vec F S256x4096 .f32) : Vec F S256x4096 .f32 := ofTiles fun h c => B.dkTile h c (View.ld old (tileRect h c))
def dqNew (i : grid0.Coords) (old : Vec F S8192x256 .f32) : Vec F S8192x256 .f32 := putRows i (fun h => B.dqRows h (View.ld old (rowsRect i h))) old

end Blocks

end Cert.KernelIdeal.Bwd

end
-- ==== Proof.Softmax.lean ====
/-
  The gradient of one head of softmax attention over the real numbers, and what a kernel that works from saved row
  sums computes of it. Nothing here mentions a program.
-/
module

public import Idealize.ShloMosaic.PureOps.Ideal.Laws
public import Mathlib.Analysis.SpecialFunctions.Log.Basic
public import Mathlib.Algebra.BigOperators.Field
public import Mathlib.Tactic.FieldSimp
public import Mathlib.Tactic.Ring

@[expose] public section

noncomputable section

namespace Cert.Softmax

open Finset Idealize.ShloMosaic

/-! ## Real numbers among the extended ones -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The maximum of finitely many reals, started at −∞, is a real. -/
theorem fold_max_coe {n : ℕ} (hn : 0 < n) (f : Fin n → ℝ) : ∃ M : ℝ, univ.fold max (⊥ : EReal) (fun k => (f k : EReal)) = M := by
  haveI : Nonempty (Fin n) := ⟨⟨0, hn⟩⟩
  obtain ⟨i, _, hi⟩ := exists_mem_eq_sup (univ : Finset (Fin n)) univ_nonempty (fun k => (f k : EReal))
  exact ⟨f i, hi⟩

/-- The real a finite extended real is. -/
theorem coe_of_abs_lt {x : EReal} (h : x ≠ ⊥ ∧ x ≠ ⊤) : ((x.toReal : ℝ) : EReal) = x := EReal.coe_toReal h.2 h.1

theorem div_coe_coe (x : ℝ) {y : ℝ} (h : y ≠ 0) : Ideal.div (x : EReal) (y : EReal) = ((x / y : ℝ) : EReal) := by
  rw [Ideal.div_coe h, ← EReal.coe_mul]; congr 1; ring

theorem log_coe_pos {y : ℝ} (h : 0 < y) : Ideal.log (y : EReal) = (Real.log y : EReal) := by
  rw [Ideal.log_coe, if_neg (not_le.mpr h)]

/-- A sum over `n * m` terms, block after block. -/
theorem sum_range_step (f : ℕ → ℝ) (n m : ℕ) : ∑ a ∈ range (m * (n + 1)), f a = ∑ a ∈ range (m * n), f a + ∑ r ∈ range m, f (m * n + r) := by
  rw [Nat.mul_succ, sum_range_add]

theorem sum_range_tiles (f : ℕ → ℝ) (m n : ℕ) : ∑ a ∈ range (m * n), f a = ∑ i ∈ range n, ∑ r ∈ range m, f (m * i + r) := by
  induction n with
  | zero => simp
  | succ n ih => rw [sum_range_step, ih, sum_range_succ]

/-- Terms that vanish past `n` do not count. -/
theorem sum_range_pad (f : ℕ → ℝ) {n N : ℕ} (h : n ≤ N) (hf : ∀ d, n ≤ d → f d = 0) : ∑ d ∈ range N, f d = ∑ d ∈ range n, f d := by
  obtain ⟨m, rfl⟩ := Nat.exists_eq_add_of_le h
  rw [sum_range_add, sum_eq_zero (s := range m) fun d _ => hf _ (Nat.le_add_right _ _), add_zero]

/-! ## One head -/

/-- One head: scaled queries, keys, values and the output's gradient by row and lane, `n` rows of keys, `w` lanes of
    queries and keys, `u` lanes of values. -/
structure Head where
  n : ℕ
  w : ℕ
  u : ℕ
  hn : 0 < n
  q : ℕ → ℕ → ℝ
  k : ℕ → ℕ → ℝ
  v : ℕ → ℕ → ℝ
  dy : ℕ → ℕ → ℝ

namespace Head

variable (H : Head)

def s (a b : ℕ) : ℝ := ∑ d ∈ range H.w, H.q a d * H.k b d
def z (a : ℕ) : ℝ := ∑ b ∈ range H.n, Real.exp (H.s a b)
/-- The softmax of row `a` at key `b`. -/
def p (a b : ℕ) : ℝ := Real.exp (H.s a b) / H.z a
/-- The gradient with respect to the softmax. -/
def dp (a b : ℕ) : ℝ := ∑ d ∈ range H.u, H.dy a d * H.v b d
/-- The gradient with respect to the scores. -/
def ds (a b : ℕ) : ℝ := H.p a b * (H.dp a b - ∑ b' ∈ range H.n, H.p a b' * H.dp a b')

theorem z_pos (a : ℕ) : 0 < H.z a := sum_pos (fun _ _ => Real.exp_pos _) ⟨0, mem_range.mpr H.hn⟩

/-- The row sum of the shifted exponentials. -/
def zs (M : ℝ) (a : ℕ) : ℝ := ∑ b ∈ range H.n, Real.exp (H.s a b - M)

theorem zs_pos (M : ℝ) (a : ℕ) : 0 < H.zs M a := sum_pos (fun _ _ => Real.exp_pos _) ⟨0, mem_range.mpr H.hn⟩

theorem zs_eq (M : ℝ) (a : ℕ) : H.zs M a = H.z a * Real.exp (-M) := by
  rw [zs, z, sum_mul]
  exact sum_congr rfl fun b _ => by rw [← Real.exp_add, sub_eq_add_neg]

/-- A shift of the scores leaves the softmax. -/
theorem shift (M : ℝ) (a b : ℕ) : Real.exp (H.s a b - M) / H.zs M a = H.p a b := by
  rw [zs_eq, p, sub_eq_add_neg, Real.exp_add, mul_div_mul_right _ _ (Real.exp_pos _).ne']

/-- The softmax from the logarithm of the row sum. -/
theorem saved (M : ℝ) (a b : ℕ) : Real.exp (H.s a b - (M + Real.log (H.zs M a))) = H.p a b := by
  rw [← shift H M, ← sub_sub, Real.exp_sub, Real.exp_log (H.zs_pos M a)]

/-- The output against its gradient is the softmax against its gradient. -/
theorem delta (a : ℕ) : ∑ d ∈ range H.u, H.dy a d * (∑ b ∈ range H.n, H.p a b * H.v b d) = ∑ b ∈ range H.n, H.p a b * H.dp a b := by
  simp only [dp, mul_sum]
  rw [sum_comm]
  exact sum_congr rfl fun b _ => sum_congr rfl fun d _ => by ring

/-- The derivative of the quotient `e / l`, as differentiation rules give it. -/
theorem quotient (M : ℝ) (a b : ℕ) :
    (H.dp a b / H.zs M a + -(∑ b' ∈ range H.n, H.dp a b' * (1 / (H.zs M a * H.zs M a)) * Real.exp (H.s a b' - M))) * Real.exp (H.s a b - M) = H.ds a b := by
  have hz := (H.zs_pos M a).ne'
  have e : ∑ b' ∈ range H.n, H.dp a b' * (1 / (H.zs M a * H.zs M a)) * Real.exp (H.s a b' - M) = (∑ b' ∈ range H.n, H.p a b' * H.dp a b') / H.zs M a := by
    rw [sum_div]
    refine sum_congr rfl fun b' _ => ?_
    rw [← shift H M]; field_simp
  rw [e, ds, ← shift H M a b]
  field_simp
  ring

end Head

end Cert.Softmax

end
-- ==== Proof.Tiles.lean ====
/-
  The tiles of the attention gradient's body over the real numbers: where the blocks it is given hold rows of real
  arrays, each tile it adds is a sum of products of those rows.
-/
module

public import proofs.«01_k».proof.Proof.Step
public import proofs.«01_k».proof.Proof.Softmax
public import Idealize.ShloMosaic.Lib.Pointwise

@[expose] public section

set_option maxRecDepth 16384

noncomputable section

namespace Cert.KernelIdeal.Bwd

open Idealize.ShloMosaic Idealize.ShloMosaic.TcCoe
open Cert.KernelIdeal.Gen Cert.Softmax

/-! ## The payloads at an index -/

theorem pay24_at (q dy : FVec Ideal S512x128 .bf16) (y : FVec Ideal S512x128 .f32) (l : FVec Ideal S1x1x512 .f32) (k v : FVec Ideal S256x128 .bf16)
    (r : Fin 512) (b : Fin 256) :
    k0_pay24 (F := Ideal) (k0_pay6 q) (k0_pay7 dy) (k0_pay8 dy y) (k0_pay9 l) k v (ix2 r b)
      = Ideal.exp (∑ x, q (ix2 r x) * k (ix2 b x) - l (ix3 0 0 r)) * (∑ x, dy (ix2 r x) * v (ix2 b x) - ∑ x, dy (ix2 r x) * y (ix2 r x)) := by
  pointwise [k0_pay24, k0_pay23, k0_pay6, k0_pay7, k0_pay8, k0_pay9]

theorem pay25_at (q dy : FVec Ideal S512x128 .bf16) (l : FVec Ideal S1x1x512 .f32) (k : FVec Ideal S256x128 .bf16) (old : FVec Ideal S128x256 .f32)
    (d : Fin 128) (b : Fin 256) :
    k0_pay25 (F := Ideal) (k0_pay6 q) (k0_pay9 l) (k0_pay11 dy) k old (ix2 d b)
      = old (ix2 d b) + ∑ x, dy (ix2 x d) * Ideal.exp (∑ x_1, q (ix2 x x_1) * k (ix2 b x_1) - l (ix3 0 0 x)) := by
  pointwise [k0_pay25, k0_pay23, k0_pay6, k0_pay7, k0_pay9, k0_pay11]

theorem pay26_at (q : FVec Ideal S512x128 .bf16) (s : FVec Ideal S512x256 .bf16) (old : FVec Ideal S128x256 .f32) (d : Fin 128) (b : Fin 256) :
    k0_pay26 (F := Ideal) (k0_pay10 q) s old (ix2 d b) = old (ix2 d b) + ∑ x, q (ix2 x d) * s (ix2 x b) := by
  pointwise [k0_pay26, k0_pay10, k0_pay6]

theorem pay27_at (acc : FVec Ideal S512x128 .f32) (s : FVec Ideal S512x256 .bf16) (k : FVec Ideal S256x128 .bf16) (r : Fin 512) (d : Fin 128) :
    k0_pay27 (F := Ideal) acc s k (ix2 r d) = acc (ix2 r d) + ∑ x, s (ix2 r x) * k (ix2 x d) := by
  pointwise [k0_pay27]

theorem pay2_at (acc : FVec Ideal S512x128 .f32) (old : FVec Ideal S512x128 .f32) (r : Fin 512) (d : Fin 128) :
    k0_pay2 (F := Ideal) acc old (ix2 r d) = old (ix2 r d) + acc (ix2 r d) := by
  pointwise [k0_pay2]

theorem pay19_at (r : Fin 512) (d : Fin 128) : k0_pay19 (F := Ideal) (ix2 r d) = 0 := by
  pointwise [k0_pay19]

/-! ## Rows of real arrays -/

/-- The arrays the call is given, as real numbers by row and lane (the log-sums by head and row). -/
structure Rows where
  q : ℕ → ℕ → ℝ
  k : ℕ → ℕ → ℝ
  v : ℕ → ℕ → ℝ
  dy : ℕ → ℕ → ℝ
  y : ℕ → ℕ → ℝ
  lse : ℕ → ℕ → ℝ

namespace Rows

variable (X : Rows)

/-- The softmax of head `h`, from the saved log-sum. -/
def p (h a b : ℕ) : ℝ := Real.exp (∑ d ∈ Finset.range 128, X.q a (128 * h + d) * X.k b (128 * h + d) - X.lse h a)

/-- The gradient of head `h`'s scores. -/
def ds (h a b : ℕ) : ℝ := X.p h a b * (∑ d ∈ Finset.range 128, X.dy a (128 * h + d) * X.v b (128 * h + d)
  - ∑ d ∈ Finset.range 128, X.dy a (128 * h + d) * X.y a (128 * h + d))

end Rows

/-- The blocks hold the rows of `X` that point `(g, j, i)` of the grid is given. -/
structure Blocks.Holds (B : Blocks Ideal) (X : Rows) (g j i : ℕ) : Prop where
  q : ∀ (a : Fin 512) (l : Fin 256), B.q (ix2 a l) = ((X.q (512 * i + a.val) (256 * g + l.val) : ℝ) : EReal)
  k : ∀ (b : Fin 4096) (l : Fin 256), B.k (ix2 b l) = ((X.k (4096 * j + b.val) (256 * g + l.val) : ℝ) : EReal)
  v : ∀ (b : Fin 4096) (l : Fin 256), B.v (ix2 b l) = ((X.v (4096 * j + b.val) (256 * g + l.val) : ℝ) : EReal)
  dy : ∀ (a : Fin 512) (l : Fin 256), B.dy (ix2 a l) = ((X.dy (512 * i + a.val) (256 * g + l.val) : ℝ) : EReal)
  y : ∀ (a : Fin 512) (l : Fin 256), B.y (ix2 a l) = ((X.y (512 * i + a.val) (256 * g + l.val) : ℝ) : EReal)
  lse : ∀ (h : Fin 2) (a : Fin 512), B.lse (ix3 h 0 a) = ((X.lse (2 * g + h.val) (512 * i + a.val) : ℝ) : EReal)

namespace Blocks.Holds

variable {B : Blocks Ideal} {X : Rows} {g j i : ℕ} (H : B.Holds X g j i)
include H

theorem qh_at (h : Fin 2) (a : Fin 512) (d : Fin 128) : B.qh h (ix2 a d) = ((X.q (512 * i + a.val) (128 * (2 * g + h.val) + d.val) : ℝ) : EReal) := by
  have hh := h.isLt
  unfold Blocks.qh
  pointwise
  refine (H.q _ _).trans ?_
  congr 2; show 256 * g + (128 * h.val + d.val) = _; omega

theorem dyh_at (h : Fin 2) (a : Fin 512) (d : Fin 128) : B.dyh h (ix2 a d) = ((X.dy (512 * i + a.val) (128 * (2 * g + h.val) + d.val) : ℝ) : EReal) := by
  have hh := h.isLt
  unfold Blocks.dyh
  pointwise
  refine (H.dy _ _).trans ?_
  congr 2; show 256 * g + (128 * h.val + d.val) = _; omega

theorem yh_at (h : Fin 2) (a : Fin 512) (d : Fin 128) : B.yh h (ix2 a d) = ((X.y (512 * i + a.val) (128 * (2 * g + h.val) + d.val) : ℝ) : EReal) := by
  have hh := h.isLt
  unfold Blocks.yh
  pointwise
  refine (H.y _ _).trans ?_
  congr 2; show 256 * g + (128 * h.val + d.val) = _; omega

theorem lseh_at (h : Fin 2) (a : Fin 512) : B.lseh h (ix3 0 0 a) = ((X.lse (2 * g + h.val) (512 * i + a.val) : ℝ) : EReal) := by
  unfold Blocks.lseh
  pointwise
  exact H.lse _ _

theorem kc_at (h : Fin 2) (c : Fin 16) (b : Fin 256) (d : Fin 128) :
    B.kc h c (ix2 b d) = ((X.k (4096 * j + 256 * c.val + b.val) (128 * (2 * g + h.val) + d.val) : ℝ) : EReal) := by
  have hh := h.isLt
  unfold Blocks.kc
  pointwise
  refine (H.k _ _).trans ?_
  congr 2
  · show 4096 * j + (256 * c.val + b.val) = _; omega
  · show 256 * g + (128 * h.val + d.val) = _; omega

theorem vc_at (h : Fin 2) (c : Fin 16) (b : Fin 256) (d : Fin 128) :
    B.vc h c (ix2 b d) = ((X.v (4096 * j + 256 * c.val + b.val) (128 * (2 * g + h.val) + d.val) : ℝ) : EReal) := by
  have hh := h.isLt
  unfold Blocks.vc
  pointwise
  refine (H.v _ _).trans ?_
  congr 2
  · show 4096 * j + (256 * c.val + b.val) = _; omega
  · show 256 * g + (128 * h.val + d.val) = _; omega

theorem ds_at (h : Fin 2) (c : Fin 16) (r : Fin 512) (b : Fin 256) :
    B.ds h c (ix2 r b) = ((X.ds (2 * g + h.val) (512 * i + r.val) (4096 * j + 256 * c.val + b.val) : ℝ) : EReal) := by
  unfold Blocks.ds
  rw [pay24_at]
  simp only [H.qh_at, H.dyh_at, H.yh_at, H.lseh_at, H.kc_at, H.vc_at, ← EReal.coe_mul, ← coe_sum, ← EReal.coe_sub, Ideal.exp_coe]
  simp only [Rows.ds, Rows.p, Finset.sum_range]

theorem dv_at (h : Fin 2) (c : Fin 16) (old : Vec Ideal S128x256 .f32) (d : Fin 128) (b : Fin 256) (x : ℝ) (hx : old (ix2 d b) = (x : EReal)) :
    B.dvTile h c old (ix2 d b) = ((x + ∑ r ∈ Finset.range 512, X.dy (512 * i + r) (128 * (2 * g + h.val) + d.val)
      * X.p (2 * g + h.val) (512 * i + r) (4096 * j + 256 * c.val + b.val) : ℝ) : EReal) := by
  unfold Blocks.dvTile
  rw [pay25_at, hx]
  simp only [H.qh_at, H.dyh_at, H.lseh_at, H.kc_at, ← EReal.coe_mul, ← coe_sum, ← EReal.coe_sub, Ideal.exp_coe, ← EReal.coe_add]
  simp only [Rows.p, Finset.sum_range]

theorem dk_at (h : Fin 2) (c : Fin 16) (old : Vec Ideal S128x256 .f32) (d : Fin 128) (b : Fin 256) (x : ℝ) (hx : old (ix2 d b) = (x : EReal)) :
    B.dkTile h c old (ix2 d b) = ((x + ∑ r ∈ Finset.range 512, X.q (512 * i + r) (128 * (2 * g + h.val) + d.val)
      * X.ds (2 * g + h.val) (512 * i + r) (4096 * j + 256 * c.val + b.val) : ℝ) : EReal) := by
  unfold Blocks.dkTile
  rw [pay26_at, hx]
  simp only [H.qh_at, H.ds_at, ← EReal.coe_mul, ← coe_sum, ← EReal.coe_add]
  simp only [Finset.sum_range]

/-- The chunks of a list, one after another. -/
theorem dqSum_at (h : Fin 2) (r : Fin 512) (d : Fin 128) : ∀ (cs : List (Fin 16)) (acc : FVec Ideal S512x128 .f32) (x : ℝ), acc (ix2 r d) = (x : EReal) →
    B.dqSum h cs acc (ix2 r d) = ((x + (cs.map fun c => ∑ b ∈ Finset.range 256, X.ds (2 * g + h.val) (512 * i + r.val) (4096 * j + (256 * c.val + b))
      * X.k (4096 * j + (256 * c.val + b)) (128 * (2 * g + h.val) + d.val)).sum : ℝ) : EReal)
  | [], acc, x, hx => by simpa [Blocks.dqSum] using hx
  | c :: cs, acc, x, hx => by
    have e : k0_pay27 (F := Ideal) acc (B.ds h c) (B.kc h c) (ix2 r d) = ((x + ∑ b ∈ Finset.range 256, X.ds (2 * g + h.val) (512 * i + r.val) (4096 * j + (256 * c.val + b))
        * X.k (4096 * j + (256 * c.val + b)) (128 * (2 * g + h.val) + d.val) : ℝ) : EReal) := by
      rw [pay27_at, hx]
      simp only [H.ds_at, H.kc_at, ← EReal.coe_mul, ← coe_sum, ← EReal.coe_add]
      simp only [Finset.sum_range, add_assoc]
    unfold Blocks.dqSum
    rw [dqSum_at h r d cs _ _ e, List.map_cons, List.sum_cons, add_assoc]

theorem dq_at (h : Fin 2) (old : Vec Ideal S512x128 .f32) (r : Fin 512) (d : Fin 128) (x : ℝ) (hx : old (ix2 r d) = (x : EReal)) :
    B.dqRows h old (ix2 r d) = ((x + ∑ b ∈ Finset.range 4096, X.ds (2 * g + h.val) (512 * i + r.val) (4096 * j + b)
      * X.k (4096 * j + b) (128 * (2 * g + h.val) + d.val) : ℝ) : EReal) := by
  unfold Blocks.dqRows
  rw [pay2_at, hx, H.dqSum_at h r d _ _ 0 (by rw [pay19_at]; rfl), ← EReal.coe_add, zero_add,
    sum_range_tiles _ 256 16, Finset.sum_range, ← List.sum_ofFn]
  rfl

end Blocks.Holds

end Cert.KernelIdeal.Bwd

end
-- ==== Proof.Body.lean ====
/-
  One run of the attention gradient's body, at any point of the grid and for any values: it reads its six blocks and
  leaves in each of its three output blocks what Step.lean computes from the block's contents, which the body clears
  first at the points where a block starts.
-/
module

public import proofs.«01_k».proof.Proof.Step

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The body clears the query gradient: the first point of a group of heads. -/
abbrev startsGroup (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1

/-- The body clears the key and value gradients: the first point of a block of keys. -/
abbrev startsKeys (i : grid0.Coords) : Prop :=
  Scalar.cmpi .ne (Scalar.extui (Scalar.cmpi .eq (BitVec.ofNat 32 (i 2).val) 0#32)) 0#32 = 1#1

/-- A whole rank-2 buffer filled with `Z` under a condition. -/
abbrev filled {d : Fin 2 → ℕ} {e : EltTy} {sp : Space} (v : View sig .tc sp ⟨2, d⟩ e) (f : v.ty.Contents (Elt F)) (P : Prop) [Decidable P]
    (inb : ∀ a, (![0, 0] : Fin 2 → ℕ) a + d a ≤ d a) (Z : (⟨2, d⟩ : Shape).Idx → Elt F e) : v.ty.Contents (Elt F) :=
  if _h : P then v.writes (Elt F) f [⟨Rect.unit ![0, 0] d inb, Z⟩] else f

/-- It reads the filling under that condition. -/
theorem read_filled {d : Fin 2 → ℕ} {e : EltTy} {sp : Space} (v : View sig .tc sp ⟨2, d⟩ e) (f : v.ty.Contents (Elt F)) (P : Prop) [Decidable P]
    (inb : ∀ a, (![0, 0] : Fin 2 → ℕ) a + d a ≤ d a) (Z : (⟨2, d⟩ : Shape).Idx → Elt F e) :
    v.read (Elt F) (filled v f P inb Z) = if P then Z else v.read (Elt F) f := by
  unfold filled
  by_cases h : P
  · rw [dif_pos h, if_pos h]
    funext y
    refine View.read_writes_cons_unit_of_mem v f inb Z [] y y rfl fun a => ?_
    match a with
    | ⟨0, _⟩ => exact (Nat.zero_add _).symm
    | ⟨1, _⟩ => exact (Nat.zero_add _).symm
  · rw [dif_neg h, if_neg h]

set_option maxHeartbeats 4000000 in
/-- THE BODY, at a point `i` and on any staging buffers. -/
theorem body (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x256 .bf16) (harg6 : arg6.IsWhole)
    (arg7 : Memref sig .tc .vmem S512x256 .f32) (harg7 : arg7.IsWhole) (arg8 : Memref sig .tc .vmem S2x1x512 .f32) (harg8 : arg8.IsWhole) (arg9 : Memref sig .tc .vmem S8192x256 .f32) (harg9 : arg9.IsWhole)
    (arg10 : Memref sig .tc .vmem S256x4096 .f32) (harg10 : arg10.IsWhole) (arg11 : Memref sig .tc .vmem S256x4096 .f32) (harg11 : arg11.IsWhole)
    (B : Blocks F) (d6 : Vec F S8192x256 .f32) (d7 d8 : Vec F S256x4096 .f32) (E : Set ℕ) (K : PUnit → sProp 𝕄) :
    iprop(owns (c : Thread nD τ) arg3 fullShare B.q ∗ owns (c : Thread nD τ) arg4 fullShare B.k ∗ owns (c : Thread nD τ) arg5 fullShare B.v
        ∗ owns (c : Thread nD τ) arg6 fullShare B.dy ∗ owns (c : Thread nD τ) arg7 fullShare B.y ∗ owns (c : Thread nD τ) arg8 fullShare B.lse
        ∗ owns (c : Thread nD τ) arg9 fullShare d6 ∗ owns (c : Thread nD τ) arg10 fullShare d7 ∗ owns (c : Thread nD τ) arg11 fullShare d8
        ∗ (iprop(owns (c : Thread nD τ) arg3 fullShare B.q ∗ owns (c : Thread nD τ) arg4 fullShare B.k ∗ owns (c : Thread nD τ) arg5 fullShare B.v
            ∗ owns (c : Thread nD τ) arg6 fullShare B.dy ∗ owns (c : Thread nD τ) arg7 fullShare B.y ∗ owns (c : Thread nD τ) arg8 fullShare B.lse
            ∗ owns (c : Thread nD τ) arg9 fullShare (B.dqNew i (if startsGroup i then k0_pay3 else d6))
            ∗ owns (c : Thread nD τ) arg10 fullShare (B.dkNew (if startsKeys i then k0_pay4 else d7))
            ∗ owns (c : Thread nD τ) arg11 fullShare (B.dvNew (if startsKeys i then k0_pay5 else d8))) -∗ K ⟨⟩))
      ⊢ wp frame (wpE (defs₀ (F := F)) Variants.none c none) E (cc0_attn_bwd_b i arg3 harg3 arg4 harg4 arg5 harg5 arg6 harg6 arg7 harg7 arg8 harg8 arg9 harg9 arg10 harg10 arg11 harg11) K := by
  obtain ⟨x0, x1, x2, x3, x4, x5⟩ := B
  simp only [cc0_attn_bwd_b_eq_skeleton]; unfold cc0_attn_bwd_b_skel
  simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  dsimp only at hf0 hf1 hf2 hf3 hf4 hf5
  subst hf0 hf1 hf2 hf3 hf4 hf5 hf6 hf7 hf8
  sl_exec
  sl_step
  iapply Hk
  isplitl [H0]
  · iexists _; isplitr; swap
    · iexact H0
    ipureintro; rfl
  isplitl [H1]
  · iexists _; isplitr; swap
    · iexact H1
    ipureintro; rfl
  isplitl [H2]
  · iexists _; isplitr; swap
    · iexact H2
    ipureintro; rfl
  isplitl [H3]
  · iexists _; isplitr; swap
    · iexact H3
    ipureintro; rfl
  isplitl [H4]
  · iexists _; isplitr; swap
    · iexact H4
    ipureintro; rfl
  isplitl [H5]
  · iexists _; isplitr; swap
    · iexact H5
    ipureintro; rfl
  isplitl [H6]
  · iexists _; isplitr; swap
    · iexact H6
    ipureintro
    refine (read_rows arg9.view (filled arg9.view f6 (startsGroup i) inb_S8192x256_S8192x256_0_0 k0_pay3) i
      (fun h => Blocks.dqRows ⟨arg3.view.read (Elt F) f0, arg4.view.read (Elt F) f1, arg5.view.read (Elt F) f2, arg6.view.read (Elt F) f3, arg7.view.read (Elt F) f4, arg8.view.read (Elt F) f5⟩ h (View.ld (arg9.view.read (Elt F) (filled arg9.view f6 (startsGroup i) inb_S8192x256_S8192x256_0_0 k0_pay3)) (rowsRect i h)))).trans ?_
    rw [read_filled]; rfl
  isplitl [H7]
  · iexists _; isplitr; swap
    · iexact H7
    ipureintro
    refine (read_tiles arg10.view (filled arg10.view f7 (startsKeys i) inb_S256x4096_S256x4096_0_0 k0_pay4)
      (fun h c => Blocks.dkTile ⟨arg3.view.read (Elt F) f0, arg4.view.read (Elt F) f1, arg5.view.read (Elt F) f2, arg6.view.read (Elt F) f3, arg7.view.read (Elt F) f4, arg8.view.read (Elt F) f5⟩ h c (View.ld (arg10.view.read (Elt F) (filled arg10.view f7 (startsKeys i) inb_S256x4096_S256x4096_0_0 k0_pay4)) (tileRect h c)))).trans ?_
    rw [read_filled]; rfl
  · iexists _; isplitr; swap
    · iexact H8
    ipureintro
    refine (read_tiles arg11.view (filled arg11.view f8 (startsKeys i) inb_S256x4096_S256x4096_0_0 k0_pay5)
      (fun h c => Blocks.dvTile ⟨arg3.view.read (Elt F) f0, arg4.view.read (Elt F) f1, arg5.view.read (Elt F) f2, arg6.view.read (Elt F) f3, arg7.view.read (Elt F) f4, arg8.view.read (Elt F) f5⟩ h c (View.ld (arg11.view.read (Elt F) (filled arg11.view f8 (startsKeys i) inb_S256x4096_S256x4096_0_0 k0_pay5)) (tileRect h c)))).trans ?_
    rw [read_filled]; rfl

end Cert.KernelIdeal.Bwd

end
-- ==== Proof.Run.lean ====
/-
  The run of the attention gradient: the contents of the three output blocks point by point, the body's obligation at
  every point, the run of the program, and its frame.
-/
module

public import proofs.«01_k».proof.Proof.Body
public import Idealize.ShloMosaic.Lib.Claim

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The points at which a block starts -/

theorem coords0 (t : Fin cfg0.N) : (grid0.coords t 0).val = t.val / 32 % 2 := Pipeline.Grid.coords_val t 0 (by decide) rfl
theorem coords1 (t : Fin cfg0.N) : (grid0.coords t 1).val = t.val / 16 % 2 := Pipeline.Grid.coords_val t 1 (by decide) rfl
theorem coords2 (t : Fin cfg0.N) : (grid0.coords t 2).val = t.val / 1 % 16 := Pipeline.Grid.coords_val t 2 (by decide) rfl

theorem startsGroup_iff (t : Fin cfg0.N) : startsGroup (grid0.coords t) ↔ t.val % 32 = 0 := by
  have ht : t.val < 64 := Nat.lt_of_lt_of_eq t.isLt N_0
  simp only [startsGroup, coords1, coords2]
  word_cmp

theorem startsKeys_iff (t : Fin cfg0.N) : startsKeys (grid0.coords t) ↔ t.val % 16 = 0 := by
  have ht : t.val < 64 := Nat.lt_of_lt_of_eq t.isLt N_0
  simp only [startsKeys, coords2]
  word_cmp

/-! ## The proof data -/

variable (m : (ℓ : Loc nD τ sig) → Buf (Elt F) ℓ) (ρ : Dev nD → PrngReg)

/-- The six input blocks of point `t` on device `c`. -/
def blocks (c : Dev nD) (t : Fin cfg0.N) : Blocks F :=
  ⟨iblk m c 0 t, iblk m c 1 t, iblk m c 2 t, iblk m c 3 t, iblk m c 4 t, iblk m c 5 t⟩

/-- The query gradient's block after point `n`. -/
def dqAt (c : Dev nD) : (n : ℕ) → n < cfg0.N → Vec F S8192x256 .f32
  | 0, h => (blocks m c ⟨0, h⟩).dqNew (grid0.coords ⟨0, h⟩) k0_pay3
  | n + 1, h => (blocks m c ⟨n + 1, h⟩).dqNew (grid0.coords ⟨n + 1, h⟩)
      (if startsGroup (grid0.coords ⟨n + 1, h⟩) then k0_pay3 else dqAt c n (Nat.lt_of_succ_lt h))

/-- The key gradient's block after point `n`. -/
def dkAt (c : Dev nD) : (n : ℕ) → n < cfg0.N → Vec F S256x4096 .f32
  | 0, h => (blocks m c ⟨0, h⟩).dkNew k0_pay4
  | n + 1, h => (blocks m c ⟨n + 1, h⟩).dkNew (if startsKeys (grid0.coords ⟨n + 1, h⟩) then k0_pay4 else dkAt c n (Nat.lt_of_succ_lt h))

/-- The value gradient's block after point `n`. -/
def dvAt (c : Dev nD) : (n : ℕ) → n < cfg0.N → Vec F S256x4096 .f32
  | 0, h => (blocks m c ⟨0, h⟩).dvNew k0_pay5
  | n + 1, h => (blocks m c ⟨n + 1, h⟩).dvNew (if startsKeys (grid0.coords ⟨n + 1, h⟩) then k0_pay5 else dvAt c n (Nat.lt_of_succ_lt h))

/-- The pipeline's proof data on device `c`: the arrays as the region finds them; after a point each input's buffer at
    its block and each output's at its contents after the point; the rest of the region untouched, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t.val t.isLt
    | ⟨7, _⟩ => dkAt m c t.val t.isLt
    | ⟨8, _⟩ => dvAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dqAt m c t.val t.isLt := by dsimp only [dats]
theorem after_7 (c : Dev nD) (t : Fin cfg0.N) : (dats m 0 c).after 7 t = dkAt m c t.val t.isLt := by dsimp only [dats]
theorem after_8 (c : Dev nD) (t : Fin cfg0.N) : (dats m 0 c).after 8 t = dvAt m c t.val t.isLt := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- An output that is not written back at a point reaches the next point as the body left it. -/
theorem before_kept (c : Dev nD) (w : Fin cfg0.W) (hw : (cfg0.win w).isOut = true) (t : Fin cfg0.N) (ht : t.val ≠ 0)
    (hfl : (cfg0.win w).flush ⟨t.val - 1, Nat.lt_of_le_of_lt (Nat.sub_le _ _) t.isLt⟩ = false)
    (hclip : ∀ (i : cfg0.grid.Coords) a, (cfg0.win w).clip i a = none) (d) :
    (dats m 0 c).before w t d = (dats m 0 c).after w ⟨t.val - 1, Nat.lt_of_le_of_lt (Nat.sub_le _ _) t.isLt⟩ :=
  (dats m 0 c).before_out_kept w hw t ht hfl (fun _ => rfl) hclip d

theorem dq_step (c : Dev nD) (t : Fin cfg0.N) (d) :
    (blocks m c t).dqNew (grid0.coords t) (if startsGroup (grid0.coords t) then k0_pay3 else (dats m 0 c).before 6 t d) = dqAt m c t.val t.isLt := by
  obtain ⟨n, hn⟩ := t
  match n, hn with
  | 0, hn => rw [if_pos ((startsGroup_iff _).mpr rfl)]; rfl
  | n + 1, hn =>
    by_cases h : startsGroup (grid0.coords ⟨n + 1, hn⟩)
    · rw [if_pos h]; show _ = Blocks.dqNew _ _ (if _ then _ else _); rw [if_pos h]
    · have e : (n + 1) % 32 ≠ 0 := fun e => h ((startsGroup_iff _).mpr e)
      rw [before_kept m c 6 rfl ⟨n + 1, hn⟩ (Nat.succ_ne_zero n)
        (Bool.eq_false_iff.mpr fun hf => e (by have := (flush0_6 _).mp hf; simp only [Nat.add_sub_cancel] at this; omega)) (fun _ _ => rfl) d, after_6]
      rfl

theorem dk_step (c : Dev nD) (t : Fin cfg0.N) (d) :
    (blocks m c t).dkNew (if startsKeys (grid0.coords t) then k0_pay4 else (dats m 0 c).before 7 t d) = dkAt m c t.val t.isLt := by
  obtain ⟨n, hn⟩ := t
  match n, hn with
  | 0, hn => rw [if_pos ((startsKeys_iff _).mpr rfl)]; rfl
  | n + 1, hn =>
    by_cases h : startsKeys (grid0.coords ⟨n + 1, hn⟩)
    · rw [if_pos h]; show _ = Blocks.dkNew _ (if _ then _ else _); rw [if_pos h]
    · have e : (n + 1) % 16 ≠ 0 := fun e => h ((startsKeys_iff _).mpr e)
      rw [before_kept m c 7 rfl ⟨n + 1, hn⟩ (Nat.succ_ne_zero n)
        (Bool.eq_false_iff.mpr fun hf => e (by have := (flush0_7 _).mp hf; simp only [Nat.add_sub_cancel] at this; omega)) (fun _ _ => rfl) d, after_7]
      rfl

theorem dv_step (c : Dev nD) (t : Fin cfg0.N) (d) :
    (blocks m c t).dvNew (if startsKeys (grid0.coords t) then k0_pay5 else (dats m 0 c).before 8 t d) = dvAt m c t.val t.isLt := by
  obtain ⟨n, hn⟩ := t
  match n, hn with
  | 0, hn => rw [if_pos ((startsKeys_iff _).mpr rfl)]; rfl
  | n + 1, hn =>
    by_cases h : startsKeys (grid0.coords ⟨n + 1, hn⟩)
    · rw [if_pos h]; show _ = Blocks.dvNew _ (if _ then _ else _); rw [if_pos h]
    · have e : (n + 1) % 16 ≠ 0 := fun e => h ((startsKeys_iff _).mpr e)
      rw [before_kept m c 8 rfl ⟨n + 1, hn⟩ (Nat.succ_ne_zero n)
        (Bool.eq_false_iff.mpr fun hf => e (by have := (flush0_8 _).mp hf; simp only [Nat.add_sub_cancel] at this; omega)) (fun _ _ => rfl) d, after_8]
      rfl

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
/-- The body at any point: one run of it (`body`), the blocks before and after it as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body c (grid0.coords t) _ _ _ _ _ _ _ _ _ _ _ _ _ _ _ _ _ _ (blocks m c t) ((dats m 0 c).before 6 t d6) ((dats m 0 c).before 7 t d7) ((dats m 0 c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [dq_step, dk_step, dv_step]
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's row of the body table at point `t` is the body there. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run -/

set_option backward.isDefEq.respectTransparency.types false in
/-- The program runs to the end from any memory with zero counters, its arrays as the proof data say, every counter zero. -/
theorem run_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.KernelIdeal.Bwd

end
-- ==== Proof.Final.lean ====
/-
  The three results of the attention gradient's call: what the output blocks hold after each point of the grid, and
  the arrays they leave, as sums over all rows.
-/
module

public import proofs.«01_k».proof.Proof.Tiles
public import proofs.«01_k».proof.Proof.Run

@[expose] public section

set_option maxRecDepth 16384

noncomputable section

namespace Cert.KernelIdeal.Bwd

open Idealize.ShloMosaic Idealize.ShloMosaic.TcCoe Idealize.SL.Sem
open Idealize.ShloMosaic.Pipeline (Dat)
open Cert.KernelIdeal.Gen Cert.Softmax

/-! ## One point -/

namespace Blocks.Holds

variable {B : Blocks Ideal} {X : Rows} {g j i : ℕ} (H : B.Holds X g j i)
include H

theorem dvNew_at (old : Vec Ideal S256x4096 .f32) (l : Fin 256) (b : Fin 4096) (x : ℝ) (hx : old (ix2 l b) = (x : EReal)) :
    B.dvNew old (ix2 l b) = ((x + ∑ r ∈ Finset.range 512, X.dy (512 * i + r) (256 * g + l.val)
      * X.p (2 * g + l.val / 128) (512 * i + r) (4096 * j + b.val) : ℝ) : EReal) := by
  have hl := l.isLt
  have hb := b.isLt
  unfold Blocks.dvNew ofTiles
  refine (H.dv_at _ _ _ _ _ x ?_).trans ?_
  · pointwise
    refine Eq.trans (congrArg old ?_) hx
    exact (ix2_inj ..).2 ⟨Fin.ext (by show 128 * (l.val / 128) + l.val % 128 = l.val; omega), Fin.ext (by show 256 * (b.val / 256) + b.val % 256 = b.val; omega)⟩
  · have e1 : 128 * (2 * g + l.val / 128) + l.val % 128 = 256 * g + l.val := by omega
    have e2 : 4096 * j + 256 * (b.val / 256) + b.val % 256 = 4096 * j + b.val := by omega
    show ((x + ∑ r ∈ Finset.range 512, X.dy (512 * i + r) (128 * (2 * g + l.val / 128) + l.val % 128)
      * X.p (2 * g + l.val / 128) (512 * i + r) (4096 * j + 256 * (b.val / 256) + b.val % 256) : ℝ) : EReal) = _
    rw [e1, e2]

theorem dkNew_at (old : Vec Ideal S256x4096 .f32) (l : Fin 256) (b : Fin 4096) (x : ℝ) (hx : old (ix2 l b) = (x : EReal)) :
    B.dkNew old (ix2 l b) = ((x + ∑ r ∈ Finset.range 512, X.q (512 * i + r) (256 * g + l.val)
      * X.ds (2 * g + l.val / 128) (512 * i + r) (4096 * j + b.val) : ℝ) : EReal) := by
  have hl := l.isLt
  have hb := b.isLt
  unfold Blocks.dkNew ofTiles
  refine (H.dk_at _ _ _ _ _ x ?_).trans ?_
  · pointwise
    refine Eq.trans (congrArg old ?_) hx
    exact (ix2_inj ..).2 ⟨Fin.ext (by show 128 * (l.val / 128) + l.val % 128 = l.val; omega), Fin.ext (by show 256 * (b.val / 256) + b.val % 256 = b.val; omega)⟩
  · have e1 : 128 * (2 * g + l.val / 128) + l.val % 128 = 256 * g + l.val := by omega
    have e2 : 4096 * j + 256 * (b.val / 256) + b.val % 256 = 4096 * j + b.val := by omega
    show ((x + ∑ r ∈ Finset.range 512, X.q (512 * i + r) (128 * (2 * g + l.val / 128) + l.val % 128)
      * X.ds (2 * g + l.val / 128) (512 * i + r) (4096 * j + 256 * (b.val / 256) + b.val % 256) : ℝ) : EReal) = _
    rw [e1, e2]

theorem dqNew_at (p : grid0.Coords) (hp : (p 2).val = i) (old : Vec Ideal S8192x256 .f32) (a : Fin 8192) (l : Fin 256) (x : ℝ) (hx : old (ix2 a l) = (x : EReal)) :
    B.dqNew p old (ix2 a l) = ((x + if a.val / 512 = i then ∑ b ∈ Finset.range 4096, X.ds (2 * g + l.val / 128) a.val (4096 * j + b)
      * X.k (4096 * j + b) (256 * g + l.val) else 0 : ℝ) : EReal) := by
  have hl := l.isLt
  have ha := a.isLt
  unfold Blocks.dqNew putRows
  by_cases h : a.val / 512 = i
  · rw [if_pos h]
    refine (if_pos (h.trans hp.symm)).trans ?_
    refine (H.dq_at _ _ _ _ x ?_).trans ?_
    · show old ((rowsRect p _).idx _) = _
      refine Eq.trans (congrArg old ?_) hx
      refine funext fun k => Fin.ext ?_
      show dqOff p _ k + 1 * _ = _
      rw [dqOff_eq, hp]
      match k with
      | ⟨0, _⟩ => show 512 * i + 1 * (a.val % 512) = a.val; omega
      | ⟨1, _⟩ => show 128 * (l.val / 128) + 1 * (l.val % 128) = l.val; omega
    · have e1 : 128 * (2 * g + l.val / 128) + l.val % 128 = 256 * g + l.val := by omega
      have e2 : 512 * i + a.val % 512 = a.val := by omega
      show ((x + ∑ b ∈ Finset.range 4096, X.ds (2 * g + l.val / 128) (512 * i + a.val % 512) (4096 * j + b)
        * X.k (4096 * j + b) (128 * (2 * g + l.val / 128) + l.val % 128) : ℝ) : EReal) = _
      rw [e1, e2]
  · rw [if_neg h, add_zero]
    exact (if_neg fun e => h (e.trans hp)).trans hx

end Blocks.Holds

theorem pay3_at (y) : k0_pay3 (F := Ideal) y = ((0 : ℝ) : EReal) := by
  pointwise [k0_pay3]; rfl
theorem pay4_at (y) : k0_pay4 (F := Ideal) y = ((0 : ℝ) : EReal) := by
  pointwise [k0_pay4]; rfl
theorem pay5_at (y) : k0_pay5 (F := Ideal) y = ((0 : ℝ) : EReal) := by
  pointwise [k0_pay5]; rfl

/-! ## All points -/

variable (m : (ℓ : Loc nD τ sig) → Buf (Elt Ideal) ℓ) (c : Dev nD) (X : Rows)

/-- Every point's blocks hold their rows of `X`. -/
def Given : Prop := ∀ t : Fin cfg0.N, (blocks m c t).Holds X (t.val / 32) (t.val / 16 % 2) (t.val % 16)

variable {m c X} (G : Given m c X)
include G

theorem dv_sum (l : Fin 256) (b : Fin 4096) : ∀ (n : ℕ) (hn : n < cfg0.N), dvAt m c n hn (ix2 l b)
    = ((∑ a ∈ Finset.range (512 * (n % 16 + 1)), X.dy a (256 * (n / 32) + l.val) * X.p (2 * (n / 32) + l.val / 128) a (4096 * (n / 16 % 2) + b.val) : ℝ) : EReal)
  | 0, hn => by
    refine ((G ⟨0, hn⟩).dvNew_at (k0_pay5 (F := Ideal)) l b 0 (pay5_at (ix2 l b))).trans ?_
    rw [zero_add]; simp
  | n + 1, hn => by
    by_cases h : startsKeys (grid0.coords ⟨n + 1, hn⟩)
    · have e : (n + 1) % 16 = 0 := (startsKeys_iff _).mp h
      unfold dvAt
      rw [if_pos h]
      refine ((G ⟨n + 1, hn⟩).dvNew_at (k0_pay5 (F := Ideal)) l b 0 (pay5_at (ix2 l b))).trans ?_
      simp only [e, zero_add, mul_zero, mul_one]
    · have e : (n + 1) % 16 ≠ 0 := fun e => h ((startsKeys_iff _).mpr e)
      unfold dvAt
      rw [if_neg h]
      refine ((G ⟨n + 1, hn⟩).dvNew_at _ l b _ (dv_sum l b n (Nat.lt_of_succ_lt hn))).trans ?_
      have e1 : n % 16 + 1 = (n + 1) % 16 := by omega
      have e2 : n / 32 = (n + 1) / 32 := by omega
      have e3 : n / 16 % 2 = (n + 1) / 16 % 2 := by omega
      rw [e1, e2, e3, sum_range_step]

theorem dk_sum (l : Fin 256) (b : Fin 4096) : ∀ (n : ℕ) (hn : n < cfg0.N), dkAt m c n hn (ix2 l b)
    = ((∑ a ∈ Finset.range (512 * (n % 16 + 1)), X.q a (256 * (n / 32) + l.val) * X.ds (2 * (n / 32) + l.val / 128) a (4096 * (n / 16 % 2) + b.val) : ℝ) : EReal)
  | 0, hn => by
    refine ((G ⟨0, hn⟩).dkNew_at (k0_pay4 (F := Ideal)) l b 0 (pay4_at (ix2 l b))).trans ?_
    rw [zero_add]; simp
  | n + 1, hn => by
    by_cases h : startsKeys (grid0.coords ⟨n + 1, hn⟩)
    · have e : (n + 1) % 16 = 0 := (startsKeys_iff _).mp h
      unfold dkAt
      rw [if_pos h]
      refine ((G ⟨n + 1, hn⟩).dkNew_at (k0_pay4 (F := Ideal)) l b 0 (pay4_at (ix2 l b))).trans ?_
      simp only [e, zero_add, mul_zero, mul_one]
    · have e : (n + 1) % 16 ≠ 0 := fun e => h ((startsKeys_iff _).mpr e)
      unfold dkAt
      rw [if_neg h]
      refine ((G ⟨n + 1, hn⟩).dkNew_at _ l b _ (dk_sum l b n (Nat.lt_of_succ_lt hn))).trans ?_
      have e1 : n % 16 + 1 = (n + 1) % 16 := by omega
      have e2 : n / 32 = (n + 1) / 32 := by omega
      have e3 : n / 16 % 2 = (n + 1) / 16 % 2 := by omega
      rw [e1, e2, e3, sum_range_step]

/-- After point `n` the rows of block `a / 512` have met the keys of `(n % 32 + 16 - a / 512) / 16` blocks. -/
theorem dq_sum (a : Fin 8192) (l : Fin 256) : ∀ (n : ℕ) (hn : n < cfg0.N), dqAt m c n hn (ix2 a l)
    = ((∑ b ∈ Finset.range (4096 * ((n % 32 + 16 - a.val / 512) / 16)), X.ds (2 * (n / 32) + l.val / 128) a.val b * X.k b (256 * (n / 32) + l.val) : ℝ) : EReal)
  | 0, hn => by
    have ha := a.isLt
    refine ((G ⟨0, hn⟩).dqNew_at (grid0.coords ⟨0, hn⟩) (by rw [coords2, Nat.div_one]) (k0_pay3 (F := Ideal)) a l 0 (pay3_at (ix2 a l))).trans ?_
    rw [zero_add]
    by_cases h : a.val / 512 = 0
    · rw [if_pos (by simpa using h), h]; simp
    · rw [if_neg (by simpa using h), show (0 % 32 + 16 - a.val / 512) / 16 = 0 by omega]; simp
  | n + 1, hn => by
    have ha := a.isLt
    by_cases h : startsGroup (grid0.coords ⟨n + 1, hn⟩)
    · have e : (n + 1) % 32 = 0 := (startsGroup_iff _).mp h
      unfold dqAt
      rw [if_pos h]
      refine ((G ⟨n + 1, hn⟩).dqNew_at (grid0.coords ⟨n + 1, hn⟩) (by rw [coords2, Nat.div_one]) (k0_pay3 (F := Ideal)) a l 0 (pay3_at (ix2 a l))).trans ?_
      have e1 : (n + 1) / 16 % 2 = 0 := by omega
      have e2 : (n + 1) % 16 = 0 := by omega
      simp only [e, e1, e2, zero_add, mul_zero]
      by_cases h0 : a.val / 512 = 0
      · rw [if_pos h0, h0]
      · rw [if_neg h0, show (16 - a.val / 512) / 16 = 0 by omega]; simp
    · have e : (n + 1) % 32 ≠ 0 := fun e => h ((startsGroup_iff _).mpr e)
      unfold dqAt
      rw [if_neg h]
      refine ((G ⟨n + 1, hn⟩).dqNew_at (grid0.coords ⟨n + 1, hn⟩) (by rw [coords2, Nat.div_one]) _ a l _ (dq_sum a l n (Nat.lt_of_succ_lt hn))).trans ?_
      have e2 : n / 32 = (n + 1) / 32 := by omega
      rw [e2]
      by_cases h0 : a.val / 512 = (n + 1) % 16
      · rw [if_pos h0, show (n % 32 + 16 - a.val / 512) / 16 = (n + 1) / 16 % 2 by omega,
          show ((n + 1) % 32 + 16 - a.val / 512) / 16 = (n + 1) / 16 % 2 + 1 by omega, sum_range_step]
      · rw [if_neg h0, add_zero, show (n % 32 + 16 - a.val / 512) / 16 = ((n + 1) % 32 + 16 - a.val / 512) / 16 by omega]

/-! ## The arrays after the run -/

omit G in
theorem idx6 : ∀ t : Fin cfg0.N, win0_6.index t = ![0, t.val / 32] := (by decide +kernel : ∀ t : Fin grid0.N, _)
omit G in
theorem idx7 : ∀ t : Fin cfg0.N, win0_7.index t = ![t.val / 32, t.val / 16 % 2] := (by decide +kernel : ∀ t : Fin grid0.N, _)
omit G in
theorem idx8 : ∀ t : Fin cfg0.N, win0_8.index t = ![t.val / 32, t.val / 16 % 2] := (by decide +kernel : ∀ t : Fin grid0.N, _)

/-- The query gradient. -/
theorem final_dq : (dats m 0 c).arrAt 6 (cfgs 0).N
    = fun y : S8192x512.Idx => ((∑ b ∈ Finset.range 8192, X.ds ((y 1).val / 128) (y 0).val b * X.k b (y 1).val : ℝ) : EReal) := by
  refine (dats m 0 c).arrAt_eq_of_covers 6 _ (by decide +kernel) fun t hf y => ?_
  have hm := (flush0_6 t).mp hf
  blk_simp [idx6 t]
  rw [after_6]
  idx_vars y
  have h0 := y0.isLt
  have h1 := y1.isLt
  refine (dq_sum G y0 y1 t.val t.isLt).trans ?_
  have e1 : 2 * (t.val / 32) + y1.val / 128 = (t.val / 32 * 256 + y1.val) / 128 := by omega
  have e2 : 4096 * ((t.val % 32 + 16 - y0.val / 512) / 16) = 8192 := by omega
  have e3 : 256 * (t.val / 32) = t.val / 32 * 256 := Nat.mul_comm _ _
  rw [e1, e2, e3]

/-- The key gradient, transposed. -/
theorem final_dk : (dats m 0 c).arrAt 7 (cfgs 0).N
    = fun y : S512x8192.Idx => ((∑ a ∈ Finset.range 8192, X.q a (y 0).val * X.ds ((y 0).val / 128) a (y 1).val : ℝ) : EReal) := by
  refine (dats m 0 c).arrAt_eq_of_covers 7 _ (by decide +kernel) fun t hf y => ?_
  have hm := (flush0_7 t).mp hf
  blk_simp [idx7 t]
  rw [after_7]
  idx_vars y
  have h0 := y0.isLt
  refine (dk_sum G y0 y1 t.val t.isLt).trans ?_
  have e1 : 2 * (t.val / 32) + y0.val / 128 = (t.val / 32 * 256 + y0.val) / 128 := by omega
  rw [e1, hm, Nat.mul_comm 256, Nat.mul_comm 4096]

/-- The value gradient, transposed. -/
theorem final_dv : (dats m 0 c).arrAt 8 (cfgs 0).N
    = fun y : S512x8192.Idx => ((∑ a ∈ Finset.range 8192, X.dy a (y 0).val * X.p ((y 0).val / 128) a (y 1).val : ℝ) : EReal) := by
  refine (dats m 0 c).arrAt_eq_of_covers 8 _ (by decide +kernel) fun t hf y => ?_
  have hm := (flush0_8 t).mp hf
  blk_simp [idx8 t]
  rw [after_8]
  idx_vars y
  have h0 := y0.isLt
  refine (dv_sum G y0 y1 t.val t.isLt).trans ?_
  have e1 : 2 * (t.val / 32) + y0.val / 128 = (t.val / 32 * 256 + y0.val) / 128 := by omega
  rw [e1, hm, Nat.mul_comm 256, Nat.mul_comm 4096]

end Cert.KernelIdeal.Bwd

end
-- ==== Proof.Heads.lean ====
/-
  The attention's heads, taken out of the argument arrays: real arrays read at natural-number positions, zero outside.
-/
module

public import proofs.«01_k».proof.Proof.Softmax
public import Idealize.ShloMosaic.Lib.Pointwise

@[expose] public section

set_option maxRecDepth 16384

noncomputable section

namespace Cert.Softmax

open Finset Idealize.ShloMosaic

/-- A vector of reals among the extended reals. -/
def lift {s : Shape} (r : s.Idx → ℝ) : FVec Ideal s .f32 := fun i => ((r i : ℝ) : EReal)

theorem lift_apply {s : Shape} (r : s.Idx → ℝ) (i : s.Idx) : lift r i = ((r i : ℝ) : EReal) := rfl

/-- A matrix at any position, zero outside. -/
def at2 {n₀ n₁ : ℕ} (x : (⟨2, ![n₀, n₁]⟩ : Shape).Idx → ℝ) (a l : ℕ) : ℝ :=
  if h : a < n₀ ∧ l < n₁ then x (ix2 ⟨a, h.1⟩ ⟨l, h.2⟩) else 0

/-- An array of heads at any position, zero outside. -/
def at3 {n₀ n₁ n₂ : ℕ} (x : (⟨3, ![n₀, n₁, n₂]⟩ : Shape).Idx → ℝ) (h a d : ℕ) : ℝ :=
  if H : h < n₀ ∧ a < n₁ ∧ d < n₂ then x (ix3 ⟨h, H.1⟩ ⟨a, H.2.1⟩ ⟨d, H.2.2⟩) else 0

theorem at2_fin {n₀ n₁ : ℕ} (x : (⟨2, ![n₀, n₁]⟩ : Shape).Idx → ℝ) (a : Fin n₀) (l : Fin n₁) : at2 x a.val l.val = x (ix2 a l) :=
  dif_pos ⟨a.isLt, l.isLt⟩

theorem at3_fin {n₀ n₁ n₂ : ℕ} (x : (⟨3, ![n₀, n₁, n₂]⟩ : Shape).Idx → ℝ) (h : Fin n₀) (a : Fin n₁) (d : Fin n₂) : at3 x h.val a.val d.val = x (ix3 h a d) :=
  dif_pos ⟨h.isLt, a.isLt, d.isLt⟩

theorem at3_out {n₀ n₁ n₂ : ℕ} (x : (⟨3, ![n₀, n₁, n₂]⟩ : Shape).Idx → ℝ) (h a d : ℕ) (hd : n₂ ≤ d) : at3 x h a d = 0 :=
  dif_neg fun H => absurd H.2.2 (not_lt.mpr hd)

/-- The queries' scale. -/
def scale : ℝ := (Ideal.ofBits .f32 0x3DD105EC#32).toReal

theorem scale_eq : Ideal.ofBits .f32 0x3DD105EC#32 = ((scale : ℝ) : EReal) := by
  refine (EReal.coe_toReal ?_ ?_).symm <;> simp [Ideal.ofBits, Ideal.ieee] <;> rw [← EReal.coe_mul]
  exacts [EReal.coe_ne_top _, EReal.coe_ne_bot _]

variable (q k : (⟨3, ![4, 8192, 96]⟩ : Shape).Idx → ℝ) (v : (⟨3, ![4, 8192, 128]⟩ : Shape).Idx → ℝ) (dy : (⟨2, ![8192, 512]⟩ : Shape).Idx → ℝ)

/-- Head `h` of the attention. -/
def headOf (h : ℕ) : Head where
  n := 8192
  w := 96
  u := 128
  hn := by decide
  q a d := at3 q h a d * scale
  k b d := at3 k h b d
  v b d := at3 v h b d
  dy a d := at2 dy a (128 * h + d)

/-- A sum over a range as one over its indices, among the extended reals. -/
theorem coe_range (n : ℕ) (f : ℕ → ℝ) : ((∑ x ∈ range n, f x : ℝ) : EReal) = ∑ x : Fin n, ((f x.val : ℝ) : EReal) := by
  rw [← Fin.sum_univ_eq_sum_range, coe_sum]

variable (h a b : ℕ)

theorem headOf_s : (((headOf q k v dy h).s a b : ℝ) : EReal) = ∑ d : Fin 96, (((headOf q k v dy h).q a d.val : ℝ) : EReal) * (((headOf q k v dy h).k b d.val : ℝ) : EReal) :=
  (coe_range 96 fun d => (headOf q k v dy h).q a d * (headOf q k v dy h).k b d).trans (Finset.sum_congr rfl fun _ _ => EReal.coe_mul _ _)

theorem headOf_zs (M : ℝ) : (((headOf q k v dy h).zs M a : ℝ) : EReal) = ∑ b : Fin 8192, ((Real.exp ((headOf q k v dy h).s a b.val - M) : ℝ) : EReal) :=
  coe_range 8192 fun b => Real.exp ((headOf q k v dy h).s a b - M)

theorem headOf_dp : (((headOf q k v dy h).dp a b : ℝ) : EReal) = ∑ d : Fin 128, (((headOf q k v dy h).dy a d.val : ℝ) : EReal) * (((headOf q k v dy h).v b d.val : ℝ) : EReal) :=
  (coe_range 128 fun d => (headOf q k v dy h).dy a d * (headOf q k v dy h).v b d).trans (Finset.sum_congr rfl fun _ _ => EReal.coe_mul _ _)

end Cert.Softmax

end
-- ==== Proof.Host.lean ====
/-
  What the host hands the attention gradient's call: the forward pass by its own lines, read at an index, and the six
  arrays the call is given.
-/
module

public import proofs.«01_k».proof.Proof.Final
public import proofs.«01_k».proof.Proof.Heads
public import Idealize.ShloMosaic.Lib.Claim

@[expose] public section

set_option maxRecDepth 16384

noncomputable section

namespace Cert.KernelIdeal.Bwd

open Idealize.ShloMosaic Idealize.ShloMosaic.TcCoe Idealize.SL.Sem
open Idealize.ShloMosaic.Pipeline (Dat)
open Cert.KernelIdeal.Gen Cert.Softmax

/-! ## The host's lines as functions of the arguments -/

section Lines

variable (q k : FVec Ideal S4x8192x96 .f32) (v : FVec Ideal S4x8192x128 .f32)

/-- The scaled queries. -/
def scaled : FVec Ideal S4x8192x96 .f32 :=
  mulf q (broadcastInDim S4x8192x96 ![] bcast_S_S4x8192x96 (constant S_ .f32 0x3DD105EC#32))

/-- The scores. -/
def scores : FVec Ideal S4x8192x8192 .f32 := Host.dotGeneral dot_S4x8192x96_S4x8192x96_S4x8192x8192_2_2_1_1_0_0 none (scaled q) k

/-- Each row's largest score. -/
def largest : FVec Ideal S4x8192x1 .f32 :=
  broadcastInDim S4x8192x1 ![0, 1] bcast_S4x8192_S4x8192x1_0_1
    (Host.reduce FloatOps.maximumf (scores q k) (constant (F := Ideal) S_ .f32 0xFF800000#32) reducesTo_S4x8192x8192_S4x8192_d2 h_S_ : FVec Ideal S4x8192 .f32)

/-- The exponentials of the shifted scores. -/
def exps : FVec Ideal S4x8192x8192 .f32 :=
  Host.exp (subf (scores q k) (broadcastInDim S4x8192x8192 ![0, 1, 2] bcast_S4x8192x1_S4x8192x8192_0_1_2 (largest q k)))

/-- Each row's sum of exponentials. -/
def sums : FVec Ideal S4x8192x1 .f32 :=
  broadcastInDim S4x8192x1 ![0, 1] bcast_S4x8192_S4x8192x1_0_1
    (Host.reduceAdd (exps q k) (constant S_ .f32 0x00000000#32) reducesTo_S4x8192x8192_S4x8192_d2 h_S_)

/-- The attention's output. -/
def output : FVec Ideal S4x8192x128 .f32 :=
  Host.dotGeneral dot_S4x8192x8192_S4x8192x128_S4x8192x128_2_1_1_2_0_0 none
    (Host.divf (exps q k) (broadcastInDim S4x8192x8192 ![0, 1, 2] bcast_S4x8192x1_S4x8192x8192_0_1_2 (sums q k))) v

/-- The logarithm of each row's sum, the shift taken back. -/
def logs : FVec Ideal S4x1x8192 .f32 := shapeCast S4x1x8192 (addf (largest q k) (Host.log (sums q k))) shapeCasts_S4x8192x1_S4x1x8192

/-- The heads of a token side by side, 128 lanes each. -/
def lanesOf (x : FVec Ideal S4x8192x128 .f32) : FVec Ideal S8192x512 .f32 :=
  shapeCast S8192x512 (transpose S8192x4x128 [1, 0, 2] x transposes_S4x8192x128_S8192x4x128_1_0_2) shapeCasts_S8192x4x128_S8192x512

/-- The same of 96 lanes, filled up with zeros. -/
def lanesOf96 (x : FVec Ideal S4x8192x96 .f32) : FVec Ideal S8192x512 .f32 :=
  lanesOf (pad S4x8192x128 ![0, 0, 0] ![0, 0, 32] ![0, 0, 0] x (sitofp .f32 (constantI S_ 32 0#32) : FVec Ideal S_ .f32) pads_S4x8192x96_S4x8192x128_000_000_0320 h_S_)

/-- The same of 128 lanes, nothing to fill up. -/
def lanesOf128 (x : FVec Ideal S4x8192x128 .f32) : FVec Ideal S8192x512 .f32 :=
  lanesOf (pad S4x8192x128 ![0, 0, 0] ![0, 0, 0] ![0, 0, 0] x (sitofp .f32 (constantI S_ 32 0#32) : FVec Ideal S_ .f32) pads_S4x8192x128_S4x8192x128_000_000_000 h_S_)

end Lines

/-! ## The call's six operands -/

section Operands

variable (m : (ℓ : Loc nD τ sig) → Buf (Elt Ideal) ℓ) (c : Dev nD)

abbrev arg0 : FVec Ideal S4x8192x96 .f32 := m ((c : Thread nD τ).loc main_arg0)
abbrev arg1 : FVec Ideal S4x8192x96 .f32 := m ((c : Thread nD τ).loc main_arg1)
abbrev arg2 : FVec Ideal S4x8192x128 .f32 := m ((c : Thread nD τ).loc main_arg2)
abbrev arg3 : FVec Ideal S8192x512 .f32 := m ((c : Thread nD τ).loc main_arg3)

/-- The call's operands: queries, keys, values, the output's gradient, the output and the logarithms of the row sums. -/
theorem operands :
    V m c main_v19 = truncf .bf16 (lanesOf96 (scaled (arg0 m c))) bitsLt_bf16_f32
    ∧ V m c main_v23 = truncf .bf16 (lanesOf96 (arg1 m c)) bitsLt_bf16_f32
    ∧ V m c main_v27 = truncf .bf16 (lanesOf128 (arg2 m c)) bitsLt_bf16_f32
    ∧ V m c main_v28 = truncf .bf16 (arg3 m c) bitsLt_bf16_f32
    ∧ V m c main_v31 = lanesOf128 (output (arg0 m c) (arg1 m c) (arg2 m c))
    ∧ V m c main_v15 = logs (arg0 m c) (arg1 m c) := by
  refine ⟨?_, ?_, ?_, ?_, ?_, ?_⟩
  all_goals
    simp only [V, hostOps0, hostOps0_1, hostOps0_2, hostOps0_3, hostOps0_4, hostOps0_5, hostOps0_6, hostOps0_7, hostOps0_8, List.flatten_cons,
      List.flatten_nil, List.append_nil, List.cons_append, List.nil_append, StableHlo.TRef.binary, StableHlo.TRef.unary, StableHlo.TRef.toBuf,
      StableHlo.TRef.ofBuf, cast_eq]
    after_results_simp
    try rfl

end Operands

end Cert.KernelIdeal.Bwd

end
-- ==== Proof.Forward.lean ====
/-
  The host's forward pass at an index, over the real numbers.
-/
module

public import proofs.«01_k».proof.Proof.Host

@[expose] public section

set_option maxRecDepth 16384

noncomputable section

namespace Cert.KernelIdeal.Bwd

open Idealize.ShloMosaic Idealize.ShloMosaic.TcCoe
open Cert.KernelIdeal.Gen Cert.Softmax

section Reals

variable (q k : S4x8192x96.Idx → ℝ) (v : S4x8192x128.Idx → ℝ) (dy : S8192x512.Idx → ℝ)

theorem scaled_at (h : Fin 4) (a : Fin 8192) (d : Fin 96) : scaled (lift q) (ix3 h a d) = (((headOf q k v dy h).q a d : ℝ) : EReal) := by
  pointwise [scaled]
  rw [scale_eq, lift_apply, ← EReal.coe_mul, ← at3_fin q]
  rfl

theorem scores_at (h : Fin 4) (a b : Fin 8192) : scores (lift q) (lift k) (ix3 h a b) = (((headOf q k v dy h).s a b : ℝ) : EReal) := by
  rw [headOf_s]
  pointwise [scores]
  refine Finset.sum_congr rfl fun d _ => ?_
  rw [scaled_at q k v dy, lift_apply, ← at3_fin k]
  rfl

theorem ofBits_bot : Ideal.ofBits .f32 0xFF800000#32 = ⊥ := by simp [Ideal.ofBits, Ideal.ieee]

theorem largest_eq (q k : FVec Ideal S4x8192x96 .f32) (h : Fin 4) (a : Fin 8192) (M : EReal)
    (hM : Finset.univ.fold max ⊥ (fun b : Fin 8192 => scores q k (ix3 h a b)) = M) : largest q k (ix3 h a 0) = M := by
  pointwise [largest]
  rw [ofBits_bot, hM]

theorem sums_eq (q k : FVec Ideal S4x8192x96 .f32) (h : Fin 4) (a : Fin 8192) (z : EReal)
    (hz : ∑ b : Fin 8192, exps q k (ix3 h a b) = z) : sums q k (ix3 h a 0) = z := by
  pointwise [sums]
  exact hz

theorem exps_eq (q k : FVec Ideal S4x8192x96 .f32) (h : Fin 4) (a b : Fin 8192) :
    exps q k (ix3 h a b) = Ideal.exp (scores q k (ix3 h a b) - largest q k (ix3 h a 0)) := by
  pointwise [exps]

theorem output_eq (q k : FVec Ideal S4x8192x96 .f32) (v : FVec Ideal S4x8192x128 .f32) (h : Fin 4) (a : Fin 8192) (d : Fin 128) :
    output q k v (ix3 h a d) = ∑ b : Fin 8192, Ideal.div (exps q k (ix3 h a b)) (sums q k (ix3 h a 0)) * v (ix3 h b d) := by
  pointwise [output]

theorem cast_at (x : FVec Ideal S4x8192x1 .f32) (h : Fin 4) (a : Fin 8192) : shapeCast S4x1x8192 x shapeCasts_S4x8192x1_S4x1x8192 (ix3 h 0 a) = x (ix3 h a 0) := by
  have hh := h.isLt
  have ha := a.isLt
  pointwise

theorem addLog_at (x z : FVec Ideal S4x8192x1 .f32) (i : S4x8192x1.Idx) : addf x (Host.log z) i = x i + Ideal.log (z i) := by
  pointwise

theorem logs_eq (q k : FVec Ideal S4x8192x96 .f32) (h : Fin 4) (a : Fin 8192) :
    logs q k (ix3 h 0 a) = largest q k (ix3 h a 0) + Ideal.log (sums q k (ix3 h a 0)) := by
  rw [logs, cast_at, addLog_at]

theorem largest_at (h : Fin 4) (a : Fin 8192) : ∃ M : ℝ, largest (lift q) (lift k) (ix3 h a 0) = ((M : ℝ) : EReal) := by
  obtain ⟨M, hM⟩ := fold_max_coe (n := 8192) (by decide) fun b => (headOf q k 0 0 h).s a b
  refine ⟨M, largest_eq _ _ _ _ _ ?_⟩
  rw [← hM]
  exact congrArg (fun f => Finset.univ.fold max ⊥ f) (funext fun b => scores_at q k 0 0 h a b)

variable {q k} {h : Fin 4} {a : Fin 8192} {M : ℝ} (hM : largest (lift q) (lift k) (ix3 h a 0) = ((M : ℝ) : EReal))
include hM

theorem exps_at (b : Fin 8192) : exps (lift q) (lift k) (ix3 h a b) = ((Real.exp ((headOf q k v dy h).s a b - M) : ℝ) : EReal) := by
  rw [exps_eq, hM, scores_at q k v dy, ← EReal.coe_sub, Ideal.exp_coe]

theorem sums_at : sums (lift q) (lift k) (ix3 h a 0) = (((headOf q k v dy h).zs M a : ℝ) : EReal) := by
  rw [headOf_zs]
  exact sums_eq _ _ _ _ _ (Finset.sum_congr rfl fun b _ => exps_at v dy hM b)

theorem output_at (d : Fin 128) : output (lift q) (lift k) (lift v) (ix3 h a d)
    = ((∑ b ∈ Finset.range 8192, (headOf q k v dy h).p a b * (headOf q k v dy h).v b d : ℝ) : EReal) := by
  rw [output_eq, coe_range]
  refine Finset.sum_congr rfl fun b _ => ?_
  rw [exps_at v dy hM, sums_at v dy hM, div_coe_coe _ (Head.zs_pos _ _ _).ne', Head.shift, lift_apply, ← at3_fin v, ← EReal.coe_mul]
  rfl

theorem logs_at : logs (lift q) (lift k) (ix3 h 0 a) = ((M + Real.log ((headOf q k v dy h).zs M a) : ℝ) : EReal) := by
  rw [logs_eq, hM, sums_at v dy hM, log_coe_pos (Head.zs_pos _ _ _), ← EReal.coe_add]

end Reals

section Lanes

theorem fill_zero : (FloatOps.sitofp (F := Ideal) FTy.f32 0#32) = 0 := by
  show (((0#32 : BitVec 32).toInt : ℝ) : EReal) = 0
  simp

theorem lanesOf96_at (x : FVec Ideal S4x8192x96 .f32) (f : ℕ → ℕ → ℕ → ℝ) (hf : ∀ (h : Fin 4) (a : Fin 8192) (d : Fin 96), x (ix3 h a d) = ((f h a d : ℝ) : EReal))
    (h0 : ∀ h a d, 96 ≤ d → f h a d = 0) (a : Fin 8192) (l : Fin 512) : lanesOf96 x (ix2 a l) = ((f (l / 128) a (l % 128) : ℝ) : EReal) := by
  have hl := l.isLt
  pointwise [lanesOf96, lanesOf]
  by_cases h : l.val / 128 < 4 ∧ l.val % 128 < 96
  · rw [dif_pos h, hf]
  · rw [dif_neg h, fill_zero, h0 _ _ _ (by omega), EReal.coe_zero]

theorem lanesOf128_at (x : FVec Ideal S4x8192x128 .f32) (f : ℕ → ℕ → ℕ → ℝ) (hf : ∀ (h : Fin 4) (a : Fin 8192) (d : Fin 128), x (ix3 h a d) = ((f h a d : ℝ) : EReal))
    (a : Fin 8192) (l : Fin 512) : lanesOf128 x (ix2 a l) = ((f (l / 128) a (l % 128) : ℝ) : EReal) := by
  have hl := l.isLt
  pointwise [lanesOf128, lanesOf]
  rw [dif_pos (by omega), hf]

end Lanes

end Cert.KernelIdeal.Bwd

end
-- ==== Proof.Given.lean ====
/-
  What the attention gradient's call is given and returns, in terms of the attention's heads.
-/
module

public import proofs.«01_k».proof.Proof.Forward

@[expose] public section

set_option maxRecDepth 16384

noncomputable section

namespace Cert.KernelIdeal.Bwd

open Idealize.ShloMosaic Idealize.ShloMosaic.TcCoe Idealize.SL.Sem
open Idealize.ShloMosaic.Pipeline (Dat)
open Cert.KernelIdeal.Gen Cert.Softmax

variable (q k : S4x8192x96.Idx → ℝ) (v : S4x8192x128.Idx → ℝ) (dy : S8192x512.Idx → ℝ)

/-- The largest score of row `a` of head `h`, as a real number. -/
def top (h a : ℕ) : ℝ := at3 (n₀ := 4) (n₁ := 8192) (n₂ := 1) (fun i => (largest (lift q) (lift k) i).toReal) h a 0

theorem largest_top (h : Fin 4) (a : Fin 8192) : largest (lift q) (lift k) (ix3 h a 0) = ((top q k h a : ℝ) : EReal) := by
  obtain ⟨M, hM⟩ := largest_at q k h a
  rw [top, show at3 (n₀ := 4) (n₁ := 8192) (n₂ := 1) (fun i => (largest (lift q) (lift k) i).toReal) h a 0 = (largest (lift q) (lift k) (ix3 h a 0)).toReal from at3_fin _ h a (0 : Fin 1),
    hM, EReal.toReal_coe]

/-- The rows the call is given: the heads side by side, 128 lanes each. -/
def rowsOf : Rows where
  q a l := (headOf q k v dy (l / 128)).q a (l % 128)
  k b l := (headOf q k v dy (l / 128)).k b (l % 128)
  v b l := (headOf q k v dy (l / 128)).v b (l % 128)
  dy a l := at2 dy a l
  y a l := ∑ b ∈ Finset.range 8192, (headOf q k v dy (l / 128)).p a b * (headOf q k v dy (l / 128)).v b (l % 128)
  lse h a := top q k h a + Real.log ((headOf q k v dy h).zs (top q k h a) a)

theorem rows_p (h a b : ℕ) : (rowsOf q k v dy).p h a b = (headOf q k v dy h).p a b := by
  rw [← Head.saved _ (top q k h a)]
  have e : ∑ d ∈ Finset.range 128, (rowsOf q k v dy).q a (128 * h + d) * (rowsOf q k v dy).k b (128 * h + d) = (headOf q k v dy h).s a b := by
    refine Eq.trans ?_ (sum_range_pad (n := 96) (N := 128) (f := fun d => (headOf q k v dy h).q a d * (headOf q k v dy h).k b d) (by decide)
      fun d hd => by show at3 q h a d * scale * _ = 0; rw [at3_out q h a d hd, zero_mul, zero_mul])
    refine Finset.sum_congr rfl fun d hd => ?_
    have hd' := Finset.mem_range.mp hd
    have e1 : (128 * h + d) / 128 = h := by omega
    have e2 : (128 * h + d) % 128 = d := by omega
    simp only [rowsOf, e1, e2]
  rw [Rows.p, e]
  rfl

theorem rows_ds (h a b : ℕ) : (rowsOf q k v dy).ds h a b = (headOf q k v dy h).ds a b := by
  rw [Rows.ds, rows_p, Head.ds, ← Head.delta]
  have e : ∀ d ∈ Finset.range 128, (128 * h + d) / 128 = h ∧ (128 * h + d) % 128 = d := fun d hd => by
    have hd' := Finset.mem_range.mp hd
    omega
  congr 2 <;> refine Finset.sum_congr rfl fun d hd => ?_ <;> simp only [rowsOf, e d hd] <;> rfl

variable {q k v dy} {m : (ℓ : Loc nD τ sig) → Buf (Elt Ideal) ℓ} {c : Dev nD}

theorem idx0 : ∀ t : Fin cfg0.N, win0_0.index t = ![t.val % 16, t.val / 32] := (by decide +kernel : ∀ t : Fin grid0.N, _)
theorem idx1 : ∀ t : Fin cfg0.N, win0_1.index t = ![t.val / 16 % 2, t.val / 32] := (by decide +kernel : ∀ t : Fin grid0.N, _)
theorem idx2 : ∀ t : Fin cfg0.N, win0_2.index t = ![t.val / 16 % 2, t.val / 32] := (by decide +kernel : ∀ t : Fin grid0.N, _)
theorem idx3 : ∀ t : Fin cfg0.N, win0_3.index t = ![t.val % 16, t.val / 32] := (by decide +kernel : ∀ t : Fin grid0.N, _)
theorem idx4 : ∀ t : Fin cfg0.N, win0_4.index t = ![t.val % 16, t.val / 32] := (by decide +kernel : ∀ t : Fin grid0.N, _)
theorem idx5 : ∀ t : Fin cfg0.N, win0_5.index t = ![t.val / 32, 0, t.val % 16] := (by decide +kernel : ∀ t : Fin grid0.N, _)

theorem block0 (t : Fin cfg0.N) (ht : t.val < 64) (A : S8192x512.Idx → EReal) (a : Fin 512) (l : Fin 256) :
    ((cfg0.win 0).blk t).view.read (Elt Ideal) A (ix2 a l) = (A (ix2 ⟨512 * (t.val % 16) + a.val, by omega⟩ ⟨256 * (t.val / 32) + l.val, by omega⟩) : EReal) := by
  blk_ext [idx0 t]

theorem block5 (t : Fin cfg0.N) (ht : t.val < 64) (A : S4x1x8192.Idx → EReal) (h : Fin 2) (a : Fin 512)  :
    ((cfg0.win 5).blk t).view.read (Elt Ideal) A (ix3 h 0 a) = (A (ix3 ⟨2 * (t.val / 32) + h.val, by omega⟩ 0 ⟨512 * (t.val % 16) + a.val, by omega⟩) : EReal) := by
  blk_ext [idx5 t]

theorem block1 (t : Fin cfg0.N) (ht : t.val < 64) (A : S8192x512.Idx → EReal) (a : Fin 4096) (l : Fin 256) :
    ((cfg0.win 1).blk t).view.read (Elt Ideal) A (ix2 a l) = (A (ix2 ⟨4096 * (t.val / 16 % 2) + a.val, by omega⟩ ⟨256 * (t.val / 32) + l.val, by omega⟩) : EReal) := by
  blk_ext [idx1 t]

theorem block2 (t : Fin cfg0.N) (ht : t.val < 64) (A : S8192x512.Idx → EReal) (a : Fin 4096) (l : Fin 256) :
    ((cfg0.win 2).blk t).view.read (Elt Ideal) A (ix2 a l) = (A (ix2 ⟨4096 * (t.val / 16 % 2) + a.val, by omega⟩ ⟨256 * (t.val / 32) + l.val, by omega⟩) : EReal) := by
  blk_ext [idx2 t]

theorem block3 (t : Fin cfg0.N) (ht : t.val < 64) (A : S8192x512.Idx → EReal) (a : Fin 512) (l : Fin 256) :
    ((cfg0.win 3).blk t).view.read (Elt Ideal) A (ix2 a l) = (A (ix2 ⟨512 * (t.val % 16) + a.val, by omega⟩ ⟨256 * (t.val / 32) + l.val, by omega⟩) : EReal) := by
  blk_ext [idx3 t]

theorem block4 (t : Fin cfg0.N) (ht : t.val < 64) (A : S8192x512.Idx → EReal) (a : Fin 512) (l : Fin 256) :
    ((cfg0.win 4).blk t).view.read (Elt Ideal) A (ix2 a l) = (A (ix2 ⟨512 * (t.val % 16) + a.val, by omega⟩ ⟨256 * (t.val / 32) + l.val, by omega⟩) : EReal) := by
  blk_ext [idx4 t]

/-- Rounding to a shorter format changes no real number. -/
theorem trunc_at (x : FVec Ideal S8192x512 .f32) (i : S8192x512.Idx) : truncf .bf16 x bitsLt_bf16_f32 i = x i := by
  pointwise

variable (h0 : arg0 m c = lift q) (h1 : arg1 m c = lift k) (h2 : arg2 m c = lift v) (h3 : arg3 m c = lift dy)
include h0 h1 h2 h3

theorem operand_q (a : Fin 8192) (l : Fin 512) : V m c main_v19 (ix2 a l) = (((rowsOf q k v dy).q a l : ℝ) : EReal) := by
  rw [(operands m c).1, trunc_at, h0]
  exact lanesOf96_at _ (fun h a d => (headOf q k v dy h).q a d) (scaled_at q k v dy)
    (fun h a d hd => by show at3 q h a d * scale = 0; rw [at3_out q h a d hd, zero_mul]) a l

theorem operand_k (a : Fin 8192) (l : Fin 512) : V m c main_v23 (ix2 a l) = (((rowsOf q k v dy).k a l : ℝ) : EReal) := by
  rw [(operands m c).2.1, trunc_at, h1]
  exact lanesOf96_at _ (fun h a d => (headOf q k v dy h).k a d) (fun h a d => congrArg _ (at3_fin k h a d).symm)
    (fun h a d hd => at3_out k h a d hd) a l

theorem operand_v (a : Fin 8192) (l : Fin 512) : V m c main_v27 (ix2 a l) = (((rowsOf q k v dy).v a l : ℝ) : EReal) := by
  rw [(operands m c).2.2.1, trunc_at, h2]
  exact lanesOf128_at _ (fun h a d => (headOf q k v dy h).v a d) (fun h a d => congrArg _ (at3_fin v h a d).symm) a l

theorem operand_dy (a : Fin 8192) (l : Fin 512) : V m c main_v28 (ix2 a l) = (((rowsOf q k v dy).dy a l : ℝ) : EReal) := by
  rw [(operands m c).2.2.2.1, trunc_at, h3]
  exact congrArg _ (at2_fin dy a l).symm

theorem operand_y (a : Fin 8192) (l : Fin 512) : V m c main_v31 (ix2 a l) = (((rowsOf q k v dy).y a l : ℝ) : EReal) := by
  rw [(operands m c).2.2.2.2.1, h0, h1, h2]
  exact lanesOf128_at _ (fun h a d => ∑ b ∈ Finset.range 8192, (headOf q k v dy h).p a b * (headOf q k v dy h).v b d)
    (fun h a d => output_at v dy (largest_top q k h a) d) a l

theorem operand_lse (h : Fin 4) (a : Fin 8192) : V m c main_v15 (ix3 h 0 a) = (((rowsOf q k v dy).lse h a : ℝ) : EReal) := by
  rw [(operands m c).2.2.2.2.2, h0, h1]
  exact logs_at v dy (largest_top q k h a)

set_option maxHeartbeats 2000000 in
theorem given : Given m c (rowsOf q k v dy) := by
  intro t
  have ht : t.val < 64 := t.isLt
  constructor
  · exact fun a l => (block0 t ht (V m c main_v19) a l).trans (operand_q h0 h1 h2 h3 ⟨512 * (t.val % 16) + a.val, by omega⟩ ⟨256 * (t.val / 32) + l.val, by omega⟩)
  · exact fun a l => (block1 t ht (V m c main_v23) a l).trans (operand_k h0 h1 h2 h3 ⟨4096 * (t.val / 16 % 2) + a.val, by omega⟩ ⟨256 * (t.val / 32) + l.val, by omega⟩)
  · exact fun a l => (block2 t ht (V m c main_v27) a l).trans (operand_v h0 h1 h2 h3 ⟨4096 * (t.val / 16 % 2) + a.val, by omega⟩ ⟨256 * (t.val / 32) + l.val, by omega⟩)
  · exact fun a l => (block3 t ht (V m c main_v28) a l).trans (operand_dy h0 h1 h2 h3 ⟨512 * (t.val % 16) + a.val, by omega⟩ ⟨256 * (t.val / 32) + l.val, by omega⟩)
  · exact fun a l => (block4 t ht (V m c main_v31) a l).trans (operand_y h0 h1 h2 h3 ⟨512 * (t.val % 16) + a.val, by omega⟩ ⟨256 * (t.val / 32) + l.val, by omega⟩)
  · exact fun h a => (block5 t ht (V m c main_v15) h a).trans (operand_lse h0 h1 h2 h3 ⟨2 * (t.val / 32) + h.val, by omega⟩ ⟨512 * (t.val % 16) + a.val, by omega⟩)

/-- The query gradient the call returns. -/
theorem given_dq : (dats m 0 c).arrAt 6 (cfgs 0).N = fun y : S8192x512.Idx =>
    ((∑ b ∈ Finset.range 8192, (headOf q k v dy ((y 1).val / 128)).ds (y 0).val b * (headOf q k v dy ((y 1).val / 128)).k b ((y 1).val % 128) : ℝ) : EReal) := by
  rw [final_dq (given h0 h1 h2 h3)]
  simp only [rows_ds]
  rfl

/-- The key gradient the call returns. -/
theorem given_dk : (dats m 0 c).arrAt 7 (cfgs 0).N = fun y : S512x8192.Idx =>
    ((∑ a ∈ Finset.range 8192, (headOf q k v dy ((y 0).val / 128)).q a ((y 0).val % 128) * (headOf q k v dy ((y 0).val / 128)).ds a (y 1).val : ℝ) : EReal) := by
  rw [final_dk (given h0 h1 h2 h3)]
  simp only [rows_ds]
  rfl

/-- The value gradient the call returns. -/
theorem given_dv : (dats m 0 c).arrAt 8 (cfgs 0).N = fun y : S512x8192.Idx =>
    ((∑ a ∈ Finset.range 8192, at2 dy a (y 0).val * (headOf q k v dy ((y 0).val / 128)).p a (y 1).val : ℝ) : EReal) := by
  rw [final_dv (given h0 h1 h2 h3)]
  simp only [rows_p]
  rfl

end Cert.KernelIdeal.Bwd

end
-- ==== Proof.Heads2.lean ====
/-
  The heads of the grouped attention: eight heads of queries, four to each of the two heads of keys and values.
-/
module

public import proofs.«01_k».proof.Proof.Heads

@[expose] public section

set_option maxRecDepth 16384

noncomputable section

namespace Cert.Softmax

open Finset Idealize.ShloMosaic

/-- The queries' scale. -/
def scale2 : ℝ := (Ideal.ofBits .f32 0x3E000000#32).toReal

theorem scale2_eq : Ideal.ofBits .f32 0x3E000000#32 = ((scale2 : ℝ) : EReal) := by
  refine (EReal.coe_toReal ?_ ?_).symm <;> simp [Ideal.ofBits, Ideal.ieee] <;> rw [← EReal.coe_mul]
  exacts [EReal.coe_ne_top _, EReal.coe_ne_bot _]

variable (q : (⟨3, ![8, 8192, 64]⟩ : Shape).Idx → ℝ) (k v : (⟨3, ![2, 8192, 64]⟩ : Shape).Idx → ℝ) (dy : (⟨2, ![8192, 512]⟩ : Shape).Idx → ℝ)

/-- Head `h` of the queries, with the keys and values of its group. -/
def groupedOf (h : ℕ) : Head where
  n := 8192
  w := 64
  u := 64
  hn := by decide
  q a d := at3 q h a d * scale2
  k b d := at3 k (h / 4) b d
  v b d := at3 v (h / 4) b d
  dy a d := at2 dy a (64 * h + d)

variable (h a b : ℕ)

theorem groupedOf_s : (((groupedOf q k v dy h).s a b : ℝ) : EReal) = ∑ d : Fin 64, (((groupedOf q k v dy h).q a d.val : ℝ) : EReal) * (((groupedOf q k v dy h).k b d.val : ℝ) : EReal) :=
  (coe_range 64 fun d => (groupedOf q k v dy h).q a d * (groupedOf q k v dy h).k b d).trans (Finset.sum_congr rfl fun _ _ => EReal.coe_mul _ _)

theorem groupedOf_zs (M : ℝ) : (((groupedOf q k v dy h).zs M a : ℝ) : EReal) = ∑ b : Fin 8192, ((Real.exp ((groupedOf q k v dy h).s a b.val - M) : ℝ) : EReal) :=
  coe_range 8192 fun b => Real.exp ((groupedOf q k v dy h).s a b - M)

theorem groupedOf_dp : (((groupedOf q k v dy h).dp a b : ℝ) : EReal) = ∑ d : Fin 64, (((groupedOf q k v dy h).dy a d.val : ℝ) : EReal) * (((groupedOf q k v dy h).v b d.val : ℝ) : EReal) :=
  (coe_range 64 fun d => (groupedOf q k v dy h).dy a d * (groupedOf q k v dy h).v b d).trans (Finset.sum_congr rfl fun _ _ => EReal.coe_mul _ _)

/-- A sum over a pair's lanes that vanishes off one half is a sum over that half. -/
theorem sum_half (f g : ℕ → ℝ) (p : ℕ) (hp : p < 2) : ∑ x ∈ range 128, (if x / 64 = p then f x else 0) * g x = ∑ d ∈ range 64, f (64 * p + d) * g (64 * p + d) := by
  have e := sum_range_tiles (fun x => (if x / 64 = p then f x else 0) * g x) 64 2
  have t : ∀ i, ∑ r ∈ range 64, (if (64 * i + r) / 64 = p then f (64 * i + r) else 0) * g (64 * i + r)
      = if i = p then ∑ d ∈ range 64, f (64 * p + d) * g (64 * p + d) else 0 := fun i => by
    by_cases c : i = p
    · rw [if_pos c]
      refine sum_congr rfl fun r hr => ?_
      have := mem_range.mp hr
      rw [if_pos (by omega), c]
    · rw [if_neg c]
      refine sum_eq_zero fun r hr => ?_
      have := mem_range.mp hr
      rw [if_neg (by omega), zero_mul]
  refine e.trans ?_
  simp only [t]
  rw [sum_ite_eq', if_pos (mem_range.mpr hp)]

/-- A group's heads of one parity. -/
theorem sum_parity (f : ℕ → ℝ) (g p : ℕ) (hp : p < 2) : (∑ h ∈ range 4, if p = (4 * g + h) % 2 then f (4 * g + h) else 0) = ∑ u ∈ range 2, f (4 * g + 2 * u + p) := by
  have h1 : 4 * g % 2 = 0 := by omega
  have h2 : (4 * g + 1) % 2 = 1 := by omega
  have h3 : (4 * g + 2) % 2 = 0 := by omega
  have h4 : (4 * g + 3) % 2 = 1 := by omega
  rcases (by omega : p = 0 ∨ p = 1) with rfl | rfl <;> simp [sum_range_succ, h1, h2, h3, h4]

end Cert.Softmax

end
-- ==== Proof.Host2.lean ====
/-
  What the host hands the grouped attention gradient's call: the forward pass by its own lines, read at an index, and the six
  arrays the call is given.
-/
module

public import proofs.«01_k».proof.Proof.Gen.Kernel2Ideal.Frame
public import proofs.«01_k».proof.Proof.Heads2
public import Idealize.ShloMosaic.Lib.Claim

@[expose] public section

set_option maxRecDepth 16384

noncomputable section

namespace Cert.Kernel2Ideal.Bwd

open Idealize.ShloMosaic Idealize.ShloMosaic.TcCoe Idealize.SL.Sem
open Idealize.ShloMosaic.Pipeline (Dat)
open Cert.Kernel2Ideal.Gen Cert.Softmax

/-! ## The host's lines as functions of the arguments -/

section Lines

variable (q : FVec Ideal S8x8192x64 .f32) (k v : FVec Ideal S2x8192x64 .f32)

/-- The scaled queries. -/
def scaled : FVec Ideal S8x8192x64 .f32 :=
  mulf q (broadcastInDim S8x8192x64 ![] bcast_S_S8x8192x64 (constant S_ .f32 0x3E000000#32))

/-- Each of two heads for the four query heads of its group. -/
def repeated (x : FVec Ideal S2x8192x64 .f32) : FVec Ideal S8x8192x64 .f32 :=
  shapeCast S8x8192x64 (broadcastInDim S2x4x8192x64 ![0, 1, 2, 3] bcast_S2x1x8192x64_S2x4x8192x64_0_1_2_3
    (broadcastInDim S2x1x8192x64 ![0, 2, 3] bcast_S2x8192x64_S2x1x8192x64_0_2_3 x)) shapeCasts_S2x4x8192x64_S8x8192x64

/-- The scores. -/
def scores : FVec Ideal S8x8192x8192 .f32 := Host.dotGeneral dot_S8x8192x64_S8x8192x64_S8x8192x8192_2_2_1_1_0_0 none (scaled q) (repeated k)

/-- Each row's largest score. -/
def largest : FVec Ideal S8x8192x1 .f32 :=
  broadcastInDim S8x8192x1 ![0, 1] bcast_S8x8192_S8x8192x1_0_1
    (Host.reduce FloatOps.maximumf (scores q k) (constant (F := Ideal) S_ .f32 0xFF800000#32) reducesTo_S8x8192x8192_S8x8192_d2 h_S_ : FVec Ideal S8x8192 .f32)

/-- The exponentials of the shifted scores. -/
def exps : FVec Ideal S8x8192x8192 .f32 :=
  Host.exp (subf (scores q k) (broadcastInDim S8x8192x8192 ![0, 1, 2] bcast_S8x8192x1_S8x8192x8192_0_1_2 (largest q k)))

/-- Each row's sum of exponentials. -/
def sums : FVec Ideal S8x8192x1 .f32 :=
  broadcastInDim S8x8192x1 ![0, 1] bcast_S8x8192_S8x8192x1_0_1
    (Host.reduceAdd (exps q k) (constant S_ .f32 0x00000000#32) reducesTo_S8x8192x8192_S8x8192_d2 h_S_)

/-- The attention's output. -/
def output : FVec Ideal S8x8192x64 .f32 :=
  Host.dotGeneral dot_S8x8192x8192_S8x8192x64_S8x8192x64_2_1_1_2_0_0 none
    (Host.divf (exps q k) (broadcastInDim S8x8192x8192 ![0, 1, 2] bcast_S8x8192x1_S8x8192x8192_0_1_2 (sums q k))) (repeated v)

/-- The logarithm of each row's sum, the shift taken back. -/
def logs : FVec Ideal S8x1x8192 .f32 := shapeCast S8x1x8192 (addf (largest q k) (Host.log (sums q k))) shapeCasts_S8x8192x1_S8x1x8192

/-- The heads of a token side by side, 64 lanes each. -/
def lanesOf (x : FVec Ideal S8x8192x64 .f32) : FVec Ideal S8192x512 .f32 :=
  shapeCast S8192x512 (transpose S8192x8x64 [1, 0, 2] x transposes_S8x8192x64_S8192x8x64_1_0_2) shapeCasts_S8192x8x64_S8192x512

/-- A token's heads of keys side by side, each of them twice. -/
def twice (x : FVec Ideal S2x8192x64 .f32) : FVec Ideal S8192x256 .f32 :=
  shapeCast S8192x256 (transpose S8192x2x128 [1, 0, 2]
    (concatenate S2x8192x128 2 [⟨S2x8192x64, x⟩, ⟨S2x8192x64, x⟩] concatenates_S2x8192x64_S2x8192x64_S2x8192x128_d2 : FVec Ideal S2x8192x128 .f32)
    transposes_S2x8192x128_S8192x2x128_1_0_2) shapeCasts_S8192x2x128_S8192x256

end Lines

/-! ## The call's six operands -/

section Operands

variable (m : (ℓ : Loc nD τ sig) → Buf (Elt Ideal) ℓ) (c : Dev nD)

abbrev arg0 : FVec Ideal S8x8192x64 .f32 := m ((c : Thread nD τ).loc main_arg0)
abbrev arg1 : FVec Ideal S2x8192x64 .f32 := m ((c : Thread nD τ).loc main_arg1)
abbrev arg2 : FVec Ideal S2x8192x64 .f32 := m ((c : Thread nD τ).loc main_arg2)
abbrev arg3 : FVec Ideal S8192x512 .f32 := m ((c : Thread nD τ).loc main_arg3)

/-- The call's operands: queries, keys, values, the output's gradient, the output and the logarithms of the row sums. -/
theorem operands :
    V m c main_v24 = truncf .bf16 (lanesOf (scaled (arg0 m c))) bitsLt_bf16_f32
    ∧ V m c main_v28 = truncf .bf16 (twice (arg1 m c)) bitsLt_bf16_f32
    ∧ V m c main_v32 = truncf .bf16 (twice (arg2 m c)) bitsLt_bf16_f32
    ∧ V m c main_v33 = truncf .bf16 (arg3 m c) bitsLt_bf16_f32
    ∧ V m c main_v35 = lanesOf (output (arg0 m c) (arg1 m c) (arg2 m c))
    ∧ V m c main_v21 = logs (arg0 m c) (arg1 m c) := by
  refine ⟨?_, ?_, ?_, ?_, ?_, ?_⟩
  all_goals
    simp only [V, hostOps0, List.flatten_cons,
      List.flatten_nil, List.append_nil, List.cons_append, List.nil_append, StableHlo.TRef.binary, StableHlo.TRef.unary, StableHlo.TRef.toBuf,
      StableHlo.TRef.ofBuf, cast_eq]
    after_results_simp
    try rfl

end Operands

end Cert.Kernel2Ideal.Bwd

end
-- ==== Proof.Forward2.lean ====
/-
  The grouped attention's forward pass by the host's lines, at an index, over the real numbers.
-/
module

public import proofs.«01_k».proof.Proof.Host2

@[expose] public section

set_option maxRecDepth 16384

noncomputable section

namespace Cert.Kernel2Ideal.Bwd

open Idealize.ShloMosaic Idealize.ShloMosaic.TcCoe
open Cert.Kernel2Ideal.Gen Cert.Softmax

section Reals

variable (q : S8x8192x64.Idx → ℝ) (k v : S2x8192x64.Idx → ℝ) (dy : S8192x512.Idx → ℝ)

theorem scaled_at (h : Fin 8) (a : Fin 8192) (d : Fin 64) : scaled (lift q) (ix3 h a d) = (((groupedOf q k v dy h).q a d : ℝ) : EReal) := by
  pointwise [scaled]
  rw [scale2_eq, lift_apply, ← EReal.coe_mul, ← at3_fin q]
  rfl

theorem repeated_at (x : FVec Ideal S2x8192x64 .f32) (h : Fin 8) (a : Fin 8192) (d : Fin 64) :
    repeated x (ix3 h a d) = x (ix3 ⟨h.val / 4, by omega⟩ a d) := by
  have hh := h.isLt
  have ha := a.isLt
  have hd := d.isLt
  pointwise [repeated]

theorem repeated_real (x : S2x8192x64.Idx → ℝ) (h : Fin 8) (a : Fin 8192) (d : Fin 64) :
    repeated (lift x) (ix3 h a d) = ((at3 x (h.val / 4) a.val d.val : ℝ) : EReal) := by
  rw [repeated_at, lift_apply, ← at3_fin x]

theorem scores_at (h : Fin 8) (a b : Fin 8192) : scores (lift q) (lift k) (ix3 h a b) = (((groupedOf q k v dy h).s a b : ℝ) : EReal) := by
  rw [groupedOf_s]
  pointwise [scores]
  refine Finset.sum_congr rfl fun d _ => ?_
  rw [scaled_at q k v dy, repeated_real k]
  rfl

theorem ofBits_bot : Ideal.ofBits .f32 0xFF800000#32 = ⊥ := by simp [Ideal.ofBits, Ideal.ieee]

theorem largest_eq (q : FVec Ideal S8x8192x64 .f32) (k : FVec Ideal S2x8192x64 .f32) (h : Fin 8) (a : Fin 8192) (M : EReal)
    (hM : Finset.univ.fold max ⊥ (fun b : Fin 8192 => scores q k (ix3 h a b)) = M) : largest q k (ix3 h a 0) = M := by
  pointwise [largest]
  rw [ofBits_bot, hM]

theorem sums_eq (q : FVec Ideal S8x8192x64 .f32) (k : FVec Ideal S2x8192x64 .f32) (h : Fin 8) (a : Fin 8192) (z : EReal)
    (hz : ∑ b : Fin 8192, exps q k (ix3 h a b) = z) : sums q k (ix3 h a 0) = z := by
  pointwise [sums]
  exact hz

theorem exps_eq (q : FVec Ideal S8x8192x64 .f32) (k : FVec Ideal S2x8192x64 .f32) (h : Fin 8) (a b : Fin 8192) :
    exps q k (ix3 h a b) = Ideal.exp (scores q k (ix3 h a b) - largest q k (ix3 h a 0)) := by
  pointwise [exps]

theorem output_eq (q : FVec Ideal S8x8192x64 .f32) (k v : FVec Ideal S2x8192x64 .f32) (h : Fin 8) (a : Fin 8192) (d : Fin 64) :
    output q k v (ix3 h a d) = ∑ b : Fin 8192, Ideal.div (exps q k (ix3 h a b)) (sums q k (ix3 h a 0)) * repeated v (ix3 h b d) := by
  pointwise [output]

theorem cast_at (x : FVec Ideal S8x8192x1 .f32) (h : Fin 8) (a : Fin 8192) : shapeCast S8x1x8192 x shapeCasts_S8x8192x1_S8x1x8192 (ix3 h 0 a) = x (ix3 h a 0) := by
  have hh := h.isLt
  have ha := a.isLt
  pointwise

theorem addLog_at (x z : FVec Ideal S8x8192x1 .f32) (i : S8x8192x1.Idx) : addf x (Host.log z) i = x i + Ideal.log (z i) := by
  pointwise

theorem logs_eq (q : FVec Ideal S8x8192x64 .f32) (k : FVec Ideal S2x8192x64 .f32) (h : Fin 8) (a : Fin 8192) :
    logs q k (ix3 h 0 a) = largest q k (ix3 h a 0) + Ideal.log (sums q k (ix3 h a 0)) := by
  rw [logs, cast_at, addLog_at]

theorem largest_at (h : Fin 8) (a : Fin 8192) : ∃ M : ℝ, largest (lift q) (lift k) (ix3 h a 0) = ((M : ℝ) : EReal) := by
  obtain ⟨M, hM⟩ := fold_max_coe (n := 8192) (by decide) fun b => (groupedOf q k 0 0 h).s a b
  refine ⟨M, largest_eq _ _ _ _ _ ?_⟩
  rw [← hM]
  exact congrArg (fun f => Finset.univ.fold max ⊥ f) (funext fun b => scores_at q k 0 0 h a b)

variable {q k} {h : Fin 8} {a : Fin 8192} {M : ℝ} (hM : largest (lift q) (lift k) (ix3 h a 0) = ((M : ℝ) : EReal))
include hM

theorem exps_at (b : Fin 8192) : exps (lift q) (lift k) (ix3 h a b) = ((Real.exp ((groupedOf q k v dy h).s a b - M) : ℝ) : EReal) := by
  rw [exps_eq, hM, scores_at q k v dy, ← EReal.coe_sub, Ideal.exp_coe]

theorem sums_at : sums (lift q) (lift k) (ix3 h a 0) = (((groupedOf q k v dy h).zs M a : ℝ) : EReal) := by
  rw [groupedOf_zs]
  exact sums_eq _ _ _ _ _ (Finset.sum_congr rfl fun b _ => exps_at v dy hM b)

theorem output_at (d : Fin 64) : output (lift q) (lift k) (lift v) (ix3 h a d)
    = ((∑ b ∈ Finset.range 8192, (groupedOf q k v dy h).p a b * (groupedOf q k v dy h).v b d : ℝ) : EReal) := by
  rw [output_eq, coe_range]
  refine Finset.sum_congr rfl fun b _ => ?_
  rw [exps_at v dy hM, sums_at v dy hM, div_coe_coe _ (Head.zs_pos _ _ _).ne', Head.shift, repeated_real v, ← EReal.coe_mul]
  rfl

theorem logs_at : logs (lift q) (lift k) (ix3 h 0 a) = ((M + Real.log ((groupedOf q k v dy h).zs M a) : ℝ) : EReal) := by
  rw [logs_eq, hM, sums_at v dy hM, log_coe_pos (Head.zs_pos _ _ _), ← EReal.coe_add]

end Reals

section Lanes

theorem lanesOf_at (x : FVec Ideal S8x8192x64 .f32) (f : ℕ → ℕ → ℕ → ℝ) (hf : ∀ (h : Fin 8) (a : Fin 8192) (d : Fin 64), x (ix3 h a d) = ((f h a d : ℝ) : EReal))
    (a : Fin 8192) (l : Fin 512) : lanesOf x (ix2 a l) = ((f (l / 64) a (l % 64) : ℝ) : EReal) := by
  have hl := l.isLt
  pointwise [lanesOf]
  rw [hf]

theorem twice_at (x : FVec Ideal S2x8192x64 .f32) (f : ℕ → ℕ → ℕ → ℝ) (hf : ∀ (h : Fin 2) (a : Fin 8192) (d : Fin 64), x (ix3 h a d) = ((f h a d : ℝ) : EReal))
    (a : Fin 8192) (l : Fin 256) : twice x (ix2 a l) = ((f (l / 128) a (l % 64) : ℝ) : EReal) := by
  have hl := l.isLt
  pointwise [twice]
  split
  · have e : l.val % 128 = l.val % 64 := by omega
    rw [hf]
    exact congrArg (fun d => ((f (l.val / 128) a.val d : ℝ) : EReal)) e
  · have e : l.val % 128 - 64 = l.val % 64 := by omega
    rw [hf]
    exact congrArg (fun d => ((f (l.val / 128) a.val d : ℝ) : EReal)) e

end Lanes

end Cert.Kernel2Ideal.Bwd

end
-- ==== Proof.Step2.lean ====
/-
  What one run of the grouped attention gradient's body computes, as plain functions of the blocks it is given: per
  head `h` of a group and per chunk `c` of 512 keys, what the body adds to the key and value gradients' tile of that
  chunk, and the rows it adds to the query gradient. Two heads share 128 lanes, 64 lanes each; the four heads of a
  group share their keys and values, which the blocks hold twice, once for each half of the lanes.
-/
module

public import proofs.«01_k».proof.Proof.Gen.Kernel2Ideal.Frame
public import proofs.«01_k».proof.Proof.Gen.Kernel2Ideal.Skeleton
public import Idealize.ShloMosaic.Lib.WritesUnit
public import Idealize.ShloMosaic.Lib.Pipeline.ValueKit

@[expose] public section

set_option maxRecDepth 16384

noncomputable section

namespace Cert.Kernel2Ideal.Bwd

open Idealize.ShloMosaic Idealize.ShloMosaic.TcCoe
open Cert.Kernel2Ideal.Gen

variable {F : FTy → Type} [FloatOps F]

/-! ## Rectangles -/

/-- Lanes `128 p ..< 128 (p + 1)` of a block of 512 rows: the lanes of a pair of heads. -/
abbrev lanesRect (p : Fin 2) : Rect S512x256 :=
  Rect.unit ![0, 128 * p.val] S512x128.size fun a => by
    match a with
    | ⟨0, _⟩ => exact Nat.le_refl _
    | ⟨1, _⟩ => have := p.isLt; show 128 * p.val + 128 ≤ 256; omega

/-- Rows `512 c ..< 512 (c + 1)` of a block of keys or values. -/
abbrev keysRect (c : Fin 8) : Rect S4096x128 :=
  Rect.unit ![512 * c.val, 0] S512x128.size fun a => by
    match a with
    | ⟨0, _⟩ => have := c.isLt; show 512 * c.val + 512 ≤ 4096; omega
    | ⟨1, _⟩ => exact Nat.le_refl _

/-- Row `h` of a block of row sums. -/
abbrev sumsRect (h : Fin 4) : Rect S4x1x512 :=
  Rect.unit ![h.val, 0, 0] S1x1x512.size fun a => by
    match a with
    | ⟨0, _⟩ => have := h.isLt; show h.val + 1 ≤ 4; omega
    | ⟨1, _⟩ => exact Nat.le_refl _
    | ⟨2, _⟩ => exact Nat.le_refl _

/-- The tile of chunk `c` in a block of transposed key or value gradients. -/
abbrev tileRect (c : Fin 8) : Rect S128x4096 :=
  Rect.unit ![0, 512 * c.val] S128x512.size fun a => by
    match a with
    | ⟨0, _⟩ => exact Nat.le_refl _
    | ⟨1, _⟩ => have := c.isLt; show 512 * c.val + 512 ≤ 4096; omega

/-- Where the rows of the query gradient that belong to point `i` start, for pair `h` of heads. -/
abbrev dqOff (i : grid0.Coords) (h : Fin 2) : Fin 2 → ℕ :=
  match h with
  | ⟨0, _⟩ => k0_off1 i
  | ⟨1, _⟩ => k0_off2 i

theorem dqOff_eq (i : grid0.Coords) (h : Fin 2) : dqOff i h = ![512 * (i 2).val, 128 * h.val] := by
  match h with
  | ⟨0, _⟩ => exact k0_off1_eq i
  | ⟨1, _⟩ => exact k0_off2_eq i

theorem dqOff_inb (i : grid0.Coords) (h : Fin 2) : ∀ a, dqOff i h a + S512x128.size a ≤ S8192x256.size a := by
  match h with
  | ⟨0, _⟩ => exact k0_off1_inb i
  | ⟨1, _⟩ => exact k0_off2_inb i

/-- The rows of the query gradient that belong to point `i`, lanes of pair `h` of heads. -/
abbrev rowsRect (i : grid0.Coords) (h : Fin 2) : Rect S8192x256 := Rect.unit (dqOff i h) S512x128.size (dqOff_inb i h)

/-! ## The blocks of one point and what the body makes of them -/

/-- The six blocks a point of the grid is given: queries, keys, values, the output's gradient, the output, and the
    logarithms of the row sums. -/
structure Blocks (F : FTy → Type) where
  q : Vec F S512x256 .bf16
  k : Vec F S4096x128 .bf16
  v : Vec F S4096x128 .bf16
  dy : Vec F S512x256 .bf16
  y : Vec F S512x256 .f32
  lse : Vec F S4x1x512 .f32

/-- The lanes of head `h` among its pair's. -/
def keep : Fin 4 → IVec S512x128 1
  | ⟨0, _⟩ => k0_pay6
  | ⟨1, _⟩ => k0_pay7
  | ⟨2, _⟩ => k0_pay6
  | ⟨3, _⟩ => k0_pay7

/-- The pair of head `h`. -/
def pair : Fin 4 → Fin 2
  | ⟨0, _⟩ => 0
  | ⟨1, _⟩ => 0
  | ⟨2, _⟩ => 1
  | ⟨3, _⟩ => 1

namespace Blocks

variable (B : Blocks F)

def qh (h : Fin 4) : Vec F S512x128 .bf16 := View.ld B.q (lanesRect (pair h))
def dyh (h : Fin 4) : Vec F S512x128 .bf16 := View.ld B.dy (lanesRect (pair h))
def yh (h : Fin 4) : Vec F S512x128 .f32 := View.ld B.y (lanesRect (pair h))
def lseh (h : Fin 4) : Vec F S1x1x512 .f32 := View.ld B.lse (sumsRect h)
def kc (c : Fin 8) : Vec F S512x128 .bf16 := View.ld B.k (keysRect c)
def vc (c : Fin 8) : Vec F S512x128 .bf16 := View.ld B.v (keysRect c)

/-- The scores of head `h` against the keys of chunk `c`. -/
def scores (h : Fin 4) (c : Fin 8) : FVec F S512x512 .f32 := k0_pay36 (k0_pay14 (keep h) (B.qh h)) (B.kc c)

/-- The gradient of those scores. -/
def ds (h : Fin 4) (c : Fin 8) : FVec F S512x512 .bf16 :=
  k0_pay48 (k0_pay16 (keep h) (B.dyh h) (B.yh h)) (k0_pay17 (B.lseh h)) (B.scores h c) (k0_pay39 (k0_pay15 (keep h) (B.dyh h)) (B.vc c))

/-- The value gradient's tile after head `h`, from the tile before it. -/
def dvTile (h : Fin 4) (c : Fin 8) (old : Vec F S128x512 .f32) : Vec F S128x512 .f32 :=
  k0_pay49 (k0_pay17 (B.lseh h)) (k0_pay19 (keep h) (B.dyh h)) (B.scores h c) old

/-- The key gradient's tile after head `h`, from the tile before it. -/
def dkTile (h : Fin 4) (c : Fin 8) (old : Vec F S128x512 .f32) : Vec F S128x512 .f32 :=
  k0_pay58 (k0_pay18 (keep h) (B.qh h)) (B.ds h c) old

/-- The query gradient that the point's keys contribute to head `h`, chunk after chunk. -/
def dqSum (h : Fin 4) : List (Fin 8) → FVec F S512x128 .f32 → FVec F S512x128 .f32
  | [], acc => acc
  | c :: cs, acc => dqSum h cs (k0_pay59 acc (B.ds h c) (B.kc c))

/-- All chunks. -/
def dqHead (h : Fin 4) : FVec F S512x128 .f32 := B.dqSum h [0, 1, 2, 3, 4, 5, 6, 7] k0_pay32

/-- The query gradient's rows of pair `p` after the point, from the rows before it. -/
def dqRows (p : Fin 2) (old : Vec F S512x128 .f32) : Vec F S512x128 .f32 :=
  match p with
  | ⟨0, _⟩ => k0_pay1 k0_pay6 (B.dqHead 0) (B.dqHead 1) old
  | ⟨1, _⟩ => k0_pay1 k0_pay6 (B.dqHead 2) (B.dqHead 3) old

/-- The value gradient's tile after the group's four heads. -/
def dvTiles (c : Fin 8) (old : Vec F S128x512 .f32) : Vec F S128x512 .f32 := B.dvTile 3 c (B.dvTile 2 c (B.dvTile 1 c (B.dvTile 0 c old)))

/-- The key gradient's tile after the group's four heads. -/
def dkTiles (c : Fin 8) (old : Vec F S128x512 .f32) : Vec F S128x512 .f32 := B.dkTile 3 c (B.dkTile 2 c (B.dkTile 1 c (B.dkTile 0 c old)))

end Blocks

/-! ## A whole block from its tiles -/

/-- The block whose tile of chunk `c` is `T c`. -/
def ofTiles {α : Type} (T : Fin 8 → S128x512.Idx → α) : S128x4096.Idx → α := fun y =>
  T ⟨(y 1).val / 512, by have : (y 1).val < 4096 := (y 1).isLt; omega⟩ (ix2 (y 0) ⟨(y 1).val % 512, Nat.mod_lt _ (by decide)⟩)

theorem ofTiles_emb {α : Type} (T : Fin 8 → S128x512.Idx → α) (c : Fin 8) (x : S128x512.Idx) : ofTiles T ((tileRect c).emb x) = T c x := by
  have e0 : ((tileRect c).emb x 0).val = 0 + 1 * (x 0).val := rfl
  have e1 : ((tileRect c).emb x 1).val = 512 * c.val + 1 * (x 1).val := rfl
  have h1 : (x 1).val < 512 := (x 1).isLt
  have key : ∀ c' x', c' = c → x' = x → T c' x' = T c x := by rintro _ _ rfl rfl; rfl
  refine key _ _ (Fin.ext ?_) (funext fun a => ?_)
  · show _ / 512 = c.val; rw [e1]; omega
  · match a with
    | ⟨0, _⟩ => exact Fin.ext (by show ((tileRect c).emb x 0).val = (x 0).val; rw [e0]; omega)
    | ⟨1, _⟩ => exact Fin.ext (by show ((tileRect c).emb x 1).val % 512 = (x 1).val; rw [e1]; omega)

section Read

variable {sp : Space} (v : View sig .tc sp S128x4096 .f32) (f : v.ty.Contents (Elt F)) (T : Fin 4 → Fin 8 → Vec F S128x512 .f32 → Vec F S128x512 .f32)

/-- The stores of tile after tile, the last one first: each adds to what its tile held, which the first head loads from
    the buffer as it was and each later head from the stores before. -/
def stores : List (Fin 4 × Fin 8) → List (View.Piece (Elt F) S128x4096 .f32)
  | [] => []
  | (h, c) :: s => ⟨tileRect c, T h c (match h with
      | ⟨0, _⟩ => v.readAt (Elt F) (tileRect c).toLoadRect f
      | ⟨_ + 1, _⟩ => v.readCov (stores s) (tileRect c).toLoadRect)⟩ :: stores s

/-- A later head's store put first. -/
theorem stores_later (h : Fin 4) (c : Fin 8) (s : List (Fin 4 × Fin 8)) {x : View.Piece (Elt F) S128x4096 .f32} {P : List (View.Piece (Elt F) S128x4096 .f32)} (hh : h ≠ 0)
    (ex : x = ⟨tileRect c, T h c (v.readCov P (tileRect c).toLoadRect)⟩) (e : P = stores v f T s) : x :: P = stores v f T ((h, c) :: s) := by
  subst ex e
  match h, hh with
  | ⟨0, _⟩, hh => exact absurd rfl hh
  | ⟨_ + 1, _⟩, _ => rfl

/-- The first head's store put first. -/
theorem stores_first (c : Fin 8) (s : List (Fin 4 × Fin 8)) {x : View.Piece (Elt F) S128x4096 .f32} {P : List (View.Piece (Elt F) S128x4096 .f32)}
    (ex : x = ⟨tileRect c, T 0 c (v.readAt (Elt F) (tileRect c).toLoadRect f)⟩) (e : P = stores v f T s) : x :: P = stores v f T ((0, c) :: s) := by
  subst ex e
  rfl

/-- What the tile of chunk `c` holds after them. -/
def latest (old : Vec F S128x512 .f32) (c : Fin 8) : List (Fin 4 × Fin 8) → Vec F S128x512 .f32
  | [] => old
  | (h, c') :: s => if c' = c then T h c (latest old c s) else latest old c s

/-- Every tile is stored by the first head once, before all others. -/
def ordered : List (Fin 4 × Fin 8) → Bool
  | [] => true
  | (h, c) :: s => (decide (h = 0) == !decide (c ∈ s.map Prod.snd)) && ordered s

omit [FloatOps F] in
theorem latest_fresh (old : Vec F S128x512 .f32) (c : Fin 8) : ∀ s : List (Fin 4 × Fin 8), c ∉ s.map Prod.snd → latest T old c s = old
  | [], _ => rfl
  | (h, c') :: s, hc => by
    rw [List.map_cons, List.mem_cons, not_or] at hc
    exact (if_neg (Ne.symm hc.1)).trans (latest_fresh old c s hc.2)

theorem mem_stores (c : Fin 8) : ∀ s : List (Fin 4 × Fin 8), c ∈ s.map Prod.snd → ∃ p ∈ stores v f T s, p.1 = tileRect c
  | [], hc => absurd hc List.not_mem_nil
  | (h, c') :: s, hc => by
    rcases List.mem_cons.mp hc with e | hc
    · exact ⟨_, List.mem_cons_self, congrArg tileRect e.symm⟩
    · obtain ⟨p, hp, e⟩ := mem_stores c s hc
      exact ⟨p, List.mem_cons_of_mem _ hp, e⟩

theorem read_stores (c : Fin 8) : ∀ s : List (Fin 4 × Fin 8), ordered s = true →
    v.readAt (Elt F) (tileRect c).toLoadRect (v.writes (Elt F) f (stores v f T s)) = latest T (v.readAt (Elt F) (tileRect c).toLoadRect f) c s
  | [], _ => rfl
  | (h, c') :: s, hs => by
    obtain ⟨h1, h2⟩ := (Bool.and_eq_true _ _).mp hs
    by_cases e : c' = c
    · subst e
      refine Eq.trans ?_ (if_pos rfl).symm
      rw [← read_stores c' s h2]
      refine (funext fun x => View.read_writes_cons_emb v f (tileRect c') _ (stores v f T s) x : _ = T h c' _).trans (congrArg (T h c') ?_)
      match h, h1 with
      | ⟨0, _⟩, h1 =>
        have hc : c' ∉ s.map Prod.snd := by simpa using h1
        rw [read_stores c' s h2, latest_fresh T _ c' s hc]
      | ⟨n + 1, _⟩, h1 =>
        have hc : c' ∈ s.map Prod.snd := by simpa using h1
        obtain ⟨p, hp, e⟩ := mem_stores v f T c' s hc
        exact (View.readAt_writes_of_cover v f _ _ fun j => ⟨p, hp, by rw [e]; exact (tileRect c').toLoadRect.idx_mem j⟩).symm
    · refine Eq.trans ?_ (if_neg e).symm
      rw [← read_stores c s h2]
      funext x
      refine View.read_writes_cons_miss_of_axis v f _ _ _ 1 (512 * c'.val) 512 rfl rfl rfl ?_
      have hx : (x 1).val < 512 := (x 1).isLt
      show 512 * c.val + 1 * (x 1).val < 512 * c'.val ∨ 512 * c'.val + 512 ≤ 512 * c.val + 1 * (x 1).val
      omega

/-- The body's order: head after head, each through all chunks; the last store first. -/
abbrev storeOrder : List (Fin 4 × Fin 8) :=
  [(3, 7), (3, 6), (3, 5), (3, 4), (3, 3), (3, 2), (3, 1), (3, 0), (2, 7), (2, 6), (2, 5), (2, 4), (2, 3), (2, 2), (2, 1), (2, 0),
    (1, 7), (1, 6), (1, 5), (1, 4), (1, 3), (1, 2), (1, 1), (1, 0), (0, 7), (0, 6), (0, 5), (0, 4), (0, 3), (0, 2), (0, 1), (0, 0)]

/-- After all stores the buffer reads the block of the tiles as the last head leaves them. -/
theorem read_tiles : v.read (Elt F) (v.writes (Elt F) f (stores v f T storeOrder))
    = ofTiles fun c => T 3 c (T 2 c (T 1 c (T 0 c (View.ld (v.read (Elt F) f) (tileRect c))))) := by
  funext y
  have h1 : (y 1).val < 4096 := (y 1).isLt
  obtain ⟨c, x, rfl⟩ : ∃ (c : Fin 8) (x : S128x512.Idx), (tileRect c).emb x = y := by
    refine ⟨⟨(y 1).val / 512, by omega⟩, ix2 (y 0) ⟨(y 1).val % 512, Nat.mod_lt _ (by decide)⟩, funext fun a => Fin.ext ?_⟩
    match a with
    | ⟨0, _⟩ => show 0 + 1 * (y 0).val = (y 0).val; omega
    | ⟨1, _⟩ => show 512 * ((y 1).val / 512) + 1 * ((y 1).val % 512) = (y 1).val; omega
  rw [ofTiles_emb]
  refine (congrFun (read_stores v f T c storeOrder (by decide)) x).trans ?_
  fin_cases c <;> rfl

end Read

/-- The rows of point `i` replaced, pair by pair, the other rows kept. -/
def putRows {α : Type} (i : grid0.Coords) (T : Fin 2 → S512x128.Idx → α) (old : S8192x256.Idx → α) : S8192x256.Idx → α := fun y =>
  if (y 0).val / 512 = (i 2).val then
    T ⟨(y 1).val / 128, by have : (y 1).val < 256 := (y 1).isLt; omega⟩ (ix2 ⟨(y 0).val % 512, Nat.mod_lt _ (by decide)⟩ ⟨(y 1).val % 128, Nat.mod_lt _ (by decide)⟩)
  else old y

section ReadRows

variable {sp : Space} (v : View sig .tc sp S8192x256 .f32) (f : v.ty.Contents (Elt F))

/-- A buffer after the stores of point `i`'s rows, one per pair of heads, reads those rows replaced. -/
theorem read_rows (i : grid0.Coords) (T : Fin 2 → S512x128.Idx → Elt F .f32) :
    v.read (Elt F) (v.writes (Elt F) f [⟨rowsRect i 1, T 1⟩, ⟨rowsRect i 0, T 0⟩]) = putRows i T (v.read (Elt F) f) := by
  funext y
  have h0 : (y 0).val < 8192 := (y 0).isLt
  have h1 : (y 1).val < 256 := (y 1).isLt
  unfold putRows
  by_cases hr : (y 0).val / 512 = (i 2).val
  · rw [if_pos hr]
    have key : ∀ h' : Fin 2, h'.val = (y 1).val / 128 → T h' (ix2 ⟨(y 0).val % 512, Nat.mod_lt _ (by decide)⟩ ⟨(y 1).val % 128, Nat.mod_lt _ (by decide)⟩)
        = T ⟨(y 1).val / 128, by omega⟩ (ix2 ⟨(y 0).val % 512, Nat.mod_lt _ (by decide)⟩ ⟨(y 1).val % 128, Nat.mod_lt _ (by decide)⟩) := by
      intro h' e
      rw [Fin.ext (b := ⟨(y 1).val / 128, by omega⟩) e]
    by_cases hl : (y 1).val < 128
    · refine (View.read_writes_cons_unit_of_not_mem (size := S512x128.size) v f _ _ _ y (dqOff_eq i 1) 1 (.inl hl)).trans ?_
      refine (View.read_writes_cons_unit_of_mem (size := S512x128.size) v f _ _ _ y (ix2 ⟨(y 0).val % 512, Nat.mod_lt _ (by decide)⟩ ⟨(y 1).val % 128, Nat.mod_lt _ (by decide)⟩) (dqOff_eq i 0) ?_).trans
        (key 0 (by show 0 = (y 1).val / 128; omega))
      intro a
      match a with
      | ⟨0, _⟩ => show (y 0).val = 512 * (i 2).val + (y 0).val % 512; omega
      | ⟨1, _⟩ => show (y 1).val = 128 * 0 + (y 1).val % 128; omega
    · refine (View.read_writes_cons_unit_of_mem (size := S512x128.size) v f _ _ _ y (ix2 ⟨(y 0).val % 512, Nat.mod_lt _ (by decide)⟩ ⟨(y 1).val % 128, Nat.mod_lt _ (by decide)⟩) (dqOff_eq i 1) ?_).trans
        (key 1 (by show 1 = (y 1).val / 128; omega))
      intro a
      match a with
      | ⟨0, _⟩ => show (y 0).val = 512 * (i 2).val + (y 0).val % 512; omega
      | ⟨1, _⟩ => show (y 1).val = 128 * 1 + (y 1).val % 128; omega
  · rw [if_neg hr]
    have ho : ∀ h, (y 0).val < (![512 * (i 2).val, 128 * h] : Fin 2 → ℕ) 0 ∨ (![512 * (i 2).val, 128 * h] : Fin 2 → ℕ) 0 + S512x128.size 0 ≤ (y 0).val := fun h => by
      show (y 0).val < 512 * (i 2).val ∨ 512 * (i 2).val + 512 ≤ (y 0).val; omega
    exact (View.read_writes_cons_unit_of_not_mem (size := S512x128.size) v f _ _ _ y (dqOff_eq i 1) 0 (ho _)).trans
      (View.read_writes_cons_unit_of_not_mem (size := S512x128.size) v f _ _ _ y (dqOff_eq i 0) 0 (ho _))

end ReadRows

/-! ## The three output blocks after a point, from the blocks before it -/

namespace Blocks

variable (B : Blocks F)

def dvNew (old : Vec F S128x4096 .f32) : Vec F S128x4096 .f32 := ofTiles fun c => B.dvTiles c (View.ld old (tileRect c))
def dkNew (old : Vec F S128x4096 .f32) : Vec F S128x4096 .f32 := ofTiles fun c => B.dkTiles c (View.ld old (tileRect c))
def dqNew (i : grid0.Coords) (old : Vec F S8192x256 .f32) : Vec F S8192x256 .f32 := putRows i (fun p => B.dqRows p (View.ld old (rowsRect i p))) old

end Blocks

end Cert.Kernel2Ideal.Bwd

end
-- ==== Proof.Tiles2.lean ====
/-
  The tiles of the grouped attention gradient's body over the real numbers: where the blocks it is given hold rows of
  real arrays, each tile it adds is a sum of products of those rows.
-/
module

public import proofs.«01_k».proof.Proof.Step2
public import proofs.«01_k».proof.Proof.Softmax
public import Idealize.ShloMosaic.Lib.Pointwise

@[expose] public section

set_option maxRecDepth 16384

noncomputable section

namespace Cert.Kernel2Ideal.Bwd

open Idealize.ShloMosaic Idealize.ShloMosaic.TcCoe
open Cert.Kernel2Ideal.Gen Cert.Softmax

/-! ## The payloads at an index -/

theorem lower : ∀ x : Fin 128, IntOp.cmpi .slt (BitVec.ofNat 32 x.val) 64#32 = if x.val / 64 = 0 then 1#1 else 0#1 := by decide

theorem upper : ∀ x : Fin 128, IntOp.cmpi .sge (BitVec.ofNat 32 x.val) 64#32 = if x.val / 64 = 1 then 1#1 else 0#1 := by decide

/-- Head `h` keeps the half of its pair's lanes that its parity names. -/
theorem keep_at (h : Fin 4) (r : Fin 512) (x : Fin 128) : keep h (ix2 r x) = if x.val / 64 = h.val % 2 then 1#1 else 0#1 := by
  have e6 : ∀ n : ℕ, n = 0 → k0_pay6 (ix2 r x) = if x.val / 64 = n then 1#1 else 0#1 := by
    rintro _ rfl
    pointwise [k0_pay6]
    exact lower x
  have e7 : ∀ n : ℕ, n = 1 → k0_pay7 (ix2 r x) = if x.val / 64 = n then 1#1 else 0#1 := by
    rintro _ rfl
    pointwise [k0_pay7]
    exact upper x
  match h with
  | ⟨0, _⟩ => exact e6 _ (by simp)
  | ⟨1, _⟩ => exact e7 _ (by simp)
  | ⟨2, _⟩ => exact e6 _ (by simp)
  | ⟨3, _⟩ => exact e7 _ (by simp)

theorem select_eq {α : Type} (c : BitVec 1) (a b : α) : Scalar.select c a b = if c = 1#1 then a else b := rfl

theorem pay14_at (m : IVec S512x128 1) (q : FVec Ideal S512x128 .bf16) (i : S512x128.Idx) :
    k0_pay14 (F := Ideal) m q i = if m i = 1#1 then q i else 0 := by
  pointwise [k0_pay14]
  exact select_eq _ _ _

theorem pay15_at (m : IVec S512x128 1) (q : FVec Ideal S512x128 .bf16) (i : S512x128.Idx) :
    k0_pay15 (F := Ideal) m q i = if m i = 1#1 then q i else 0 := by
  pointwise [k0_pay15]
  exact select_eq _ _ _

theorem pay16_at (m : IVec S512x128 1) (dy : FVec Ideal S512x128 .bf16) (y : FVec Ideal S512x128 .f32) (r : Fin 512) :
    k0_pay16 (F := Ideal) m dy y (ix2 r 0) = ∑ x, k0_pay15 (F := Ideal) m dy (ix2 r x) * y (ix2 r x) := by
  pointwise [k0_pay16]

theorem pay17_at (l : FVec Ideal S1x1x512 .f32) (r : Fin 512) : k0_pay17 (F := Ideal) l (ix2 r 0) = l (ix3 0 0 r) := by
  pointwise [k0_pay17]

theorem pay18_at (m : IVec S512x128 1) (q : FVec Ideal S512x128 .bf16) (d : Fin 128) (r : Fin 512) :
    k0_pay18 (F := Ideal) m q (ix2 d r) = k0_pay14 (F := Ideal) m q (ix2 r d) := by
  pointwise [k0_pay18]

theorem pay19_at (m : IVec S512x128 1) (q : FVec Ideal S512x128 .bf16) (d : Fin 128) (r : Fin 512) :
    k0_pay19 (F := Ideal) m q (ix2 d r) = k0_pay15 (F := Ideal) m q (ix2 r d) := by
  pointwise [k0_pay19]

theorem pay36_at (q k : FVec Ideal S512x128 .bf16) (r b : Fin 512) : k0_pay36 (F := Ideal) q k (ix2 r b) = ∑ x, q (ix2 r x) * k (ix2 b x) := by
  pointwise [k0_pay36]

theorem pay39_at (q k : FVec Ideal S512x128 .bf16) (r b : Fin 512) : k0_pay39 (F := Ideal) q k (ix2 r b) = ∑ x, q (ix2 r x) * k (ix2 b x) := by
  pointwise [k0_pay39]

theorem pay48_at (dl ls : FVec Ideal S512x1 .f32) (s dp : FVec Ideal S512x512 .f32) (r b : Fin 512) :
    k0_pay48 (F := Ideal) dl ls s dp (ix2 r b) = Ideal.exp (s (ix2 r b) - ls (ix2 r 0)) * (dp (ix2 r b) - dl (ix2 r 0)) := by
  pointwise [k0_pay48, k0_pay47]

theorem pay49_at (ls : FVec Ideal S512x1 .f32) (dy : FVec Ideal S128x512 .bf16) (s : FVec Ideal S512x512 .f32) (old : FVec Ideal S128x512 .f32)
    (d : Fin 128) (b : Fin 512) :
    k0_pay49 (F := Ideal) ls dy s old (ix2 d b) = old (ix2 d b) + ∑ x, dy (ix2 d x) * Ideal.exp (s (ix2 x b) - ls (ix2 x 0)) := by
  pointwise [k0_pay49, k0_pay47]

theorem pay58_at (q : FVec Ideal S128x512 .bf16) (s : FVec Ideal S512x512 .bf16) (old : FVec Ideal S128x512 .f32) (d : Fin 128) (b : Fin 512) :
    k0_pay58 (F := Ideal) q s old (ix2 d b) = old (ix2 d b) + ∑ x, q (ix2 d x) * s (ix2 x b) := by
  pointwise [k0_pay58]

theorem pay59_at (acc : FVec Ideal S512x128 .f32) (s : FVec Ideal S512x512 .bf16) (k : FVec Ideal S512x128 .bf16) (r : Fin 512) (d : Fin 128) :
    k0_pay59 (F := Ideal) acc s k (ix2 r d) = acc (ix2 r d) + ∑ x, s (ix2 r x) * k (ix2 x d) := by
  pointwise [k0_pay59]

theorem pay1_at (m : IVec S512x128 1) (a b : FVec Ideal S512x128 .f32) (old : FVec Ideal S512x128 .f32) (i : S512x128.Idx) :
    k0_pay1 (F := Ideal) m a b old i = old i + if m i = 1#1 then a i else b i := by
  pointwise [k0_pay1]
  rw [select_eq]

theorem pay32_at (r : Fin 512) (d : Fin 128) : k0_pay32 (F := Ideal) (ix2 r d) = 0 := by
  pointwise [k0_pay32]

/-! ## Rows of real arrays -/

/-- The arrays the call is given, as real numbers by row and lane (the log-sums by head and row). -/
structure Rows where
  q : ℕ → ℕ → ℝ
  k : ℕ → ℕ → ℝ
  v : ℕ → ℕ → ℝ
  dy : ℕ → ℕ → ℝ
  y : ℕ → ℕ → ℝ
  lse : ℕ → ℕ → ℝ

namespace Rows

variable (X : Rows)

/-- Head `h`'s queries among its pair's 128 lanes, zero in the other head's half. -/
def qm (h a x : ℕ) : ℝ := if x / 64 = h % 2 then X.q a (128 * (h / 2) + x) else 0

/-- Head `h`'s gradient of the output likewise. -/
def dym (h a x : ℕ) : ℝ := if x / 64 = h % 2 then X.dy a (128 * (h / 2) + x) else 0

/-- The softmax of head `h`, from the saved log-sum. -/
def p (h a b : ℕ) : ℝ := Real.exp (∑ x ∈ Finset.range 128, X.qm h a x * X.k b (128 * (h / 4) + x) - X.lse h a)

/-- The gradient of head `h`'s scores. -/
def ds (h a b : ℕ) : ℝ := X.p h a b * (∑ x ∈ Finset.range 128, X.dym h a x * X.v b (128 * (h / 4) + x)
  - ∑ x ∈ Finset.range 128, X.dym h a x * X.y a (128 * (h / 2) + x))

end Rows

/-- The blocks hold the rows of `X` that point `(g, j, i)` of the grid is given. -/
structure Blocks.Holds (B : Blocks Ideal) (X : Rows) (g j i : ℕ) : Prop where
  q : ∀ (a : Fin 512) (l : Fin 256), B.q (ix2 a l) = ((X.q (512 * i + a.val) (256 * g + l.val) : ℝ) : EReal)
  k : ∀ (b : Fin 4096) (l : Fin 128), B.k (ix2 b l) = ((X.k (4096 * j + b.val) (128 * g + l.val) : ℝ) : EReal)
  v : ∀ (b : Fin 4096) (l : Fin 128), B.v (ix2 b l) = ((X.v (4096 * j + b.val) (128 * g + l.val) : ℝ) : EReal)
  dy : ∀ (a : Fin 512) (l : Fin 256), B.dy (ix2 a l) = ((X.dy (512 * i + a.val) (256 * g + l.val) : ℝ) : EReal)
  y : ∀ (a : Fin 512) (l : Fin 256), B.y (ix2 a l) = ((X.y (512 * i + a.val) (256 * g + l.val) : ℝ) : EReal)
  lse : ∀ (h : Fin 4) (a : Fin 512), B.lse (ix3 h 0 a) = ((X.lse (4 * g + h.val) (512 * i + a.val) : ℝ) : EReal)

theorem pair_val (h : Fin 4) : (pair h).val = h.val / 2 := by
  revert h; decide

namespace Blocks.Holds

variable {B : Blocks Ideal} {X : Rows} {g j i : ℕ} (H : B.Holds X g j i)
include H

/-- The queries of head `h`, zero in the other half. -/
theorem qm_at (h : Fin 4) (a : Fin 512) (x : Fin 128) : k0_pay14 (F := Ideal) (keep h) (B.qh h) (ix2 a x) = ((X.qm (4 * g + h.val) (512 * i + a.val) x.val : ℝ) : EReal) := by
  have hp := pair_val h
  have e : B.qh h (ix2 a x) = ((X.q (512 * i + a.val) (128 * ((4 * g + h.val) / 2) + x.val) : ℝ) : EReal) := by
    unfold Blocks.qh
    pointwise
    refine (H.q _ _).trans ?_
    congr 2; show 256 * g + (128 * (pair h).val + x.val) = _; omega
  rw [pay14_at, keep_at, e, Rows.qm, show (4 * g + h.val) % 2 = h.val % 2 by omega]
  by_cases c : x.val / 64 = h.val % 2
  · rw [if_pos c, if_pos rfl, if_pos c]
  · rw [if_neg c, if_neg (by decide), if_neg c, EReal.coe_zero]

/-- The output's gradient of head `h` likewise. -/
theorem dym_at (h : Fin 4) (a : Fin 512) (x : Fin 128) : k0_pay15 (F := Ideal) (keep h) (B.dyh h) (ix2 a x) = ((X.dym (4 * g + h.val) (512 * i + a.val) x.val : ℝ) : EReal) := by
  have hp := pair_val h
  have e : B.dyh h (ix2 a x) = ((X.dy (512 * i + a.val) (128 * ((4 * g + h.val) / 2) + x.val) : ℝ) : EReal) := by
    unfold Blocks.dyh
    pointwise
    refine (H.dy _ _).trans ?_
    congr 2; show 256 * g + (128 * (pair h).val + x.val) = _; omega
  rw [pay15_at, keep_at, e, Rows.dym, show (4 * g + h.val) % 2 = h.val % 2 by omega]
  by_cases c : x.val / 64 = h.val % 2
  · rw [if_pos c, if_pos rfl, if_pos c]
  · rw [if_neg c, if_neg (by decide), if_neg c, EReal.coe_zero]

theorem yh_at (h : Fin 4) (a : Fin 512) (x : Fin 128) : B.yh h (ix2 a x) = ((X.y (512 * i + a.val) (128 * ((4 * g + h.val) / 2) + x.val) : ℝ) : EReal) := by
  have hp := pair_val h
  unfold Blocks.yh
  pointwise
  refine (H.y _ _).trans ?_
  congr 2; show 256 * g + (128 * (pair h).val + x.val) = _; omega

theorem lseh_at (h : Fin 4) (a : Fin 512) : B.lseh h (ix3 0 0 a) = ((X.lse (4 * g + h.val) (512 * i + a.val) : ℝ) : EReal) := by
  unfold Blocks.lseh
  pointwise
  exact H.lse _ _

theorem kc_at (h : Fin 4) (c : Fin 8) (b : Fin 512) (x : Fin 128) :
    B.kc c (ix2 b x) = ((X.k (4096 * j + 512 * c.val + b.val) (128 * ((4 * g + h.val) / 4) + x.val) : ℝ) : EReal) := by
  have hh := h.isLt
  unfold Blocks.kc
  pointwise
  refine (H.k _ _).trans ?_
  congr 2
  · show 4096 * j + (512 * c.val + b.val) = _; omega
  · show 128 * g + x.val = _; omega

theorem vc_at (h : Fin 4) (c : Fin 8) (b : Fin 512) (x : Fin 128) :
    B.vc c (ix2 b x) = ((X.v (4096 * j + 512 * c.val + b.val) (128 * ((4 * g + h.val) / 4) + x.val) : ℝ) : EReal) := by
  have hh := h.isLt
  unfold Blocks.vc
  pointwise
  refine (H.v _ _).trans ?_
  congr 2
  · show 4096 * j + (512 * c.val + b.val) = _; omega
  · show 128 * g + x.val = _; omega

/-- The exponential of a score less its row's log-sum. -/
theorem p_at (h : Fin 4) (c : Fin 8) (r b : Fin 512) :
    Ideal.exp (B.scores h c (ix2 r b) - k0_pay17 (F := Ideal) (B.lseh h) (ix2 r 0)) = ((X.p (4 * g + h.val) (512 * i + r.val) (4096 * j + 512 * c.val + b.val) : ℝ) : EReal) := by
  unfold Blocks.scores
  rw [pay36_at, pay17_at]
  simp only [H.qm_at, H.lseh_at, H.kc_at h, ← EReal.coe_mul, ← coe_sum, ← EReal.coe_sub, Ideal.exp_coe]
  simp only [Rows.p, Finset.sum_range]

theorem ds_at (h : Fin 4) (c : Fin 8) (r b : Fin 512) :
    B.ds h c (ix2 r b) = ((X.ds (4 * g + h.val) (512 * i + r.val) (4096 * j + 512 * c.val + b.val) : ℝ) : EReal) := by
  unfold Blocks.ds
  rw [pay48_at, H.p_at, pay39_at, pay16_at]
  simp only [H.dym_at, H.yh_at, H.vc_at h, ← EReal.coe_mul, ← coe_sum, ← EReal.coe_sub]
  simp only [Rows.ds, Finset.sum_range]

theorem dv_at (h : Fin 4) (c : Fin 8) (old : Vec Ideal S128x512 .f32) (d : Fin 128) (b : Fin 512) (x : ℝ) (hx : old (ix2 d b) = (x : EReal)) :
    B.dvTile h c old (ix2 d b) = ((x + ∑ r ∈ Finset.range 512, X.dym (4 * g + h.val) (512 * i + r) d.val
      * X.p (4 * g + h.val) (512 * i + r) (4096 * j + 512 * c.val + b.val) : ℝ) : EReal) := by
  unfold Blocks.dvTile
  rw [pay49_at, hx]
  simp only [pay19_at, H.dym_at, H.p_at, ← EReal.coe_mul, ← coe_sum, ← EReal.coe_add]
  simp only [Finset.sum_range]

theorem dk_at (h : Fin 4) (c : Fin 8) (old : Vec Ideal S128x512 .f32) (d : Fin 128) (b : Fin 512) (x : ℝ) (hx : old (ix2 d b) = (x : EReal)) :
    B.dkTile h c old (ix2 d b) = ((x + ∑ r ∈ Finset.range 512, X.qm (4 * g + h.val) (512 * i + r) d.val
      * X.ds (4 * g + h.val) (512 * i + r) (4096 * j + 512 * c.val + b.val) : ℝ) : EReal) := by
  unfold Blocks.dkTile
  rw [pay58_at, hx]
  simp only [pay18_at, H.qm_at, H.ds_at, ← EReal.coe_mul, ← coe_sum, ← EReal.coe_add]
  simp only [Finset.sum_range]

omit H in
/-- Four heads' sums are one sum over the rows. -/
theorem four (x : ℝ) (f : ℕ → ℕ → ℝ) : x + ∑ r ∈ Finset.range 512, f 0 r + ∑ r ∈ Finset.range 512, f 1 r + ∑ r ∈ Finset.range 512, f 2 r
    + ∑ r ∈ Finset.range 512, f 3 r = x + ∑ r ∈ Finset.range 512, ∑ h ∈ Finset.range 4, f h r := by
  have e : ∀ F : ℕ → ℝ, ∑ h ∈ Finset.range 4, F h = F 0 + F 1 + F 2 + F 3 := fun F => by simp [Finset.sum_range_succ]
  rw [Finset.sum_comm, e]
  ring

theorem dvTiles_at (c : Fin 8) (old : Vec Ideal S128x512 .f32) (d : Fin 128) (b : Fin 512) (x : ℝ) (hx : old (ix2 d b) = (x : EReal)) :
    B.dvTiles c old (ix2 d b) = ((x + ∑ r ∈ Finset.range 512, ∑ h ∈ Finset.range 4, X.dym (4 * g + h) (512 * i + r) d.val
      * X.p (4 * g + h) (512 * i + r) (4096 * j + 512 * c.val + b.val) : ℝ) : EReal) := by
  refine (H.dv_at 3 c _ d b _ (H.dv_at 2 c _ d b _ (H.dv_at 1 c _ d b _ (H.dv_at 0 c old d b x hx)))).trans ?_
  exact congrArg _ (four x fun h r => X.dym (4 * g + h) (512 * i + r) d.val * X.p (4 * g + h) (512 * i + r) (4096 * j + 512 * c.val + b.val))

theorem dkTiles_at (c : Fin 8) (old : Vec Ideal S128x512 .f32) (d : Fin 128) (b : Fin 512) (x : ℝ) (hx : old (ix2 d b) = (x : EReal)) :
    B.dkTiles c old (ix2 d b) = ((x + ∑ r ∈ Finset.range 512, ∑ h ∈ Finset.range 4, X.qm (4 * g + h) (512 * i + r) d.val
      * X.ds (4 * g + h) (512 * i + r) (4096 * j + 512 * c.val + b.val) : ℝ) : EReal) := by
  refine (H.dk_at 3 c _ d b _ (H.dk_at 2 c _ d b _ (H.dk_at 1 c _ d b _ (H.dk_at 0 c old d b x hx)))).trans ?_
  exact congrArg _ (four x fun h r => X.qm (4 * g + h) (512 * i + r) d.val * X.ds (4 * g + h) (512 * i + r) (4096 * j + 512 * c.val + b.val))

/-- The chunks of a list, one after another. -/
theorem dqSum_at (h : Fin 4) (r : Fin 512) (d : Fin 128) : ∀ (cs : List (Fin 8)) (acc : FVec Ideal S512x128 .f32) (x : ℝ), acc (ix2 r d) = (x : EReal) →
    B.dqSum h cs acc (ix2 r d) = ((x + (cs.map fun c => ∑ b ∈ Finset.range 512, X.ds (4 * g + h.val) (512 * i + r.val) (4096 * j + (512 * c.val + b))
      * X.k (4096 * j + (512 * c.val + b)) (128 * ((4 * g + h.val) / 4) + d.val)).sum : ℝ) : EReal)
  | [], acc, x, hx => by simpa [Blocks.dqSum] using hx
  | c :: cs, acc, x, hx => by
    have e : k0_pay59 (F := Ideal) acc (B.ds h c) (B.kc c) (ix2 r d) = ((x + ∑ b ∈ Finset.range 512, X.ds (4 * g + h.val) (512 * i + r.val) (4096 * j + (512 * c.val + b))
        * X.k (4096 * j + (512 * c.val + b)) (128 * ((4 * g + h.val) / 4) + d.val) : ℝ) : EReal) := by
      rw [pay59_at, hx]
      simp only [H.ds_at, H.kc_at h, ← EReal.coe_mul, ← coe_sum, ← EReal.coe_add]
      simp only [Finset.sum_range, add_assoc]
    unfold Blocks.dqSum
    rw [dqSum_at h r d cs _ _ e, List.map_cons, List.sum_cons, add_assoc]

theorem dqHead_at (h : Fin 4) (r : Fin 512) (d : Fin 128) : B.dqHead h (ix2 r d) = ((∑ b ∈ Finset.range 4096, X.ds (4 * g + h.val) (512 * i + r.val) (4096 * j + b)
    * X.k (4096 * j + b) (128 * ((4 * g + h.val) / 4) + d.val) : ℝ) : EReal) := by
  unfold Blocks.dqHead
  rw [H.dqSum_at h r d _ _ 0 (by rw [pay32_at]; rfl), zero_add, sum_range_tiles _ 512 8, Finset.sum_range, ← List.sum_ofFn]
  rfl

theorem dq_at (p : Fin 2) (old : Vec Ideal S512x128 .f32) (r : Fin 512) (d : Fin 128) (x : ℝ) (hx : old (ix2 r d) = (x : EReal)) :
    B.dqRows p old (ix2 r d) = ((x + ∑ b ∈ Finset.range 4096, X.ds (4 * g + (2 * p.val + d.val / 64)) (512 * i + r.val) (4096 * j + b)
      * X.k (4096 * j + b) (128 * g + d.val) : ℝ) : EReal) := by
  have hd := d.isLt
  have key : ∀ h0 h1 : Fin 4, h0.val = 2 * p.val → h1.val = 2 * p.val + 1 → k0_pay1 (F := Ideal) k0_pay6 (B.dqHead h0) (B.dqHead h1) old (ix2 r d)
      = ((x + ∑ b ∈ Finset.range 4096, X.ds (4 * g + (2 * p.val + d.val / 64)) (512 * i + r.val) (4096 * j + b)
      * X.k (4096 * j + b) (128 * g + d.val) : ℝ) : EReal) := fun h0 h1 e0 e1 => by
    have hp := p.isLt
    have hk : k0_pay6 (ix2 r d) = if d.val / 64 = 0 then 1#1 else 0#1 := keep_at 0 r d
    rw [pay1_at, hx, hk, H.dqHead_at, H.dqHead_at, e0, e1, show (4 * g + 2 * p.val) / 4 = g by omega, show (4 * g + (2 * p.val + 1)) / 4 = g by omega]
    by_cases c : d.val / 64 = 0
    · rw [if_pos c, if_pos rfl, c, ← EReal.coe_add]; rfl
    · rw [if_neg c, if_neg (by decide), show d.val / 64 = 1 by omega, ← EReal.coe_add]
  match p, key with
  | ⟨0, _⟩, key => exact key 0 1 rfl rfl
  | ⟨1, _⟩, key => exact key 2 3 rfl rfl

end Blocks.Holds

end Cert.Kernel2Ideal.Bwd

end
-- ==== Proof.Body2.lean ====
/-
  One run of the grouped attention gradient's body, at any point of the grid and for any values: it reads its six blocks and
  leaves in each of its three output blocks what Step2.lean computes from the block's contents, which the body clears
  first at the points where a block starts.
-/
module

public import proofs.«01_k».proof.Proof.Step2

@[expose] public section

set_option maxRecDepth 16384

noncomputable section

namespace Cert.Kernel2Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

/-- The body clears the query gradient: the first point of a group of heads. -/
abbrev startsGroup (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1

/-- The body clears the key and value gradients: the first point of a block of keys. -/
abbrev startsKeys (i : grid0.Coords) : Prop :=
  Scalar.cmpi .ne (Scalar.extui (Scalar.cmpi .eq (BitVec.ofNat 32 (i 2).val) 0#32)) 0#32 = 1#1

/-- A whole rank-2 buffer filled with `Z` under a condition. -/
abbrev filled {d : Fin 2 → ℕ} {e : EltTy} {sp : Space} (v : View sig .tc sp ⟨2, d⟩ e) (f : v.ty.Contents (Elt F)) (P : Prop) [Decidable P]
    (inb : ∀ a, (![0, 0] : Fin 2 → ℕ) a + d a ≤ d a) (Z : (⟨2, d⟩ : Shape).Idx → Elt F e) : v.ty.Contents (Elt F) :=
  if _h : P then v.writes (Elt F) f [⟨Rect.unit ![0, 0] d inb, Z⟩] else f

/-- It reads the filling under that condition. -/
theorem read_filled {d : Fin 2 → ℕ} {e : EltTy} {sp : Space} (v : View sig .tc sp ⟨2, d⟩ e) (f : v.ty.Contents (Elt F)) (P : Prop) [Decidable P]
    (inb : ∀ a, (![0, 0] : Fin 2 → ℕ) a + d a ≤ d a) (Z : (⟨2, d⟩ : Shape).Idx → Elt F e) :
    v.read (Elt F) (filled v f P inb Z) = if P then Z else v.read (Elt F) f := by
  unfold filled
  by_cases h : P
  · rw [dif_pos h, if_pos h]
    funext y
    refine View.read_writes_cons_unit_of_mem v f inb Z [] y y rfl fun a => ?_
    match a with
    | ⟨0, _⟩ => exact (Nat.zero_add _).symm
    | ⟨1, _⟩ => exact (Nat.zero_add _).symm
  · rw [dif_neg h, if_neg h]

set_option maxHeartbeats 4000000 in
/-- THE BODY, at a point `i` and on any staging buffers. -/
theorem body (c : Dev nD) (i : grid0.Coords) (arg3 : Memref sig .tc .vmem S512x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S512x256 .bf16) (harg6 : arg6.IsWhole)
    (arg7 : Memref sig .tc .vmem S512x256 .f32) (harg7 : arg7.IsWhole) (arg8 : Memref sig .tc .vmem S4x1x512 .f32) (harg8 : arg8.IsWhole) (arg9 : Memref sig .tc .vmem S8192x256 .f32) (harg9 : arg9.IsWhole)
    (arg10 : Memref sig .tc .vmem S128x4096 .f32) (harg10 : arg10.IsWhole) (arg11 : Memref sig .tc .vmem S128x4096 .f32) (harg11 : arg11.IsWhole)
    (B : Blocks F) (d6 : Vec F S8192x256 .f32) (d7 d8 : Vec F S128x4096 .f32) (E : Set ℕ) (K : PUnit → sProp 𝕄) :
    iprop(owns (c : Thread nD τ) arg3 fullShare B.q ∗ owns (c : Thread nD τ) arg4 fullShare B.k ∗ owns (c : Thread nD τ) arg5 fullShare B.v
        ∗ owns (c : Thread nD τ) arg6 fullShare B.dy ∗ owns (c : Thread nD τ) arg7 fullShare B.y ∗ owns (c : Thread nD τ) arg8 fullShare B.lse
        ∗ owns (c : Thread nD τ) arg9 fullShare d6 ∗ owns (c : Thread nD τ) arg10 fullShare d7 ∗ owns (c : Thread nD τ) arg11 fullShare d8
        ∗ (iprop(owns (c : Thread nD τ) arg3 fullShare B.q ∗ owns (c : Thread nD τ) arg4 fullShare B.k ∗ owns (c : Thread nD τ) arg5 fullShare B.v
            ∗ owns (c : Thread nD τ) arg6 fullShare B.dy ∗ owns (c : Thread nD τ) arg7 fullShare B.y ∗ owns (c : Thread nD τ) arg8 fullShare B.lse
            ∗ owns (c : Thread nD τ) arg9 fullShare (B.dqNew i (if startsGroup i then k0_pay3 else d6))
            ∗ owns (c : Thread nD τ) arg10 fullShare (B.dkNew (if startsKeys i then k0_pay4 else d7))
            ∗ owns (c : Thread nD τ) arg11 fullShare (B.dvNew (if startsKeys i then k0_pay5 else d8))) -∗ K ⟨⟩))
      ⊢ wp frame (wpE (defs₀ (F := F)) Variants.none c none) E (cc0_attn_bwd_a i arg3 harg3 arg4 harg4 arg5 harg5 arg6 harg6 arg7 harg7 arg8 harg8 arg9 harg9 arg10 harg10 arg11 harg11) K := by
  obtain ⟨x0, x1, x2, x3, x4, x5⟩ := B
  simp only [cc0_attn_bwd_a_eq_skeleton]; unfold cc0_attn_bwd_a_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  dsimp only at hf0 hf1 hf2 hf3 hf4 hf5
  subst hf0 hf1 hf2 hf3 hf4 hf5 hf6 hf7 hf8
  sl_exec
  sl_step
  iapply Hk
  isplitl [H0]
  · iexists _; isplitr; swap
    · iexact H0
    ipureintro; rfl
  isplitl [H1]
  · iexists _; isplitr; swap
    · iexact H1
    ipureintro; rfl
  isplitl [H2]
  · iexists _; isplitr; swap
    · iexact H2
    ipureintro; rfl
  isplitl [H3]
  · iexists _; isplitr; swap
    · iexact H3
    ipureintro; rfl
  isplitl [H4]
  · iexists _; isplitr; swap
    · iexact H4
    ipureintro; rfl
  isplitl [H5]
  · iexists _; isplitr; swap
    · iexact H5
    ipureintro; rfl
  isplitl [H6]
  · iexists _; isplitr; swap
    · iexact H6
    ipureintro
    refine (read_rows arg9.view (filled arg9.view f6 (startsGroup i) inb_S8192x256_S8192x256_0_0 k0_pay3) i
      (fun h => Blocks.dqRows ⟨arg3.view.read (Elt F) f0, arg4.view.read (Elt F) f1, arg5.view.read (Elt F) f2, arg6.view.read (Elt F) f3, arg7.view.read (Elt F) f4, arg8.view.read (Elt F) f5⟩ h (View.ld (arg9.view.read (Elt F) (filled arg9.view f6 (startsGroup i) inb_S8192x256_S8192x256_0_0 k0_pay3)) (rowsRect i h)))).trans ?_
    rw [read_filled]; rfl
  isplitl [H7]
  · iexists _; isplitr; swap
    · iexact H7
    ipureintro
    refine Eq.trans (congrArg (fun P => arg10.view.read (Elt F) (arg10.view.writes (Elt F) _ P)) ?_) ((read_tiles arg10.view (filled arg10.view f7 (startsKeys i) inb_S128x4096_S128x4096_0_0 k0_pay4)
      (Blocks.dkTile ⟨arg3.view.read (Elt F) f0, arg4.view.read (Elt F) f1, arg5.view.read (Elt F) f2, arg6.view.read (Elt F) f3, arg7.view.read (Elt F) f4, arg8.view.read (Elt F) f5⟩)).trans ?_)
    · iterate 24
        refine stores_later _ _ _ _ _ _ (by decide) ?_ ?_
        · rfl
      iterate 8
        refine stores_first _ _ _ _ _ ?_ ?_
        · rfl
      rfl
    rw [read_filled]; rfl
  · iexists _; isplitr; swap
    · iexact H8
    ipureintro
    refine Eq.trans (congrArg (fun P => arg11.view.read (Elt F) (arg11.view.writes (Elt F) _ P)) ?_) ((read_tiles arg11.view (filled arg11.view f8 (startsKeys i) inb_S128x4096_S128x4096_0_0 k0_pay5)
      (Blocks.dvTile ⟨arg3.view.read (Elt F) f0, arg4.view.read (Elt F) f1, arg5.view.read (Elt F) f2, arg6.view.read (Elt F) f3, arg7.view.read (Elt F) f4, arg8.view.read (Elt F) f5⟩)).trans ?_)
    · iterate 24
        refine stores_later _ _ _ _ _ _ (by decide) ?_ ?_
        · rfl
      iterate 8
        refine stores_first _ _ _ _ _ ?_ ?_
        · rfl
      rfl
    rw [read_filled]; rfl

end Cert.Kernel2Ideal.Bwd

end
-- ==== Proof.Run2.lean ====
/-
  The run of the grouped attention gradient: the contents of the three output blocks point by point, the body's obligation at
  every point, the run of the program, and its frame.
-/
module

public import proofs.«01_k».proof.Proof.Body2
public import Idealize.ShloMosaic.Lib.Claim

@[expose] public section

set_option maxRecDepth 16384

noncomputable section

namespace Cert.Kernel2Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-! ## The points at which a block starts -/

theorem coords0 (t : Fin cfg0.N) : (grid0.coords t 0).val = t.val / 32 % 2 := Pipeline.Grid.coords_val t 0 (by decide) rfl
theorem coords1 (t : Fin cfg0.N) : (grid0.coords t 1).val = t.val / 16 % 2 := Pipeline.Grid.coords_val t 1 (by decide) rfl
theorem coords2 (t : Fin cfg0.N) : (grid0.coords t 2).val = t.val / 1 % 16 := Pipeline.Grid.coords_val t 2 (by decide) rfl

theorem startsGroup_iff (t : Fin cfg0.N) : startsGroup (grid0.coords t) ↔ t.val % 32 = 0 := by
  have ht : t.val < 64 := Nat.lt_of_lt_of_eq t.isLt N_0
  simp only [startsGroup, coords1, coords2]
  word_cmp

theorem startsKeys_iff (t : Fin cfg0.N) : startsKeys (grid0.coords t) ↔ t.val % 16 = 0 := by
  have ht : t.val < 64 := Nat.lt_of_lt_of_eq t.isLt N_0
  simp only [startsKeys, coords2]
  word_cmp

/-! ## The proof data -/

variable (m : (ℓ : Loc nD τ sig) → Buf (Elt F) ℓ) (ρ : Dev nD → PrngReg)

/-- The six input blocks of point `t` on device `c`. -/
def blocks (c : Dev nD) (t : Fin cfg0.N) : Blocks F :=
  ⟨iblk m c 0 t, iblk m c 1 t, iblk m c 2 t, iblk m c 3 t, iblk m c 4 t, iblk m c 5 t⟩

/-- The query gradient's block after point `n`. -/
def dqAt (c : Dev nD) : (n : ℕ) → n < cfg0.N → Vec F S8192x256 .f32
  | 0, h => (blocks m c ⟨0, h⟩).dqNew (grid0.coords ⟨0, h⟩) k0_pay3
  | n + 1, h => (blocks m c ⟨n + 1, h⟩).dqNew (grid0.coords ⟨n + 1, h⟩)
      (if startsGroup (grid0.coords ⟨n + 1, h⟩) then k0_pay3 else dqAt c n (Nat.lt_of_succ_lt h))

/-- The key gradient's block after point `n`. -/
def dkAt (c : Dev nD) : (n : ℕ) → n < cfg0.N → Vec F S128x4096 .f32
  | 0, h => (blocks m c ⟨0, h⟩).dkNew k0_pay4
  | n + 1, h => (blocks m c ⟨n + 1, h⟩).dkNew (if startsKeys (grid0.coords ⟨n + 1, h⟩) then k0_pay4 else dkAt c n (Nat.lt_of_succ_lt h))

/-- The value gradient's block after point `n`. -/
def dvAt (c : Dev nD) : (n : ℕ) → n < cfg0.N → Vec F S128x4096 .f32
  | 0, h => (blocks m c ⟨0, h⟩).dvNew k0_pay5
  | n + 1, h => (blocks m c ⟨n + 1, h⟩).dvNew (if startsKeys (grid0.coords ⟨n + 1, h⟩) then k0_pay5 else dvAt c n (Nat.lt_of_succ_lt h))

/-- The pipeline's proof data on device `c`: the arrays as the region finds them; after a point each input's buffer at
    its block and each output's at its contents after the point; the rest of the region untouched, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t.val t.isLt
    | ⟨7, _⟩ => dkAt m c t.val t.isLt
    | ⟨8, _⟩ => dvAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dqAt m c t.val t.isLt := by dsimp only [dats]
theorem after_7 (c : Dev nD) (t : Fin cfg0.N) : (dats m 0 c).after 7 t = dkAt m c t.val t.isLt := by dsimp only [dats]
theorem after_8 (c : Dev nD) (t : Fin cfg0.N) : (dats m 0 c).after 8 t = dvAt m c t.val t.isLt := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- An output that is not written back at a point reaches the next point as the body left it. -/
theorem before_kept (c : Dev nD) (w : Fin cfg0.W) (hw : (cfg0.win w).isOut = true) (t : Fin cfg0.N) (ht : t.val ≠ 0)
    (hfl : (cfg0.win w).flush ⟨t.val - 1, Nat.lt_of_le_of_lt (Nat.sub_le _ _) t.isLt⟩ = false)
    (hclip : ∀ (i : cfg0.grid.Coords) a, (cfg0.win w).clip i a = none) (d) :
    (dats m 0 c).before w t d = (dats m 0 c).after w ⟨t.val - 1, Nat.lt_of_le_of_lt (Nat.sub_le _ _) t.isLt⟩ :=
  (dats m 0 c).before_out_kept w hw t ht hfl (fun _ => rfl) hclip d

theorem dq_step (c : Dev nD) (t : Fin cfg0.N) (d) :
    (blocks m c t).dqNew (grid0.coords t) (if startsGroup (grid0.coords t) then k0_pay3 else (dats m 0 c).before 6 t d) = dqAt m c t.val t.isLt := by
  obtain ⟨n, hn⟩ := t
  match n, hn with
  | 0, hn => rw [if_pos ((startsGroup_iff _).mpr rfl)]; rfl
  | n + 1, hn =>
    by_cases h : startsGroup (grid0.coords ⟨n + 1, hn⟩)
    · rw [if_pos h]; show _ = Blocks.dqNew _ _ (if _ then _ else _); rw [if_pos h]
    · have e : (n + 1) % 32 ≠ 0 := fun e => h ((startsGroup_iff _).mpr e)
      rw [before_kept m c 6 rfl ⟨n + 1, hn⟩ (Nat.succ_ne_zero n)
        (Bool.eq_false_iff.mpr fun hf => e (by have := (flush0_6 _).mp hf; simp only [Nat.add_sub_cancel] at this; omega)) (fun _ _ => rfl) d, after_6]
      rfl

theorem dk_step (c : Dev nD) (t : Fin cfg0.N) (d) :
    (blocks m c t).dkNew (if startsKeys (grid0.coords t) then k0_pay4 else (dats m 0 c).before 7 t d) = dkAt m c t.val t.isLt := by
  obtain ⟨n, hn⟩ := t
  match n, hn with
  | 0, hn => rw [if_pos ((startsKeys_iff _).mpr rfl)]; rfl
  | n + 1, hn =>
    by_cases h : startsKeys (grid0.coords ⟨n + 1, hn⟩)
    · rw [if_pos h]; show _ = Blocks.dkNew _ (if _ then _ else _); rw [if_pos h]
    · have e : (n + 1) % 16 ≠ 0 := fun e => h ((startsKeys_iff _).mpr e)
      rw [before_kept m c 7 rfl ⟨n + 1, hn⟩ (Nat.succ_ne_zero n)
        (Bool.eq_false_iff.mpr fun hf => e (by have := (flush0_7 _).mp hf; simp only [Nat.add_sub_cancel] at this; omega)) (fun _ _ => rfl) d, after_7]
      rfl

theorem dv_step (c : Dev nD) (t : Fin cfg0.N) (d) :
    (blocks m c t).dvNew (if startsKeys (grid0.coords t) then k0_pay5 else (dats m 0 c).before 8 t d) = dvAt m c t.val t.isLt := by
  obtain ⟨n, hn⟩ := t
  match n, hn with
  | 0, hn => rw [if_pos ((startsKeys_iff _).mpr rfl)]; rfl
  | n + 1, hn =>
    by_cases h : startsKeys (grid0.coords ⟨n + 1, hn⟩)
    · rw [if_pos h]; show _ = Blocks.dvNew _ (if _ then _ else _); rw [if_pos h]
    · have e : (n + 1) % 16 ≠ 0 := fun e => h ((startsKeys_iff _).mpr e)
      rw [before_kept m c 8 rfl ⟨n + 1, hn⟩ (Nat.succ_ne_zero n)
        (Bool.eq_false_iff.mpr fun hf => e (by have := (flush0_8 _).mp hf; simp only [Nat.add_sub_cancel] at this; omega)) (fun _ _ => rfl) d, after_8]
      rfl

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
/-- The body at any point: one run of it (`body`), the blocks before and after it as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body c (grid0.coords t) _ _ _ _ _ _ _ _ _ _ _ _ _ _ _ _ _ _ (blocks m c t) ((dats m 0 c).before 6 t d6) ((dats m 0 c).before 7 t d7) ((dats m 0 c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [dq_step, dk_step, dv_step]
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's row of the body table at point `t` is the body there. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run -/

set_option backward.isDefEq.respectTransparency.types false in
/-- The program runs to the end from any memory with zero counters, its arrays as the proof data say, every counter zero. -/
theorem run_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Kernel2Ideal.Bwd

end
-- ==== Proof.Final2.lean ====
/-
  The three results of the grouped attention gradient's call: what the output blocks hold after each point of the grid, and
  the arrays they leave, as sums over all rows.
-/
module

public import proofs.«01_k».proof.Proof.Tiles2
public import proofs.«01_k».proof.Proof.Run2

@[expose] public section

set_option maxRecDepth 16384

noncomputable section

namespace Cert.Kernel2Ideal.Bwd

open Idealize.ShloMosaic Idealize.ShloMosaic.TcCoe Idealize.SL.Sem
open Idealize.ShloMosaic.Pipeline (Dat)
open Cert.Kernel2Ideal.Gen Cert.Softmax

/-! ## One point -/

namespace Blocks.Holds

variable {B : Blocks Ideal} {X : Rows} {g j i : ℕ} (H : B.Holds X g j i)
include H

theorem dvNew_at (old : Vec Ideal S128x4096 .f32) (l : Fin 128) (b : Fin 4096) (x : ℝ) (hx : old (ix2 l b) = (x : EReal)) :
    B.dvNew old (ix2 l b) = ((x + ∑ r ∈ Finset.range 512, ∑ h ∈ Finset.range 4, X.dym (4 * g + h) (512 * i + r) l.val
      * X.p (4 * g + h) (512 * i + r) (4096 * j + b.val) : ℝ) : EReal) := by
  have hb := b.isLt
  unfold Blocks.dvNew ofTiles
  refine (H.dvTiles_at _ _ _ _ x ?_).trans ?_
  · pointwise
    refine Eq.trans (congrArg old ?_) hx
    exact (ix2_inj ..).2 ⟨rfl, Fin.ext (by show 512 * (b.val / 512) + b.val % 512 = b.val; omega)⟩
  · have e2 : 4096 * j + 512 * (b.val / 512) + b.val % 512 = 4096 * j + b.val := by omega
    show ((x + ∑ r ∈ Finset.range 512, ∑ h ∈ Finset.range 4, X.dym (4 * g + h) (512 * i + r) l.val
      * X.p (4 * g + h) (512 * i + r) (4096 * j + 512 * (b.val / 512) + b.val % 512) : ℝ) : EReal) = _
    rw [e2]

theorem dkNew_at (old : Vec Ideal S128x4096 .f32) (l : Fin 128) (b : Fin 4096) (x : ℝ) (hx : old (ix2 l b) = (x : EReal)) :
    B.dkNew old (ix2 l b) = ((x + ∑ r ∈ Finset.range 512, ∑ h ∈ Finset.range 4, X.qm (4 * g + h) (512 * i + r) l.val
      * X.ds (4 * g + h) (512 * i + r) (4096 * j + b.val) : ℝ) : EReal) := by
  have hb := b.isLt
  unfold Blocks.dkNew ofTiles
  refine (H.dkTiles_at _ _ _ _ x ?_).trans ?_
  · pointwise
    refine Eq.trans (congrArg old ?_) hx
    exact (ix2_inj ..).2 ⟨rfl, Fin.ext (by show 512 * (b.val / 512) + b.val % 512 = b.val; omega)⟩
  · have e2 : 4096 * j + 512 * (b.val / 512) + b.val % 512 = 4096 * j + b.val := by omega
    show ((x + ∑ r ∈ Finset.range 512, ∑ h ∈ Finset.range 4, X.qm (4 * g + h) (512 * i + r) l.val
      * X.ds (4 * g + h) (512 * i + r) (4096 * j + 512 * (b.val / 512) + b.val % 512) : ℝ) : EReal) = _
    rw [e2]

theorem dqNew_at (p : grid0.Coords) (hp : (p 2).val = i) (old : Vec Ideal S8192x256 .f32) (a : Fin 8192) (l : Fin 256) (x : ℝ) (hx : old (ix2 a l) = (x : EReal)) :
    B.dqNew p old (ix2 a l) = ((x + if a.val / 512 = i then ∑ b ∈ Finset.range 4096, X.ds (4 * g + l.val / 64) a.val (4096 * j + b)
      * X.k (4096 * j + b) (128 * g + l.val % 128) else 0 : ℝ) : EReal) := by
  have hl := l.isLt
  have ha := a.isLt
  unfold Blocks.dqNew putRows
  by_cases h : a.val / 512 = i
  · rw [if_pos h]
    refine (if_pos (h.trans hp.symm)).trans ?_
    refine (H.dq_at _ _ _ _ x ?_).trans ?_
    · show old ((rowsRect p _).idx _) = _
      refine Eq.trans (congrArg old ?_) hx
      refine funext fun k => Fin.ext ?_
      show dqOff p _ k + 1 * _ = _
      rw [dqOff_eq, hp]
      match k with
      | ⟨0, _⟩ => show 512 * i + 1 * (a.val % 512) = a.val; omega
      | ⟨1, _⟩ => show 128 * (l.val / 128) + 1 * (l.val % 128) = l.val; omega
    · have e1 : 2 * (l.val / 128) + l.val % 128 / 64 = l.val / 64 := by omega
      have e2 : 512 * i + a.val % 512 = a.val := by omega
      show ((x + ∑ b ∈ Finset.range 4096, X.ds (4 * g + (2 * (l.val / 128) + l.val % 128 / 64)) (512 * i + a.val % 512) (4096 * j + b)
        * X.k (4096 * j + b) (128 * g + l.val % 128) : ℝ) : EReal) = _
      rw [e1, e2]
  · rw [if_neg h, add_zero]
    exact (if_neg fun e => h (e.trans hp)).trans hx

end Blocks.Holds

theorem pay3_at (y) : k0_pay3 (F := Ideal) y = ((0 : ℝ) : EReal) := by
  pointwise [k0_pay3]; rfl
theorem pay4_at (y) : k0_pay4 (F := Ideal) y = ((0 : ℝ) : EReal) := by
  pointwise [k0_pay4]; rfl
theorem pay5_at (y) : k0_pay5 (F := Ideal) y = ((0 : ℝ) : EReal) := by
  pointwise [k0_pay5]; rfl

/-! ## All points -/

variable (m : (ℓ : Loc nD τ sig) → Buf (Elt Ideal) ℓ) (c : Dev nD) (X : Rows)

/-- Every point's blocks hold their rows of `X`. -/
def Given : Prop := ∀ t : Fin cfg0.N, (blocks m c t).Holds X (t.val / 32) (t.val / 16 % 2) (t.val % 16)

variable {m c X} (G : Given m c X)
include G

theorem dv_sum (l : Fin 128) (b : Fin 4096) : ∀ (n : ℕ) (hn : n < cfg0.N), dvAt m c n hn (ix2 l b)
    = ((∑ a ∈ Finset.range (512 * (n % 16 + 1)), ∑ h ∈ Finset.range 4, X.dym (4 * (n / 32) + h) a l.val * X.p (4 * (n / 32) + h) a (4096 * (n / 16 % 2) + b.val) : ℝ) : EReal)
  | 0, hn => by
    refine ((G ⟨0, hn⟩).dvNew_at (k0_pay5 (F := Ideal)) l b 0 (pay5_at (ix2 l b))).trans ?_
    rw [zero_add]; simp
  | n + 1, hn => by
    by_cases h : startsKeys (grid0.coords ⟨n + 1, hn⟩)
    · have e : (n + 1) % 16 = 0 := (startsKeys_iff _).mp h
      unfold dvAt
      rw [if_pos h]
      refine ((G ⟨n + 1, hn⟩).dvNew_at (k0_pay5 (F := Ideal)) l b 0 (pay5_at (ix2 l b))).trans ?_
      simp only [e, zero_add, mul_zero, mul_one]
    · have e : (n + 1) % 16 ≠ 0 := fun e => h ((startsKeys_iff _).mpr e)
      unfold dvAt
      rw [if_neg h]
      refine ((G ⟨n + 1, hn⟩).dvNew_at _ l b _ (dv_sum l b n (Nat.lt_of_succ_lt hn))).trans ?_
      have e1 : n % 16 + 1 = (n + 1) % 16 := by omega
      have e2 : n / 32 = (n + 1) / 32 := by omega
      have e3 : n / 16 % 2 = (n + 1) / 16 % 2 := by omega
      rw [e1, e2, e3, sum_range_step]

theorem dk_sum (l : Fin 128) (b : Fin 4096) : ∀ (n : ℕ) (hn : n < cfg0.N), dkAt m c n hn (ix2 l b)
    = ((∑ a ∈ Finset.range (512 * (n % 16 + 1)), ∑ h ∈ Finset.range 4, X.qm (4 * (n / 32) + h) a l.val * X.ds (4 * (n / 32) + h) a (4096 * (n / 16 % 2) + b.val) : ℝ) : EReal)
  | 0, hn => by
    refine ((G ⟨0, hn⟩).dkNew_at (k0_pay4 (F := Ideal)) l b 0 (pay4_at (ix2 l b))).trans ?_
    rw [zero_add]; simp
  | n + 1, hn => by
    by_cases h : startsKeys (grid0.coords ⟨n + 1, hn⟩)
    · have e : (n + 1) % 16 = 0 := (startsKeys_iff _).mp h
      unfold dkAt
      rw [if_pos h]
      refine ((G ⟨n + 1, hn⟩).dkNew_at (k0_pay4 (F := Ideal)) l b 0 (pay4_at (ix2 l b))).trans ?_
      simp only [e, zero_add, mul_zero, mul_one]
    · have e : (n + 1) % 16 ≠ 0 := fun e => h ((startsKeys_iff _).mpr e)
      unfold dkAt
      rw [if_neg h]
      refine ((G ⟨n + 1, hn⟩).dkNew_at _ l b _ (dk_sum l b n (Nat.lt_of_succ_lt hn))).trans ?_
      have e1 : n % 16 + 1 = (n + 1) % 16 := by omega
      have e2 : n / 32 = (n + 1) / 32 := by omega
      have e3 : n / 16 % 2 = (n + 1) / 16 % 2 := by omega
      rw [e1, e2, e3, sum_range_step]

/-- After point `n` the rows of block `a / 512` have met the keys of `(n % 32 + 16 - a / 512) / 16` blocks. -/
theorem dq_sum (a : Fin 8192) (l : Fin 256) : ∀ (n : ℕ) (hn : n < cfg0.N), dqAt m c n hn (ix2 a l)
    = ((∑ b ∈ Finset.range (4096 * ((n % 32 + 16 - a.val / 512) / 16)), X.ds (4 * (n / 32) + l.val / 64) a.val b * X.k b (128 * (n / 32) + l.val % 128) : ℝ) : EReal)
  | 0, hn => by
    have ha := a.isLt
    refine ((G ⟨0, hn⟩).dqNew_at (grid0.coords ⟨0, hn⟩) (by rw [coords2, Nat.div_one]) (k0_pay3 (F := Ideal)) a l 0 (pay3_at (ix2 a l))).trans ?_
    rw [zero_add]
    by_cases h : a.val / 512 = 0
    · rw [if_pos (by simpa using h), h]; simp
    · rw [if_neg (by simpa using h), show (0 % 32 + 16 - a.val / 512) / 16 = 0 by omega]; simp
  | n + 1, hn => by
    have ha := a.isLt
    by_cases h : startsGroup (grid0.coords ⟨n + 1, hn⟩)
    · have e : (n + 1) % 32 = 0 := (startsGroup_iff _).mp h
      unfold dqAt
      rw [if_pos h]
      refine ((G ⟨n + 1, hn⟩).dqNew_at (grid0.coords ⟨n + 1, hn⟩) (by rw [coords2, Nat.div_one]) (k0_pay3 (F := Ideal)) a l 0 (pay3_at (ix2 a l))).trans ?_
      have e1 : (n + 1) / 16 % 2 = 0 := by omega
      have e2 : (n + 1) % 16 = 0 := by omega
      simp only [e, e1, e2, zero_add, mul_zero]
      by_cases h0 : a.val / 512 = 0
      · rw [if_pos h0, h0]
      · rw [if_neg h0, show (16 - a.val / 512) / 16 = 0 by omega]; simp
    · have e : (n + 1) % 32 ≠ 0 := fun e => h ((startsGroup_iff _).mpr e)
      unfold dqAt
      rw [if_neg h]
      refine ((G ⟨n + 1, hn⟩).dqNew_at (grid0.coords ⟨n + 1, hn⟩) (by rw [coords2, Nat.div_one]) _ a l _ (dq_sum a l n (Nat.lt_of_succ_lt hn))).trans ?_
      have e2 : n / 32 = (n + 1) / 32 := by omega
      rw [e2]
      by_cases h0 : a.val / 512 = (n + 1) % 16
      · rw [if_pos h0, show (n % 32 + 16 - a.val / 512) / 16 = (n + 1) / 16 % 2 by omega,
          show ((n + 1) % 32 + 16 - a.val / 512) / 16 = (n + 1) / 16 % 2 + 1 by omega, sum_range_step]
      · rw [if_neg h0, add_zero, show (n % 32 + 16 - a.val / 512) / 16 = ((n + 1) % 32 + 16 - a.val / 512) / 16 by omega]

/-! ## The arrays after the run -/

omit G in
theorem idx6 : ∀ t : Fin cfg0.N, win0_6.index t = ![0, t.val / 32] := (by decide +kernel : ∀ t : Fin grid0.N, _)
omit G in
theorem idx7 : ∀ t : Fin cfg0.N, win0_7.index t = ![t.val / 32, t.val / 16 % 2] := (by decide +kernel : ∀ t : Fin grid0.N, _)
omit G in
theorem idx8 : ∀ t : Fin cfg0.N, win0_8.index t = ![t.val / 32, t.val / 16 % 2] := (by decide +kernel : ∀ t : Fin grid0.N, _)

/-- The query gradient. -/
theorem final_dq : (dats m 0 c).arrAt 6 (cfgs 0).N
    = fun y : S8192x512.Idx => ((∑ b ∈ Finset.range 8192, X.ds ((y 1).val / 64) (y 0).val b * X.k b (128 * ((y 1).val / 256) + (y 1).val % 128) : ℝ) : EReal) := by
  refine (dats m 0 c).arrAt_eq_of_covers 6 _ (by decide +kernel) fun t hf y => ?_
  have hm := (flush0_6 t).mp hf
  blk_simp [idx6 t]
  rw [after_6]
  idx_vars y
  have h0 := y0.isLt
  have h1 := y1.isLt
  refine (dq_sum G y0 y1 t.val t.isLt).trans ?_
  have e1 : 4 * (t.val / 32) + y1.val / 64 = (t.val / 32 * 256 + y1.val) / 64 := by omega
  have e2 : 4096 * ((t.val % 32 + 16 - y0.val / 512) / 16) = 8192 := by omega
  have e3 : 128 * (t.val / 32) + y1.val % 128 = 128 * ((t.val / 32 * 256 + y1.val) / 256) + (t.val / 32 * 256 + y1.val) % 128 := by omega
  rw [e1, e2, e3]

/-- The key gradient of each half of a group's heads, transposed. -/
theorem final_dk : (dats m 0 c).arrAt 7 (cfgs 0).N
    = fun y : S256x8192.Idx => ((∑ a ∈ Finset.range 8192, ∑ h ∈ Finset.range 4, X.qm (4 * ((y 0).val / 128) + h) a ((y 0).val % 128)
      * X.ds (4 * ((y 0).val / 128) + h) a (y 1).val : ℝ) : EReal) := by
  refine (dats m 0 c).arrAt_eq_of_covers 7 _ (by decide +kernel) fun t hf y => ?_
  have hm := (flush0_7 t).mp hf
  blk_simp [idx7 t]
  rw [after_7]
  idx_vars y
  have h0 := y0.isLt
  refine (dk_sum G y0 y1 t.val t.isLt).trans ?_
  have e1 : (t.val / 32 * 128 + y0.val) / 128 = t.val / 32 := by omega
  have e2 : (t.val / 32 * 128 + y0.val) % 128 = y0.val := by omega
  rw [e1, e2, hm, Nat.mul_comm 4096]

/-- The value gradient likewise. -/
theorem final_dv : (dats m 0 c).arrAt 8 (cfgs 0).N
    = fun y : S256x8192.Idx => ((∑ a ∈ Finset.range 8192, ∑ h ∈ Finset.range 4, X.dym (4 * ((y 0).val / 128) + h) a ((y 0).val % 128)
      * X.p (4 * ((y 0).val / 128) + h) a (y 1).val : ℝ) : EReal) := by
  refine (dats m 0 c).arrAt_eq_of_covers 8 _ (by decide +kernel) fun t hf y => ?_
  have hm := (flush0_8 t).mp hf
  blk_simp [idx8 t]
  rw [after_8]
  idx_vars y
  have h0 := y0.isLt
  refine (dv_sum G y0 y1 t.val t.isLt).trans ?_
  have e1 : (t.val / 32 * 128 + y0.val) / 128 = t.val / 32 := by omega
  have e2 : (t.val / 32 * 128 + y0.val) % 128 = y0.val := by omega
  rw [e1, e2, hm, Nat.mul_comm 4096]

end Cert.Kernel2Ideal.Bwd

end
-- ==== Proof.Given2.lean ====
/-
  What the grouped attention gradient's call is given and returns, in terms of the attention's heads.
-/
module

public import proofs.«01_k».proof.Proof.Forward2
public import proofs.«01_k».proof.Proof.Final2

@[expose] public section

set_option maxRecDepth 16384

noncomputable section

namespace Cert.Kernel2Ideal.Bwd

open Idealize.ShloMosaic Idealize.ShloMosaic.TcCoe Idealize.SL.Sem
open Idealize.ShloMosaic.Pipeline (Dat)
open Cert.Kernel2Ideal.Gen Cert.Softmax

variable (q : S8x8192x64.Idx → ℝ) (k v : S2x8192x64.Idx → ℝ) (dy : S8192x512.Idx → ℝ)

/-- The largest score of row `a` of head `h`, as a real number. -/
def top (h a : ℕ) : ℝ := at3 (n₀ := 8) (n₁ := 8192) (n₂ := 1) (fun i => (largest (lift q) (lift k) i).toReal) h a 0

theorem largest_top (h : Fin 8) (a : Fin 8192) : largest (lift q) (lift k) (ix3 h a 0) = ((top q k h a : ℝ) : EReal) := by
  obtain ⟨M, hM⟩ := largest_at q k h a
  rw [top, show at3 (n₀ := 8) (n₁ := 8192) (n₂ := 1) (fun i => (largest (lift q) (lift k) i).toReal) h a 0 = (largest (lift q) (lift k) (ix3 h a 0)).toReal from at3_fin _ h a (0 : Fin 1),
    hM, EReal.toReal_coe]

/-- The rows the call is given: the heads side by side, 64 lanes each, the keys' and values' heads twice. -/
def rowsOf : Rows where
  q a l := (groupedOf q k v dy (l / 64)).q a (l % 64)
  k b l := at3 k (l / 128) b (l % 64)
  v b l := at3 v (l / 128) b (l % 64)
  dy a l := at2 dy a l
  y a l := ∑ b ∈ Finset.range 8192, (groupedOf q k v dy (l / 64)).p a b * (groupedOf q k v dy (l / 64)).v b (l % 64)
  lse h a := top q k h a + Real.log ((groupedOf q k v dy h).zs (top q k h a) a)

/-- Head `h`'s lanes in its pair of heads' 128 and in its group's 128. -/
theorem lanes (h d : ℕ) (hd : d < 64) : 128 * (h / 2) + (64 * (h % 2) + d) = 64 * h + d ∧ (64 * h + d) / 64 = h ∧ (64 * h + d) % 64 = d
    ∧ (128 * (h / 4) + (64 * (h % 2) + d)) / 128 = h / 4 ∧ (128 * (h / 4) + (64 * (h % 2) + d)) % 64 = d := by omega

theorem rows_qm (h a x : ℕ) (hx : x < 128) : (rowsOf q k v dy).qm h a x = if x / 64 = h % 2 then (groupedOf q k v dy h).q a (x % 64) else 0 := by
  rw [Rows.qm]
  split
  · have e1 : (128 * (h / 2) + x) / 64 = h := by omega
    have e2 : (128 * (h / 2) + x) % 64 = x % 64 := by omega
    simp only [rowsOf, e1, e2]
  · rfl

theorem rows_dym (h a x : ℕ) (hx : x < 128) : (rowsOf q k v dy).dym h a x = if x / 64 = h % 2 then (groupedOf q k v dy h).dy a (x % 64) else 0 := by
  rw [Rows.dym]
  split
  · have e : 128 * (h / 2) + x = 64 * h + x % 64 := by omega
    simp only [rowsOf, e]
    rfl
  · rfl

theorem rows_p (h a b : ℕ) : (rowsOf q k v dy).p h a b = (groupedOf q k v dy h).p a b := by
  rw [← Head.saved _ (top q k h a)]
  have e : ∑ x ∈ Finset.range 128, (rowsOf q k v dy).qm h a x * (rowsOf q k v dy).k b (128 * (h / 4) + x) = (groupedOf q k v dy h).s a b := by
    refine (Finset.sum_congr rfl fun x hx => congrArg (· * _) (rows_qm q k v dy h a x (Finset.mem_range.mp hx))).trans ?_
    refine (sum_half (fun x => (groupedOf q k v dy h).q a (x % 64)) (fun x => (rowsOf q k v dy).k b (128 * (h / 4) + x)) (h % 2) (by omega)).trans ?_
    refine Finset.sum_congr rfl fun d hd => ?_
    have l := lanes h d (Finset.mem_range.mp hd)
    have e1 : (64 * (h % 2) + d) % 64 = d := by have := Finset.mem_range.mp hd; omega
    simp only [rowsOf, l, e1]
    rfl
  rw [Rows.p, e]
  rfl

theorem rows_ds (h a b : ℕ) : (rowsOf q k v dy).ds h a b = (groupedOf q k v dy h).ds a b := by
  rw [Rows.ds, rows_p, Head.ds, ← Head.delta]
  congr 2 <;> refine (Finset.sum_congr rfl fun x hx => congrArg (· * _) (rows_dym q k v dy h a x (Finset.mem_range.mp hx))).trans ?_
  · refine (sum_half (fun x => (groupedOf q k v dy h).dy a (x % 64)) (fun x => (rowsOf q k v dy).v b (128 * (h / 4) + x)) (h % 2) (by omega)).trans ?_
    refine Finset.sum_congr rfl fun d hd => ?_
    have l := lanes h d (Finset.mem_range.mp hd)
    have e1 : (64 * (h % 2) + d) % 64 = d := by have := Finset.mem_range.mp hd; omega
    simp only [rowsOf, l, e1]
    rfl
  · refine (sum_half (fun x => (groupedOf q k v dy h).dy a (x % 64)) (fun x => (rowsOf q k v dy).y a (128 * (h / 2) + x)) (h % 2) (by omega)).trans ?_
    refine Finset.sum_congr rfl fun d hd => ?_
    have l := lanes h d (Finset.mem_range.mp hd)
    have e1 : (64 * (h % 2) + d) % 64 = d := by have := Finset.mem_range.mp hd; omega
    simp only [rowsOf, l, e1]
    rfl

/-- A group's heads whose half of the lanes a row lies in. -/
theorem group_sum (f : ℕ → ℕ → ℕ → ℝ) (g : ℕ → ℕ → ℝ) (l : ℕ) (F : ℕ → ℕ → ℕ → ℝ)
    (hF : ∀ h a x, x < 128 → F h a x = if x / 64 = h % 2 then f h a (x % 64) else 0) :
    ∑ a ∈ Finset.range 8192, ∑ h ∈ Finset.range 4, F (4 * (l / 128) + h) a (l % 128) * g (4 * (l / 128) + h) a
      = ∑ u ∈ Finset.range 2, ∑ a ∈ Finset.range 8192, f (4 * (l / 128) + 2 * u + l / 64 % 2) a (l % 64) * g (4 * (l / 128) + 2 * u + l / 64 % 2) a := by
  rw [Finset.sum_comm (s := Finset.range 2)]
  refine Finset.sum_congr rfl fun a _ => ?_
  rw [← sum_parity (fun h => f h a (l % 64) * g h a) (l / 128) (l / 64 % 2) (by omega)]
  refine Finset.sum_congr rfl fun h _ => ?_
  have e1 : l % 128 / 64 = l / 64 % 2 := by omega
  have e2 : l % 128 % 64 = l % 64 := by omega
  rw [hF _ _ _ (by omega), e1, e2, ite_mul, zero_mul]

variable {q k v dy} {m : (ℓ : Loc nD τ sig) → Buf (Elt Ideal) ℓ} {c : Dev nD}

theorem idx0 : ∀ t : Fin cfg0.N, win0_0.index t = ![t.val % 16, t.val / 32] := (by decide +kernel : ∀ t : Fin grid0.N, _)
theorem idx1 : ∀ t : Fin cfg0.N, win0_1.index t = ![t.val / 16 % 2, t.val / 32] := (by decide +kernel : ∀ t : Fin grid0.N, _)
theorem idx2 : ∀ t : Fin cfg0.N, win0_2.index t = ![t.val / 16 % 2, t.val / 32] := (by decide +kernel : ∀ t : Fin grid0.N, _)
theorem idx3 : ∀ t : Fin cfg0.N, win0_3.index t = ![t.val % 16, t.val / 32] := (by decide +kernel : ∀ t : Fin grid0.N, _)
theorem idx4 : ∀ t : Fin cfg0.N, win0_4.index t = ![t.val % 16, t.val / 32] := (by decide +kernel : ∀ t : Fin grid0.N, _)
theorem idx5 : ∀ t : Fin cfg0.N, win0_5.index t = ![t.val / 32, 0, t.val % 16] := (by decide +kernel : ∀ t : Fin grid0.N, _)

theorem block0 (t : Fin cfg0.N) (ht : t.val < 64) (A : S8192x512.Idx → EReal) (a : Fin 512) (l : Fin 256) :
    ((cfg0.win 0).blk t).view.read (Elt Ideal) A (ix2 a l) = (A (ix2 ⟨512 * (t.val % 16) + a.val, by omega⟩ ⟨256 * (t.val / 32) + l.val, by omega⟩) : EReal) := by
  blk_ext [idx0 t]

theorem block5 (t : Fin cfg0.N) (ht : t.val < 64) (A : S8x1x8192.Idx → EReal) (h : Fin 4) (a : Fin 512)  :
    ((cfg0.win 5).blk t).view.read (Elt Ideal) A (ix3 h 0 a) = (A (ix3 ⟨4 * (t.val / 32) + h.val, by omega⟩ 0 ⟨512 * (t.val % 16) + a.val, by omega⟩) : EReal) := by
  blk_ext [idx5 t]

theorem block1 (t : Fin cfg0.N) (ht : t.val < 64) (A : S8192x256.Idx → EReal) (a : Fin 4096) (l : Fin 128) :
    ((cfg0.win 1).blk t).view.read (Elt Ideal) A (ix2 a l) = (A (ix2 ⟨4096 * (t.val / 16 % 2) + a.val, by omega⟩ ⟨128 * (t.val / 32) + l.val, by omega⟩) : EReal) := by
  blk_ext [idx1 t]

theorem block2 (t : Fin cfg0.N) (ht : t.val < 64) (A : S8192x256.Idx → EReal) (a : Fin 4096) (l : Fin 128) :
    ((cfg0.win 2).blk t).view.read (Elt Ideal) A (ix2 a l) = (A (ix2 ⟨4096 * (t.val / 16 % 2) + a.val, by omega⟩ ⟨128 * (t.val / 32) + l.val, by omega⟩) : EReal) := by
  blk_ext [idx2 t]

theorem block3 (t : Fin cfg0.N) (ht : t.val < 64) (A : S8192x512.Idx → EReal) (a : Fin 512) (l : Fin 256) :
    ((cfg0.win 3).blk t).view.read (Elt Ideal) A (ix2 a l) = (A (ix2 ⟨512 * (t.val % 16) + a.val, by omega⟩ ⟨256 * (t.val / 32) + l.val, by omega⟩) : EReal) := by
  blk_ext [idx3 t]

theorem block4 (t : Fin cfg0.N) (ht : t.val < 64) (A : S8192x512.Idx → EReal) (a : Fin 512) (l : Fin 256) :
    ((cfg0.win 4).blk t).view.read (Elt Ideal) A (ix2 a l) = (A (ix2 ⟨512 * (t.val % 16) + a.val, by omega⟩ ⟨256 * (t.val / 32) + l.val, by omega⟩) : EReal) := by
  blk_ext [idx4 t]

/-- Rounding to a shorter format changes no real number. -/
theorem trunc_at {s : Shape} (x : FVec Ideal s .f32) (i : s.Idx) : truncf .bf16 x bitsLt_bf16_f32 i = x i := by
  pointwise

variable (h0 : arg0 m c = lift q) (h1 : arg1 m c = lift k) (h2 : arg2 m c = lift v) (h3 : arg3 m c = lift dy)
include h0 h1 h2 h3

theorem operand_q (a : Fin 8192) (l : Fin 512) : V m c main_v24 (ix2 a l) = (((rowsOf q k v dy).q a l : ℝ) : EReal) := by
  rw [(operands m c).1, trunc_at, h0]
  exact lanesOf_at _ (fun h a d => (groupedOf q k v dy h).q a d) (scaled_at q k v dy) a l

theorem operand_k (a : Fin 8192) (l : Fin 256) : V m c main_v28 (ix2 a l) = (((rowsOf q k v dy).k a l : ℝ) : EReal) := by
  rw [(operands m c).2.1, trunc_at, h1]
  exact twice_at _ (at3 k) (fun h a d => congrArg _ (at3_fin k h a d).symm) a l

theorem operand_v (a : Fin 8192) (l : Fin 256) : V m c main_v32 (ix2 a l) = (((rowsOf q k v dy).v a l : ℝ) : EReal) := by
  rw [(operands m c).2.2.1, trunc_at, h2]
  exact twice_at _ (at3 v) (fun h a d => congrArg _ (at3_fin v h a d).symm) a l

theorem operand_dy (a : Fin 8192) (l : Fin 512) : V m c main_v33 (ix2 a l) = (((rowsOf q k v dy).dy a l : ℝ) : EReal) := by
  rw [(operands m c).2.2.2.1, trunc_at, h3]
  exact congrArg _ (at2_fin dy a l).symm

theorem operand_y (a : Fin 8192) (l : Fin 512) : V m c main_v35 (ix2 a l) = (((rowsOf q k v dy).y a l : ℝ) : EReal) := by
  rw [(operands m c).2.2.2.2.1, h0, h1, h2]
  exact lanesOf_at _ (fun h a d => ∑ b ∈ Finset.range 8192, (groupedOf q k v dy h).p a b * (groupedOf q k v dy h).v b d)
    (fun h a d => output_at v dy (largest_top q k h a) d) a l

theorem operand_lse (h : Fin 8) (a : Fin 8192) : V m c main_v21 (ix3 h 0 a) = (((rowsOf q k v dy).lse h a : ℝ) : EReal) := by
  rw [(operands m c).2.2.2.2.2, h0, h1]
  exact logs_at v dy (largest_top q k h a)

set_option maxHeartbeats 2000000 in
theorem given : Given m c (rowsOf q k v dy) := by
  intro t
  have ht : t.val < 64 := t.isLt
  constructor
  · exact fun a l => (block0 t ht (V m c main_v24) a l).trans (operand_q h0 h1 h2 h3 ⟨512 * (t.val % 16) + a.val, by omega⟩ ⟨256 * (t.val / 32) + l.val, by omega⟩)
  · exact fun a l => (block1 t ht (V m c main_v28) a l).trans (operand_k h0 h1 h2 h3 ⟨4096 * (t.val / 16 % 2) + a.val, by omega⟩ ⟨128 * (t.val / 32) + l.val, by omega⟩)
  · exact fun a l => (block2 t ht (V m c main_v32) a l).trans (operand_v h0 h1 h2 h3 ⟨4096 * (t.val / 16 % 2) + a.val, by omega⟩ ⟨128 * (t.val / 32) + l.val, by omega⟩)
  · exact fun a l => (block3 t ht (V m c main_v33) a l).trans (operand_dy h0 h1 h2 h3 ⟨512 * (t.val % 16) + a.val, by omega⟩ ⟨256 * (t.val / 32) + l.val, by omega⟩)
  · exact fun a l => (block4 t ht (V m c main_v35) a l).trans (operand_y h0 h1 h2 h3 ⟨512 * (t.val % 16) + a.val, by omega⟩ ⟨256 * (t.val / 32) + l.val, by omega⟩)
  · exact fun h a => (block5 t ht (V m c main_v21) h a).trans (operand_lse h0 h1 h2 h3 ⟨4 * (t.val / 32) + h.val, by omega⟩ ⟨512 * (t.val % 16) + a.val, by omega⟩)

/-- The query gradient the call returns. -/
theorem given_dq : (dats m 0 c).arrAt 6 (cfgs 0).N = fun y : S8192x512.Idx =>
    ((∑ b ∈ Finset.range 8192, (groupedOf q k v dy ((y 1).val / 64)).ds (y 0).val b * (groupedOf q k v dy ((y 1).val / 64)).k b ((y 1).val % 64) : ℝ) : EReal) := by
  rw [final_dq (given h0 h1 h2 h3)]
  simp only [rows_ds]
  funext y
  have e1 : (128 * ((y 1).val / 256) + (y 1).val % 128) / 128 = (y 1).val / 64 / 4 := by omega
  have e2 : (128 * ((y 1).val / 256) + (y 1).val % 128) % 64 = (y 1).val % 64 := by omega
  simp only [rowsOf, e1, e2]
  rfl

/-- The key gradients the call returns. -/
theorem given_dk : (dats m 0 c).arrAt 7 (cfgs 0).N = fun y : S256x8192.Idx =>
    ((∑ u ∈ Finset.range 2, ∑ a ∈ Finset.range 8192, (groupedOf q k v dy (4 * ((y 0).val / 128) + 2 * u + (y 0).val / 64 % 2)).q a ((y 0).val % 64)
      * (groupedOf q k v dy (4 * ((y 0).val / 128) + 2 * u + (y 0).val / 64 % 2)).ds a (y 1).val : ℝ) : EReal) := by
  rw [final_dk (given h0 h1 h2 h3)]
  simp only [rows_ds]
  funext y
  exact congrArg _ (group_sum (fun h => (groupedOf q k v dy h).q) (fun h a => (groupedOf q k v dy h).ds a (y 1).val) (y 0).val _ (rows_qm q k v dy))

/-- The value gradients the call returns. -/
theorem given_dv : (dats m 0 c).arrAt 8 (cfgs 0).N = fun y : S256x8192.Idx =>
    ((∑ u ∈ Finset.range 2, ∑ a ∈ Finset.range 8192, (groupedOf q k v dy (4 * ((y 0).val / 128) + 2 * u + (y 0).val / 64 % 2)).dy a ((y 0).val % 64)
      * (groupedOf q k v dy (4 * ((y 0).val / 128) + 2 * u + (y 0).val / 64 % 2)).p a (y 1).val : ℝ) : EReal) := by
  rw [final_dv (given h0 h1 h2 h3)]
  simp only [rows_p]
  funext y
  exact congrArg _ (group_sum (fun h => (groupedOf q k v dy h).dy) (fun h a => (groupedOf q k v dy h).p a (y 1).val) (y 0).val _ (rows_dym q k v dy))

end Cert.Kernel2Ideal.Bwd

end
-- ==== Proof.Ref.lean ====
/-
  The reference's stages at an index, over the real numbers: its gradients in terms of the attention's heads.
-/
module

public import proofs.«01_k».proof.Proof.Gen.ReferenceIdeal.Read
public import proofs.«01_k».proof.Proof.Heads

@[expose] public section

set_option maxRecDepth 16384

noncomputable section

namespace Cert.ReferenceIdeal.Grad

open Idealize.ShloMosaic Idealize.ShloMosaic.TcCoe
open Cert.ReferenceIdeal.Gen Cert.ReferenceIdeal.Read Cert.Softmax

/-! ## Each stage from the ones before -/

section Stages

variable (x0 x1 : FVec Ideal S4x8192x96 .f32) (x2 : FVec Ideal S4x8192x128 .f32) (x3 : FVec Ideal S8192x512 .f32) (h : Fin 4) (a b : Fin 8192)

theorem ofBits_bot : Ideal.ofBits .f32 0xFF800000#32 = ⊥ := by simp [Ideal.ofBits, Ideal.ieee]

theorem ofBits_one : Ideal.ofBits .f32 0x3F800000#32 = ((1 : ℝ) : EReal) := by
  simp [Ideal.ofBits, Ideal.ieee]
  rw [← EReal.coe_mul, ← EReal.coe_one]
  congr 1
  norm_num

theorem fill_zero : (FloatOps.sitofp (F := Ideal) FTy.f32 0#32) = 0 := by
  show (((0#32 : BitVec 32).toInt : ℝ) : EReal) = 0
  simp

theorem v1_eq (d : Fin 96) : val_main_v1 (F := Ideal) x0 (ix3 h a d) = x0 (ix3 h a d) * ((scale : ℝ) : EReal) := by
  pointwise [val_main_v1, val_main_v0, val_main_cst]
  rw [scale_eq]

theorem v2_eq : val_main_v2 (F := Ideal) x0 x1 (ix3 h a b) = ∑ d : Fin 96, val_main_v1 (F := Ideal) x0 (ix3 h a d) * x1 (ix3 h b d) := by
  pointwise [val_main_v2]

theorem v3_eq (M : EReal) (hM : Finset.univ.fold max ⊥ (fun b : Fin 8192 => val_main_v2 (F := Ideal) x0 x1 (ix3 h a b)) = M) :
    val_main_v3 (F := Ideal) x0 x1 (ix2 h a) = M := by
  pointwise [val_main_v3, val_main_cst_0]
  rw [ofBits_bot, hM]

theorem v10_eq (M : EReal) (hM : val_main_v3 (F := Ideal) x0 x1 (ix2 h a) = M) : val_main_v10 (F := Ideal) x0 x1 (ix2 h a) = M := by
  rw [val_main_v10_apply, hM, val_main_v9_apply, val_main_cst_2_apply]
  show max (Ideal.ofBits .f32 0xFF800000#32) M = M
  rw [ofBits_bot]
  exact max_bot_left M

theorem v23_eq : val_main_v23 (F := Ideal) x0 x1 (ix3 h a b)
    = Ideal.exp (val_main_v2 (F := Ideal) x0 x1 (ix3 h a b) - val_main_v10 (F := Ideal) x0 x1 (ix2 h a)) := by
  pointwise [val_main_v23, val_main_v22, val_main_v21, val_main_v20]

theorem v24_eq (z : EReal) (hz : ∑ b : Fin 8192, val_main_v23 (F := Ideal) x0 x1 (ix3 h a b) = z) : val_main_v24 (F := Ideal) x0 x1 (ix2 h a) = z := by
  pointwise [val_main_v24, val_main_cst_8]
  exact hz

theorem v27_eq : val_main_v27 (F := Ideal) x0 x1 (ix3 h a b)
    = Ideal.div (val_main_v23 (F := Ideal) x0 x1 (ix3 h a b)) (val_main_v24 (F := Ideal) x0 x1 (ix2 h a)) := by
  pointwise [val_main_v27, val_main_v26, val_main_v25]

theorem v30_eq (z : EReal) (hz : val_main_v24 (F := Ideal) x0 x1 (ix2 h a) = z) :
    val_main_v30 (F := Ideal) x0 x1 (ix3 h a 0) = Ideal.div ((1 : ℝ) : EReal) (z * z) := by
  pointwise [val_main_v30, val_main_v29, val_main_v28, val_main_v25, val_main_cst_9]
  rw [hz]
  first | rw [ofBits_one] | norm_num

theorem v35_eq (d : Fin 128) : val_main_v35 (F := Ideal) x3 (ix3 h a d) = x3 (ix2 a ⟨128 * h.val + d.val, by omega⟩) := by
  have hd := d.isLt
  pointwise [val_main_v35, val_main_v34]
  exact congrArg (fun l : Fin 512 => x3 (ix2 a l)) (Fin.ext (by show h.val * 128 + d.val = 128 * h.val + d.val; omega))

theorem v36_eq (d : Fin 128) : val_main_v36 (F := Ideal) x0 x1 x3 (ix3 h d b)
    = ∑ a : Fin 8192, val_main_v35 (F := Ideal) x3 (ix3 h a d) * val_main_v27 (F := Ideal) x0 x1 (ix3 h a b) := by
  pointwise [val_main_v36]

theorem v38_eq : val_main_v38 (F := Ideal) x2 x3 (ix3 h a b) = ∑ d : Fin 128, val_main_v35 (F := Ideal) x3 (ix3 h a d) * x2 (ix3 h b d) := by
  pointwise [val_main_v38]

theorem v41_eq : val_main_v41 (F := Ideal) x0 x1 x2 x3 (ix3 h a b)
    = val_main_v38 (F := Ideal) x2 x3 (ix3 h a b) * val_main_v30 (F := Ideal) x0 x1 (ix3 h a 0) * val_main_v23 (F := Ideal) x0 x1 (ix3 h a b) := by
  pointwise [val_main_v41, val_main_v40, val_main_v39]

theorem v42_eq (z : EReal) (hz : ∑ b : Fin 8192, val_main_v41 (F := Ideal) x0 x1 x2 x3 (ix3 h a b) = z) : val_main_v42 (F := Ideal) x0 x1 x2 x3 (ix2 h a) = z := by
  pointwise [val_main_v42, val_main_cst_10]
  exact hz

theorem v47_eq (z : EReal) (hz : val_main_v42 (F := Ideal) x0 x1 x2 x3 (ix2 h a) = z) : val_main_v47 (F := Ideal) x0 x1 x2 x3 (ix2 h a) = -z := by
  pointwise [val_main_v47, val_main_v44, val_main_v43, val_main_cst_11]
  rw [hz]
  exact Fin.sum_univ_one _

theorem v50_eq : val_main_v50 (F := Ideal) x0 x1 x2 x3 (ix3 h a b)
    = (Ideal.div (val_main_v38 (F := Ideal) x2 x3 (ix3 h a b)) (val_main_v24 (F := Ideal) x0 x1 (ix2 h a)) + val_main_v47 (F := Ideal) x0 x1 x2 x3 (ix2 h a))
      * val_main_v23 (F := Ideal) x0 x1 (ix3 h a b) := by
  pointwise [val_main_v50, val_main_v49, val_main_v48, val_main_v46, val_main_v45, val_main_v25]

theorem v51_eq (d : Fin 96) : val_main_v51 (F := Ideal) x0 x1 x2 x3 (ix3 h b d)
    = ∑ a : Fin 8192, val_main_v50 (F := Ideal) x0 x1 x2 x3 (ix3 h a b) * val_main_v1 (F := Ideal) x0 (ix3 h a d) := by
  pointwise [val_main_v51]

theorem v52_eq (d : Fin 96) : val_main_v52 (F := Ideal) x0 x1 x2 x3 (ix3 h a d)
    = ∑ b : Fin 8192, val_main_v50 (F := Ideal) x0 x1 x2 x3 (ix3 h a b) * x1 (ix3 h b d) := by
  pointwise [val_main_v52]

theorem v55_eq (l : Fin 512) (f : ℕ → ℕ → ℕ → ℝ)
    (hf : ∀ (h : Fin 4) (a : Fin 8192) (d : Fin 96), val_main_v52 (F := Ideal) x0 x1 x2 x3 (ix3 h a d) = ((f h a d : ℝ) : EReal))
    (h0 : ∀ h a d, 96 ≤ d → f h a d = 0) : val_main_v55 (F := Ideal) x0 x1 x2 x3 (ix2 a l) = ((f (l / 128) a (l % 128) : ℝ) : EReal) := by
  have hl := l.isLt
  pointwise [val_main_v55, val_main_v54, val_main_v53, val_main_call0_v0, val_main_c]
  by_cases h : l.val / 128 < 4 ∧ l.val % 128 < 96
  · rw [dif_pos h, hf]
  · rw [dif_neg h, fill_zero, h0 _ _ _ (by omega), EReal.coe_zero]

theorem v58_eq (l : Fin 512) (f : ℕ → ℕ → ℕ → ℝ)
    (hf : ∀ (h : Fin 4) (b : Fin 8192) (d : Fin 96), val_main_v51 (F := Ideal) x0 x1 x2 x3 (ix3 h b d) = ((f h b d : ℝ) : EReal))
    (h0 : ∀ h b d, 96 ≤ d → f h b d = 0) : val_main_v58 (F := Ideal) x0 x1 x2 x3 (ix2 l b) = ((f (l / 128) b (l % 128) : ℝ) : EReal) := by
  have hl := l.isLt
  pointwise [val_main_v58, val_main_v57, val_main_v56, val_main_call1_v0, val_main_c_12]
  by_cases h : l.val / 128 < 4 ∧ l.val % 128 < 96
  · rw [dif_pos h, hf]
  · rw [dif_neg h, fill_zero, h0 _ _ _ (by omega), EReal.coe_zero]

theorem v60_eq (l : Fin 512) : val_main_v60 (F := Ideal) x0 x1 x3 (ix2 l b)
    = val_main_v36 (F := Ideal) x0 x1 x3 (ix3 (⟨l.val / 128, by omega⟩ : Fin 4) (⟨l.val % 128, by omega⟩ : Fin 128) b) := by
  pointwise [val_main_v60, val_main_v59, val_main_v37]

end Stages

/-! ## The stages over the real numbers -/

section Reals

variable (q k : S4x8192x96.Idx → ℝ) (v : S4x8192x128.Idx → ℝ) (dy : S8192x512.Idx → ℝ) (h : Fin 4) (a b : Fin 8192)

theorem v1_at (d : Fin 96) : val_main_v1 (F := Ideal) (lift q) (ix3 h a d) = (((headOf q k v dy h).q a d : ℝ) : EReal) := by
  rw [v1_eq, lift_apply, ← EReal.coe_mul, ← at3_fin q]
  rfl

theorem v2_at : val_main_v2 (F := Ideal) (lift q) (lift k) (ix3 h a b) = (((headOf q k v dy h).s a b : ℝ) : EReal) := by
  rw [headOf_s, v2_eq]
  refine Finset.sum_congr rfl fun d _ => ?_
  rw [v1_at q k v dy, lift_apply, ← at3_fin k]
  rfl

theorem v10_at : ∃ M : ℝ, val_main_v10 (F := Ideal) (lift q) (lift k) (ix2 h a) = ((M : ℝ) : EReal) := by
  obtain ⟨M, hM⟩ := fold_max_coe (n := 8192) (by decide) fun b => (headOf q k 0 0 h).s a b
  refine ⟨M, v10_eq _ _ _ _ _ (v3_eq _ _ _ _ _ ?_)⟩
  rw [← hM]
  exact congrArg (fun f => Finset.univ.fold max ⊥ f) (funext fun b => v2_at q k 0 0 h a b)

variable {q k h a} {M : ℝ} (hM : val_main_v10 (F := Ideal) (lift q) (lift k) (ix2 h a) = ((M : ℝ) : EReal))

section Row
include hM

theorem v23_at : val_main_v23 (F := Ideal) (lift q) (lift k) (ix3 h a b) = ((Real.exp ((headOf q k v dy h).s a b - M) : ℝ) : EReal) := by
  rw [v23_eq, hM, v2_at q k v dy, ← EReal.coe_sub, Ideal.exp_coe]

theorem v24_at : val_main_v24 (F := Ideal) (lift q) (lift k) (ix2 h a) = (((headOf q k v dy h).zs M a : ℝ) : EReal) := by
  rw [headOf_zs]
  exact v24_eq _ _ _ _ _ (Finset.sum_congr rfl fun b _ => v23_at v dy b hM)

theorem v30_at : val_main_v30 (F := Ideal) (lift q) (lift k) (ix3 h a 0) = ((1 / ((headOf q k v dy h).zs M a * (headOf q k v dy h).zs M a) : ℝ) : EReal) := by
  have hz := (Head.zs_pos (headOf q k v dy h) M a).ne'
  rw [v30_eq _ _ _ _ _ (v24_at v dy hM), ← EReal.coe_mul, div_coe_coe _ (mul_ne_zero hz hz)]

end Row

variable (q k h a)

theorem v27_at : val_main_v27 (F := Ideal) (lift q) (lift k) (ix3 h a b) = (((headOf q k v dy h).p a b : ℝ) : EReal) := by
  obtain ⟨M, hM⟩ := v10_at q k h a
  rw [v27_eq, v23_at v dy b hM, v24_at v dy hM, div_coe_coe _ (Head.zs_pos _ _ _).ne', Head.shift]

theorem v35_at (d : Fin 128) : val_main_v35 (F := Ideal) (lift dy) (ix3 h a d) = (((headOf q k v dy h).dy a d : ℝ) : EReal) := by
  rw [v35_eq, lift_apply, ← at2_fin dy]
  rfl

theorem v36_at (d : Fin 128) : val_main_v36 (F := Ideal) (lift q) (lift k) (lift dy) (ix3 h d b)
    = ((∑ a ∈ Finset.range 8192, at2 dy a (128 * h + d) * (headOf q k v dy h).p a b : ℝ) : EReal) := by
  rw [v36_eq, coe_range]
  refine Finset.sum_congr rfl fun a _ => ?_
  rw [v35_at q k v dy, v27_at q k v dy, ← EReal.coe_mul]
  rfl

theorem v38_at : val_main_v38 (F := Ideal) (lift v) (lift dy) (ix3 h a b) = (((headOf q k v dy h).dp a b : ℝ) : EReal) := by
  rw [headOf_dp, v38_eq]
  refine Finset.sum_congr rfl fun d _ => ?_
  rw [v35_at q k v dy, lift_apply, ← at3_fin v]
  rfl

theorem v50_at : val_main_v50 (F := Ideal) (lift q) (lift k) (lift v) (lift dy) (ix3 h a b) = (((headOf q k v dy h).ds a b : ℝ) : EReal) := by
  obtain ⟨M, hM⟩ := v10_at q k h a
  have h41 : ∀ b : Fin 8192, val_main_v41 (F := Ideal) (lift q) (lift k) (lift v) (lift dy) (ix3 h a b)
      = (((headOf q k v dy h).dp a b * (1 / ((headOf q k v dy h).zs M a * (headOf q k v dy h).zs M a)) * Real.exp ((headOf q k v dy h).s a b - M) : ℝ) : EReal) := fun b => by
    rw [v41_eq, v38_at q k v dy, v30_at v dy hM, v23_at v dy b hM, ← EReal.coe_mul, ← EReal.coe_mul]
  have h42 := v42_eq (lift q) (lift k) (lift v) (lift dy) h a _ ((Finset.sum_congr rfl fun b _ => h41 b).trans
    (coe_range 8192 fun b => (headOf q k v dy h).dp a b * (1 / ((headOf q k v dy h).zs M a * (headOf q k v dy h).zs M a)) * Real.exp ((headOf q k v dy h).s a b - M)).symm)
  rw [v50_eq, v47_eq _ _ _ _ _ _ _ h42, v38_at q k v dy, v24_at v dy hM, v23_at v dy b hM, div_coe_coe _ (Head.zs_pos _ _ _).ne',
    ← EReal.coe_neg, ← EReal.coe_add, ← EReal.coe_mul]
  exact congrArg _ (Head.quotient (headOf q k v dy h) M a b)

theorem v51_at (d : Fin 96) : val_main_v51 (F := Ideal) (lift q) (lift k) (lift v) (lift dy) (ix3 h b d)
    = ((∑ a ∈ Finset.range 8192, (headOf q k v dy h).q a d * (headOf q k v dy h).ds a b : ℝ) : EReal) := by
  rw [v51_eq, coe_range]
  refine Finset.sum_congr rfl fun a _ => ?_
  rw [v50_at q k v dy, v1_at q k v dy, ← EReal.coe_mul, mul_comm]

theorem v52_at (d : Fin 96) : val_main_v52 (F := Ideal) (lift q) (lift k) (lift v) (lift dy) (ix3 h a d)
    = ((∑ b ∈ Finset.range 8192, (headOf q k v dy h).ds a b * (headOf q k v dy h).k b d : ℝ) : EReal) := by
  rw [v52_eq, coe_range]
  refine Finset.sum_congr rfl fun b _ => ?_
  rw [v50_at q k v dy, lift_apply, ← at3_fin k, ← EReal.coe_mul]
  rfl

/-- The query gradient. -/
theorem dq_at : val_main_v55 (F := Ideal) (lift q) (lift k) (lift v) (lift dy) = fun y : S8192x512.Idx =>
    ((∑ b ∈ Finset.range 8192, (headOf q k v dy ((y 1).val / 128)).ds (y 0).val b * (headOf q k v dy ((y 1).val / 128)).k b ((y 1).val % 128) : ℝ) : EReal) := by
  funext y
  idx_vars y
  refine v55_eq _ _ _ _ _ _ (fun h a d => ∑ b ∈ Finset.range 8192, (headOf q k v dy h).ds a b * (headOf q k v dy h).k b d) (v52_at q k v dy) fun h a d hd => ?_
  exact Finset.sum_eq_zero fun b _ => mul_eq_zero_of_right _ (at3_out k h b d hd)

/-- The key gradient, transposed. -/
theorem dk_at : val_main_v58 (F := Ideal) (lift q) (lift k) (lift v) (lift dy) = fun y : S512x8192.Idx =>
    ((∑ a ∈ Finset.range 8192, (headOf q k v dy ((y 0).val / 128)).q a ((y 0).val % 128) * (headOf q k v dy ((y 0).val / 128)).ds a (y 1).val : ℝ) : EReal) := by
  funext y
  idx_vars y
  refine v58_eq _ _ _ _ _ _ (fun h b d => ∑ a ∈ Finset.range 8192, (headOf q k v dy h).q a d * (headOf q k v dy h).ds a b) (v51_at q k v dy) fun h b d hd => ?_
  exact Finset.sum_eq_zero fun a _ => mul_eq_zero_of_left (by show at3 q h a d * scale = 0; rw [at3_out q h a d hd, zero_mul]) _

/-- The value gradient, transposed. -/
theorem dv_at : val_main_v60 (F := Ideal) (lift q) (lift k) (lift dy) = fun y : S512x8192.Idx =>
    ((∑ a ∈ Finset.range 8192, at2 dy a (y 0).val * (headOf q k v dy ((y 0).val / 128)).p a (y 1).val : ℝ) : EReal) := by
  funext y
  idx_vars y
  have e : 128 * (y0.val / 128) + y0.val % 128 = y0.val := by omega
  refine (v60_eq _ _ _ _ _).trans ((v36_at q k v dy _ _ _).trans ?_)
  show ((∑ a ∈ Finset.range 8192, at2 dy a (128 * (y0.val / 128) + y0.val % 128) * _ : ℝ) : EReal) = _
  rw [e]

end Reals

end Cert.ReferenceIdeal.Grad

end
-- ==== Proof.Ref2.lean ====
/-
  The second reference's stages at an index, over the real numbers: its gradients in terms of the attention's heads.
-/
module

public import proofs.«01_k».proof.Proof.Gen.Reference2Ideal.Read
public import proofs.«01_k».proof.Proof.Heads2

@[expose] public section

set_option maxRecDepth 16384

noncomputable section

namespace Cert.Reference2Ideal.Grad

open Idealize.ShloMosaic Idealize.ShloMosaic.TcCoe
open Cert.Reference2Ideal.Gen Cert.Reference2Ideal.Read Cert.Softmax

/-! ## Each stage from the ones before -/

section Stages

variable (x0 : FVec Ideal S8x8192x64 .f32) (x1 x2 : FVec Ideal S2x8192x64 .f32) (x3 : FVec Ideal S8192x512 .f32) (h : Fin 8) (a b : Fin 8192)

theorem ofBits_bot : Ideal.ofBits .f32 0xFF800000#32 = ⊥ := by simp [Ideal.ofBits, Ideal.ieee]

theorem ofBits_one : Ideal.ofBits .f32 0x3F800000#32 = ((1 : ℝ) : EReal) := by
  simp [Ideal.ofBits, Ideal.ieee]
  rw [← EReal.coe_mul, ← EReal.coe_one]
  congr 1
  norm_num

theorem fill_zero : (FloatOps.sitofp (F := Ideal) FTy.f32 0#32) = 0 := by
  show (((0#32 : BitVec 32).toInt : ℝ) : EReal) = 0
  simp

theorem v5_eq (d : Fin 64) : val_main_v5 (F := Ideal) x0 (ix3 h a d) = x0 (ix3 h a d) * ((scale2 : ℝ) : EReal) := by
  pointwise [val_main_v5, val_main_v4, val_main_cst]
  rw [scale2_eq]

theorem v8_eq (d : Fin 64) : val_main_v8 (F := Ideal) x1 (ix3 h b d) = x1 (ix3 ⟨h.val / 4, by omega⟩ b d) := by
  have hh := h.isLt
  have hb := b.isLt
  have hd := d.isLt
  pointwise [val_main_v8, val_main_v7, val_main_v6, val_main_v1, val_main_v0]

theorem v11_eq (d : Fin 64) : val_main_v11 (F := Ideal) x2 (ix3 h b d) = x2 (ix3 ⟨h.val / 4, by omega⟩ b d) := by
  have hh := h.isLt
  have hb := b.isLt
  have hd := d.isLt
  pointwise [val_main_v11, val_main_v10, val_main_v9, val_main_v3, val_main_v2]

theorem v12_eq : val_main_v12 (F := Ideal) x0 x1 (ix3 h a b) = ∑ d : Fin 64, val_main_v5 (F := Ideal) x0 (ix3 h a d) * val_main_v8 (F := Ideal) x1 (ix3 h b d) := by
  pointwise [val_main_v12]

theorem v13_eq (M : EReal) (hM : Finset.univ.fold max ⊥ (fun b : Fin 8192 => val_main_v12 (F := Ideal) x0 x1 (ix3 h a b)) = M) :
    val_main_v13 (F := Ideal) x0 x1 (ix2 h a) = M := by
  pointwise [val_main_v13, val_main_cst_0]
  rw [ofBits_bot, hM]

theorem v20_eq (M : EReal) (hM : val_main_v13 (F := Ideal) x0 x1 (ix2 h a) = M) : val_main_v20 (F := Ideal) x0 x1 (ix2 h a) = M := by
  rw [val_main_v20_apply, hM, val_main_v19_apply, val_main_cst_2_apply]
  show max (Ideal.ofBits .f32 0xFF800000#32) M = M
  rw [ofBits_bot]
  exact max_bot_left M

theorem v33_eq : val_main_v33 (F := Ideal) x0 x1 (ix3 h a b)
    = Ideal.exp (val_main_v12 (F := Ideal) x0 x1 (ix3 h a b) - val_main_v20 (F := Ideal) x0 x1 (ix2 h a)) := by
  pointwise [val_main_v33, val_main_v32, val_main_v31, val_main_v30]

theorem v34_eq (z : EReal) (hz : ∑ b : Fin 8192, val_main_v33 (F := Ideal) x0 x1 (ix3 h a b) = z) : val_main_v34 (F := Ideal) x0 x1 (ix2 h a) = z := by
  pointwise [val_main_v34, val_main_cst_8]
  exact hz

theorem v37_eq : val_main_v37 (F := Ideal) x0 x1 (ix3 h a b)
    = Ideal.div (val_main_v33 (F := Ideal) x0 x1 (ix3 h a b)) (val_main_v34 (F := Ideal) x0 x1 (ix2 h a)) := by
  pointwise [val_main_v37, val_main_v36, val_main_v35]

theorem v40_eq (z : EReal) (hz : val_main_v34 (F := Ideal) x0 x1 (ix2 h a) = z) :
    val_main_v40 (F := Ideal) x0 x1 (ix3 h a 0) = Ideal.div ((1 : ℝ) : EReal) (z * z) := by
  pointwise [val_main_v40, val_main_v39, val_main_v38, val_main_v35, val_main_cst_9]
  rw [hz]
  first | rw [ofBits_one] | norm_num

theorem v45_eq (d : Fin 64) : val_main_v45 (F := Ideal) x3 (ix3 h a d) = x3 (ix2 a ⟨64 * h.val + d.val, by omega⟩) := by
  have hd := d.isLt
  pointwise [val_main_v45, val_main_v44]
  exact congrArg (fun l : Fin 512 => x3 (ix2 a l)) (Fin.ext (by show h.val * 64 + d.val = 64 * h.val + d.val; omega))

theorem v46_eq (d : Fin 64) : val_main_v46 (F := Ideal) x0 x1 x3 (ix3 h d b)
    = ∑ a : Fin 8192, val_main_v45 (F := Ideal) x3 (ix3 h a d) * val_main_v37 (F := Ideal) x0 x1 (ix3 h a b) := by
  pointwise [val_main_v46]

theorem v48_eq : val_main_v48 (F := Ideal) x2 x3 (ix3 h a b) = ∑ d : Fin 64, val_main_v45 (F := Ideal) x3 (ix3 h a d) * val_main_v11 (F := Ideal) x2 (ix3 h b d) := by
  pointwise [val_main_v48]

theorem v51_eq : val_main_v51 (F := Ideal) x0 x1 x2 x3 (ix3 h a b)
    = val_main_v48 (F := Ideal) x2 x3 (ix3 h a b) * val_main_v40 (F := Ideal) x0 x1 (ix3 h a 0) * val_main_v33 (F := Ideal) x0 x1 (ix3 h a b) := by
  pointwise [val_main_v51, val_main_v50, val_main_v49]

theorem v52_eq (z : EReal) (hz : ∑ b : Fin 8192, val_main_v51 (F := Ideal) x0 x1 x2 x3 (ix3 h a b) = z) : val_main_v52 (F := Ideal) x0 x1 x2 x3 (ix2 h a) = z := by
  pointwise [val_main_v52, val_main_cst_10]
  exact hz

theorem v57_eq (z : EReal) (hz : val_main_v52 (F := Ideal) x0 x1 x2 x3 (ix2 h a) = z) : val_main_v57 (F := Ideal) x0 x1 x2 x3 (ix2 h a) = -z := by
  pointwise [val_main_v57, val_main_v54, val_main_v53, val_main_cst_11]
  rw [hz]
  exact Fin.sum_univ_one _

theorem v60_eq : val_main_v60 (F := Ideal) x0 x1 x2 x3 (ix3 h a b)
    = (Ideal.div (val_main_v48 (F := Ideal) x2 x3 (ix3 h a b)) (val_main_v34 (F := Ideal) x0 x1 (ix2 h a)) + val_main_v57 (F := Ideal) x0 x1 x2 x3 (ix2 h a))
      * val_main_v33 (F := Ideal) x0 x1 (ix3 h a b) := by
  pointwise [val_main_v60, val_main_v59, val_main_v58, val_main_v56, val_main_v55, val_main_v35]

theorem v61_eq (d : Fin 64) : val_main_v61 (F := Ideal) x0 x1 x2 x3 (ix3 h b d)
    = ∑ a : Fin 8192, val_main_v60 (F := Ideal) x0 x1 x2 x3 (ix3 h a b) * val_main_v5 (F := Ideal) x0 (ix3 h a d) := by
  pointwise [val_main_v61]

theorem v62_eq (d : Fin 64) : val_main_v62 (F := Ideal) x0 x1 x2 x3 (ix3 h a d)
    = ∑ b : Fin 8192, val_main_v60 (F := Ideal) x0 x1 x2 x3 (ix3 h a b) * val_main_v8 (F := Ideal) x1 (ix3 h b d) := by
  pointwise [val_main_v62]

theorem v72_eq (l : Fin 512) (f : ℕ → ℕ → ℕ → ℝ)
    (hf : ∀ (h : Fin 8) (a : Fin 8192) (d : Fin 64), val_main_v62 (F := Ideal) x0 x1 x2 x3 (ix3 h a d) = ((f h a d : ℝ) : EReal)) :
    val_main_v72 (F := Ideal) x0 x1 x2 x3 (ix2 a l) = ((f (l / 64) a (l % 64) : ℝ) : EReal) := by
  have hl := l.isLt
  pointwise [val_main_v72, val_main_v71]
  rw [hf]

/-- The four heads of a group lie along two axes: each key head is given twice, for the even and for the odd ones. -/
theorem head_eq {α : Type} (x : Fin 8 → α) (g p u : Fin 2) : x ⟨g.val * 4 + u.val * 2 + p.val, by omega⟩ = x ⟨4 * g.val + 2 * u.val + p.val, by omega⟩ :=
  congrArg x (Fin.ext (by show g.val * 4 + u.val * 2 + p.val = 4 * g.val + 2 * u.val + p.val; omega))

theorem v68_eq (g p : Fin 2) (d : Fin 64) : val_main_v68 (F := Ideal) x0 x1 x2 x3 (ix4 g p b d)
    = ∑ u : Fin 2, val_main_v61 (F := Ideal) x0 x1 x2 x3 (ix3 (⟨4 * g.val + 2 * u.val + p.val, by omega⟩ : Fin 8) b d) := by
  have hb := b.isLt
  have hd := d.isLt
  pointwise [val_main_v68, val_main_v67, val_main_cst_14]
  exact Finset.sum_congr rfl fun u _ => head_eq (fun h => val_main_v61 (F := Ideal) x0 x1 x2 x3 (ix3 h b d)) g p u

theorem v70_eq (g p : Fin 2) (d : Fin 64) : val_main_v70 (F := Ideal) x0 x1 x2 x3 (ix4 g p b d) = val_main_v68 (F := Ideal) x0 x1 x2 x3 (ix4 g p b d) := by
  pointwise [val_main_v70, val_main_v69, val_main_cst_15]
  exact Fin.sum_univ_one _

theorem v74_eq (l : Fin 256) : val_main_v74 (F := Ideal) x0 x1 x2 x3 (ix2 l b)
    = val_main_v70 (F := Ideal) x0 x1 x2 x3 (ix4 (⟨l.val / 128, by omega⟩ : Fin 2) (⟨l.val / 64 % 2, by omega⟩ : Fin 2) b (⟨l.val % 64, by omega⟩ : Fin 64)) := by
  have hl := l.isLt
  have hb := b.isLt
  pointwise [val_main_v74, val_main_v73]

theorem v64_eq (g p : Fin 2) (d : Fin 64) : val_main_v64 (F := Ideal) x0 x1 x3 (ix4 g p b d)
    = ∑ u : Fin 2, val_main_v46 (F := Ideal) x0 x1 x3 (ix3 (⟨4 * g.val + 2 * u.val + p.val, by omega⟩ : Fin 8) d b) := by
  have hb := b.isLt
  have hd := d.isLt
  pointwise [val_main_v64, val_main_v63, val_main_v47, val_main_cst_12]
  exact Finset.sum_congr rfl fun u _ => head_eq (fun h => val_main_v46 (F := Ideal) x0 x1 x3 (ix3 h d b)) g p u

theorem v66_eq (g p : Fin 2) (d : Fin 64) : val_main_v66 (F := Ideal) x0 x1 x3 (ix4 g p b d) = val_main_v64 (F := Ideal) x0 x1 x3 (ix4 g p b d) := by
  pointwise [val_main_v66, val_main_v65, val_main_cst_13]
  exact Fin.sum_univ_one _

theorem v76_eq (l : Fin 256) : val_main_v76 (F := Ideal) x0 x1 x3 (ix2 l b)
    = val_main_v66 (F := Ideal) x0 x1 x3 (ix4 (⟨l.val / 128, by omega⟩ : Fin 2) (⟨l.val / 64 % 2, by omega⟩ : Fin 2) b (⟨l.val % 64, by omega⟩ : Fin 64)) := by
  have hl := l.isLt
  have hb := b.isLt
  pointwise [val_main_v76, val_main_v75]

end Stages

/-! ## The stages over the real numbers -/

section Reals

variable (q : S8x8192x64.Idx → ℝ) (k v : S2x8192x64.Idx → ℝ) (dy : S8192x512.Idx → ℝ) (h : Fin 8) (a b : Fin 8192)

theorem v5_at (d : Fin 64) : val_main_v5 (F := Ideal) (lift q) (ix3 h a d) = (((groupedOf q k v dy h).q a d : ℝ) : EReal) := by
  rw [v5_eq, lift_apply, ← EReal.coe_mul, ← at3_fin q]
  rfl

theorem v12_at : val_main_v12 (F := Ideal) (lift q) (lift k) (ix3 h a b) = (((groupedOf q k v dy h).s a b : ℝ) : EReal) := by
  rw [groupedOf_s, v12_eq]
  refine Finset.sum_congr rfl fun d _ => ?_
  rw [v5_at q k v dy, v8_eq, lift_apply, ← at3_fin k]
  rfl

theorem v20_at : ∃ M : ℝ, val_main_v20 (F := Ideal) (lift q) (lift k) (ix2 h a) = ((M : ℝ) : EReal) := by
  obtain ⟨M, hM⟩ := fold_max_coe (n := 8192) (by decide) fun b => (groupedOf q k 0 0 h).s a b
  refine ⟨M, v20_eq _ _ _ _ _ (v13_eq _ _ _ _ _ ?_)⟩
  rw [← hM]
  exact congrArg (fun f => Finset.univ.fold max ⊥ f) (funext fun b => v12_at q k 0 0 h a b)

variable {q k h a} {M : ℝ} (hM : val_main_v20 (F := Ideal) (lift q) (lift k) (ix2 h a) = ((M : ℝ) : EReal))

section Row
include hM

theorem v33_at : val_main_v33 (F := Ideal) (lift q) (lift k) (ix3 h a b) = ((Real.exp ((groupedOf q k v dy h).s a b - M) : ℝ) : EReal) := by
  rw [v33_eq, hM, v12_at q k v dy, ← EReal.coe_sub, Ideal.exp_coe]

theorem v34_at : val_main_v34 (F := Ideal) (lift q) (lift k) (ix2 h a) = (((groupedOf q k v dy h).zs M a : ℝ) : EReal) := by
  rw [groupedOf_zs]
  exact v34_eq _ _ _ _ _ (Finset.sum_congr rfl fun b _ => v33_at v dy b hM)

theorem v40_at : val_main_v40 (F := Ideal) (lift q) (lift k) (ix3 h a 0) = ((1 / ((groupedOf q k v dy h).zs M a * (groupedOf q k v dy h).zs M a) : ℝ) : EReal) := by
  have hz := (Head.zs_pos (groupedOf q k v dy h) M a).ne'
  rw [v40_eq _ _ _ _ _ (v34_at v dy hM), ← EReal.coe_mul, div_coe_coe _ (mul_ne_zero hz hz)]

end Row

variable (q k h a)

theorem v37_at : val_main_v37 (F := Ideal) (lift q) (lift k) (ix3 h a b) = (((groupedOf q k v dy h).p a b : ℝ) : EReal) := by
  obtain ⟨M, hM⟩ := v20_at q k h a
  rw [v37_eq, v33_at v dy b hM, v34_at v dy hM, div_coe_coe _ (Head.zs_pos _ _ _).ne', Head.shift]

theorem v45_at (d : Fin 64) : val_main_v45 (F := Ideal) (lift dy) (ix3 h a d) = (((groupedOf q k v dy h).dy a d : ℝ) : EReal) := by
  rw [v45_eq, lift_apply, ← at2_fin dy]
  rfl

theorem v46_at (d : Fin 64) : val_main_v46 (F := Ideal) (lift q) (lift k) (lift dy) (ix3 h d b)
    = ((∑ a ∈ Finset.range 8192, at2 dy a (64 * h + d) * (groupedOf q k v dy h).p a b : ℝ) : EReal) := by
  rw [v46_eq, coe_range]
  refine Finset.sum_congr rfl fun a _ => ?_
  rw [v45_at q k v dy, v37_at q k v dy, ← EReal.coe_mul]
  rfl

theorem v48_at : val_main_v48 (F := Ideal) (lift v) (lift dy) (ix3 h a b) = (((groupedOf q k v dy h).dp a b : ℝ) : EReal) := by
  rw [groupedOf_dp, v48_eq]
  refine Finset.sum_congr rfl fun d _ => ?_
  rw [v45_at q k v dy, v11_eq, lift_apply, ← at3_fin v]
  rfl

theorem v60_at : val_main_v60 (F := Ideal) (lift q) (lift k) (lift v) (lift dy) (ix3 h a b) = (((groupedOf q k v dy h).ds a b : ℝ) : EReal) := by
  obtain ⟨M, hM⟩ := v20_at q k h a
  have h51 : ∀ b : Fin 8192, val_main_v51 (F := Ideal) (lift q) (lift k) (lift v) (lift dy) (ix3 h a b)
      = (((groupedOf q k v dy h).dp a b * (1 / ((groupedOf q k v dy h).zs M a * (groupedOf q k v dy h).zs M a)) * Real.exp ((groupedOf q k v dy h).s a b - M) : ℝ) : EReal) := fun b => by
    rw [v51_eq, v48_at q k v dy, v40_at v dy hM, v33_at v dy b hM, ← EReal.coe_mul, ← EReal.coe_mul]
  have h52 := v52_eq (lift q) (lift k) (lift v) (lift dy) h a _ ((Finset.sum_congr rfl fun b _ => h51 b).trans
    (coe_range 8192 fun b => (groupedOf q k v dy h).dp a b * (1 / ((groupedOf q k v dy h).zs M a * (groupedOf q k v dy h).zs M a)) * Real.exp ((groupedOf q k v dy h).s a b - M)).symm)
  rw [v60_eq, v57_eq _ _ _ _ _ _ _ h52, v48_at q k v dy, v34_at v dy hM, v33_at v dy b hM, div_coe_coe _ (Head.zs_pos _ _ _).ne',
    ← EReal.coe_neg, ← EReal.coe_add, ← EReal.coe_mul]
  exact congrArg _ (Head.quotient (groupedOf q k v dy h) M a b)

theorem v61_at (d : Fin 64) : val_main_v61 (F := Ideal) (lift q) (lift k) (lift v) (lift dy) (ix3 h b d)
    = ((∑ a ∈ Finset.range 8192, (groupedOf q k v dy h).q a d * (groupedOf q k v dy h).ds a b : ℝ) : EReal) := by
  rw [v61_eq, coe_range]
  refine Finset.sum_congr rfl fun a _ => ?_
  rw [v60_at q k v dy, v5_at q k v dy, ← EReal.coe_mul, mul_comm]

theorem v62_at (d : Fin 64) : val_main_v62 (F := Ideal) (lift q) (lift k) (lift v) (lift dy) (ix3 h a d)
    = ((∑ b ∈ Finset.range 8192, (groupedOf q k v dy h).ds a b * (groupedOf q k v dy h).k b d : ℝ) : EReal) := by
  rw [v62_eq, coe_range]
  refine Finset.sum_congr rfl fun b _ => ?_
  rw [v60_at q k v dy, v8_eq, lift_apply, ← at3_fin k, ← EReal.coe_mul]
  rfl

/-- The query gradient. -/
theorem dq_at : val_main_v72 (F := Ideal) (lift q) (lift k) (lift v) (lift dy) = fun y : S8192x512.Idx =>
    ((∑ b ∈ Finset.range 8192, (groupedOf q k v dy ((y 1).val / 64)).ds (y 0).val b * (groupedOf q k v dy ((y 1).val / 64)).k b ((y 1).val % 64) : ℝ) : EReal) := by
  funext y
  idx_vars y
  exact v72_eq _ _ _ _ _ _ (fun h a d => ∑ b ∈ Finset.range 8192, (groupedOf q k v dy h).ds a b * (groupedOf q k v dy h).k b d) (v62_at q k v dy)

/-- The key gradient of the even and of the odd heads of each group, transposed. -/
theorem dk_at : val_main_v74 (F := Ideal) (lift q) (lift k) (lift v) (lift dy) = fun y : S256x8192.Idx =>
    ((∑ u ∈ Finset.range 2, ∑ a ∈ Finset.range 8192, (groupedOf q k v dy (4 * ((y 0).val / 128) + 2 * u + (y 0).val / 64 % 2)).q a ((y 0).val % 64)
      * (groupedOf q k v dy (4 * ((y 0).val / 128) + 2 * u + (y 0).val / 64 % 2)).ds a (y 1).val : ℝ) : EReal) := by
  funext y
  idx_vars y
  refine (v74_eq _ _ _ _ _ _).trans ((v70_eq _ _ _ _ _ _ _ _).trans ((v68_eq _ _ _ _ _ _ _ _).trans ?_))
  rw [coe_range]
  exact Finset.sum_congr rfl fun u _ => v61_at q k v dy _ _ _

/-- The value gradient likewise. -/
theorem dv_at : val_main_v76 (F := Ideal) (lift q) (lift k) (lift dy) = fun y : S256x8192.Idx =>
    ((∑ u ∈ Finset.range 2, ∑ a ∈ Finset.range 8192, (groupedOf q k v dy (4 * ((y 0).val / 128) + 2 * u + (y 0).val / 64 % 2)).dy a ((y 0).val % 64)
      * (groupedOf q k v dy (4 * ((y 0).val / 128) + 2 * u + (y 0).val / 64 % 2)).p a (y 1).val : ℝ) : EReal) := by
  funext y
  idx_vars y
  refine (v76_eq _ _ _ _ _).trans ((v66_eq _ _ _ _ _ _ _).trans ((v64_eq _ _ _ _ _ _ _).trans ?_))
  rw [coe_range]
  exact Finset.sum_congr rfl fun u _ => v46_at q k v dy _ _ _

end Reals

end Cert.Reference2Ideal.Grad

end
-- ==== Proof.Finite.lean ====
/-
  Arrays of finite elements are arrays of real numbers.
-/
module

public import proofs.«01_k».proof.Proof.Gen.Pre_finite
public import proofs.«01_k».proof.Proof.Heads

@[expose] public section

set_option maxRecDepth 16384

noncomputable section

namespace Cert.Softmax

open Idealize.ShloMosaic

theorem lift_toReal {s : Shape} (x : FVec Ideal s .f32) (h : ∀ i, x i ≠ ⊥ ∧ x i ≠ ⊤) : x = lift fun i => (x i).toReal :=
  funext fun i => (coe_of_abs_lt (h i)).symm

theorem ofBits_top : Ideal.ofBits .f32 0x7F800000#32 = ⊤ := by simp [Ideal.ofBits, Ideal.ieee]

/-- An element whose absolute value compares below infinity is neither infinity. -/
theorem ne_of_below {x : EReal} (h : BitVec.ofBool (decide (FloatOps.absf (F := Ideal) (φ := .f32) x < Ideal.ofBits .f32 0x7F800000#32)) = 1#1) : x ≠ ⊥ ∧ x ≠ ⊤ := by
  rw [ofBits_top] at h
  have h' : max x (-x) < ⊤ := by
    by_contra hn
    rw [show decide (FloatOps.absf (F := Ideal) (φ := .f32) x < (⊤ : EReal)) = false from decide_eq_false hn] at h
    exact absurd h (by decide)
  constructor <;> rintro rfl <;> simp at h'

/-- The precondition gives real arrays. -/
theorem lift_of_finite [Cert.Pre_finite.Facts] (x0 x1 : FVec Ideal Cert.Pre_finite.S4x8192x96 .f32) (x2 : FVec Ideal Cert.Pre_finite.S4x8192x128 .f32)
    (x3 : FVec Ideal Cert.Pre_finite.S8192x512 .f32)
    (h : (Cert.Pre_finite.fn x0 x1 x2 x3).1 = (fun _ => 1#1) ∧ (Cert.Pre_finite.fn x0 x1 x2 x3).2.1 = (fun _ => 1#1)
      ∧ (Cert.Pre_finite.fn x0 x1 x2 x3).2.2.1 = (fun _ => 1#1) ∧ (Cert.Pre_finite.fn x0 x1 x2 x3).2.2.2 = fun _ => 1#1) :
    (x0 = lift fun i => (x0 i).toReal) ∧ (x1 = lift fun i => (x1 i).toReal) ∧ (x2 = lift fun i => (x2 i).toReal) ∧ x3 = lift fun i => (x3 i).toReal := by
  obtain ⟨h0, h1, h2, h3⟩ := h
  refine ⟨lift_toReal x0 fun i => ?_, lift_toReal x1 fun i => ?_, lift_toReal x2 fun i => ?_, lift_toReal x3 fun i => ?_⟩
  · have hi := congrFun h0 i
    pointwise [Cert.Pre_finite.fn] at hi
    exact ne_of_below hi
  · have hi := congrFun h1 i
    pointwise [Cert.Pre_finite.fn] at hi
    exact ne_of_below hi
  · have hi := congrFun h2 i
    pointwise [Cert.Pre_finite.fn] at hi
    exact ne_of_below hi
  · have hi := congrFun h3 i
    pointwise [Cert.Pre_finite.fn] at hi
    exact ne_of_below hi

end Cert.Softmax

end
-- ==== Proof.Finite2.lean ====
/-
  The grouped attention's arrays of finite elements are arrays of real numbers.
-/
module

public import proofs.«01_k».proof.Proof.Gen.Pre_finite2
public import proofs.«01_k».proof.Proof.Finite

@[expose] public section

set_option maxRecDepth 16384

noncomputable section

namespace Cert.Softmax

open Idealize.ShloMosaic

/-- The second precondition gives real arrays. -/
theorem lift_of_finite2 [Cert.Pre_finite2.Facts] (x0 : FVec Ideal Cert.Pre_finite2.S8x8192x64 .f32) (x1 x2 : FVec Ideal Cert.Pre_finite2.S2x8192x64 .f32)
    (x3 : FVec Ideal Cert.Pre_finite2.S8192x512 .f32)
    (h : (Cert.Pre_finite2.fn x0 x1 x2 x3).1 = (fun _ => 1#1) ∧ (Cert.Pre_finite2.fn x0 x1 x2 x3).2.1 = (fun _ => 1#1)
      ∧ (Cert.Pre_finite2.fn x0 x1 x2 x3).2.2.1 = (fun _ => 1#1) ∧ (Cert.Pre_finite2.fn x0 x1 x2 x3).2.2.2 = fun _ => 1#1) :
    (x0 = lift fun i => (x0 i).toReal) ∧ (x1 = lift fun i => (x1 i).toReal) ∧ (x2 = lift fun i => (x2 i).toReal) ∧ x3 = lift fun i => (x3 i).toReal := by
  obtain ⟨h0, h1, h2, h3⟩ := h
  refine ⟨lift_toReal x0 fun i => ?_, lift_toReal x1 fun i => ?_, lift_toReal x2 fun i => ?_, lift_toReal x3 fun i => ?_⟩
  · have hi := congrFun h0 i
    pointwise [Cert.Pre_finite2.fn] at hi
    exact ne_of_below hi
  · have hi := congrFun h1 i
    pointwise [Cert.Pre_finite2.fn] at hi
    exact ne_of_below hi
  · have hi := congrFun h2 i
    pointwise [Cert.Pre_finite2.fn] at hi
    exact ne_of_below hi
  · have hi := congrFun h3 i
    pointwise [Cert.Pre_finite2.fn] at hi
    exact ne_of_below hi

end Cert.Softmax

end
-- ==== Proof.Sum3.lean ====
/-
  The weight gradient's call over the extended reals: what the scratch holds after each point is the product's sum over
  the rows so far, and what it writes back is the reference's product.
-/
module

public import proofs.«01_k».proof.Defs
public import proofs.«01_k».proof.Proof.Gen.Kernel3
public import proofs.«01_k».proof.Proof.Gen.Kernel3Ideal.Frame
public import proofs.«01_k».proof.Proof.Gen.Kernel3Ideal.Value
public import proofs.«01_k».proof.Proof.Gen.Reference3Ideal.Read
public import proofs.«01_k».proof.Proof.Gen.Reference3Ideal.Run
public import Idealize.ShloMosaic.Lib.Pointwise

@[expose] public section

set_option maxRecDepth 16384

noncomputable section

namespace Cert.Kernel3Ideal.Sum

open Idealize.ShloMosaic Idealize.ShloMosaic.TcCoe
open Cert.Kernel3Ideal.Gen

theorem zeros : (![0, 0] : Fin 2 → Nat) = fun _ => 0 := funext fun a => by fin_cases a <;> rfl

/-! ## What one point leaves -/

section Cases

variable {F : FTy → Type} [FloatOps F]
variable (c : Dev nD) (i : grid0.Coords) (arg2 : Memref sig .tc .vmem S1024x1024 .bf16) (harg2 : arg2.IsWhole) (arg3 : Memref sig .tc .vmem S1024x3200 .bf16)
  (harg3 : arg3.IsWhole) (arg4 : Memref sig .tc .vmem S1024x3200 .bf16) (harg4 : arg4.IsWhole) (arg5 : Memref sig .tc .vmem S1024x3200 .f32) (harg5 : arg5.IsWhole)
  (x0 : Vec F S1024x1024 .bf16) (x1 : Vec F S1024x3200 .bf16) (acc : Vec F S1024x3200 .f32)

theorem first (hc0 : cond0_0 i) (hc1 : ¬cond0_1 i) :
    sout0_A_0 c i arg2 harg2 arg3 harg3 arg4 harg4 arg5 harg5 hc0 hc1 x0 x1 = k0_pay2 k0_pay1 x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x3200) zeros, View.readCov_unit_zero (S := S1024x3200) _ zeros]
  simp only [View.readAt_eq_ld, harg2.read_unread, harg3.read_unread, View.ld_unit_zero (S := S1024x1024) zeros, View.ld_unit_zero (S := S1024x3200) zeros]

theorem later (hc0 : ¬cond0_0 i) (hc1 : ¬cond0_1 i) :
    sout0_B_0 c i arg2 harg2 arg3 harg3 arg4 harg4 arg5 harg5 hc0 hc1 x0 x1 acc = k0_pay2 acc x0 x1 := by
  unfold sout0_B_0
  rw [View.read_writes_eq_canon _ _ _ (scover0_B_0 c i arg2 harg2 arg3 harg3 arg4 harg4 arg5 harg5 hc0 hc1 x0 x1 acc)]
  unfold kernelRun0_B
  dsimp only
  rw [View.canon_unit_zero zeros]
  simp only [View.readAt_eq_ld, harg2.read_unread, harg3.read_unread, harg5.read_unread, View.ld_unit_zero (S := S1024x1024) zeros,
    View.ld_unit_zero (S := S1024x3200) zeros]

theorem last (hc0 : ¬cond0_0 i) (hc1 : cond0_1 i) :
    out0_C_2 c i arg2 harg2 arg3 harg3 arg4 harg4 arg5 harg5 hc0 hc1 x0 x1 acc = k0_pay3 (k0_pay2 acc x0 x1) := by
  unfold out0_C_2
  rw [View.read_writes_eq_canon _ _ _ (cover0_C_2 c i arg2 harg2 arg3 harg3 arg4 harg4 arg5 harg5 hc0 hc1 x0 x1 acc)]
  unfold kernelRun0_C
  dsimp only
  sl_unfold_words
  rw [View.canon_unit_zero zeros, View.readCov_unit_zero (S := S1024x3200) _ zeros]
  simp only [View.readAt_eq_ld, harg2.read_unread, harg3.read_unread, harg5.read_unread, View.ld_unit_zero (S := S1024x1024) zeros,
    View.ld_unit_zero (S := S1024x3200) zeros]

end Cases

/-! ## The payload at an index -/

theorem pay1_at (y) : k0_pay1 (F := Ideal) y = 0 := by
  pointwise [k0_pay1]

theorem pay2_at (acc : FVec Ideal S1024x3200 .f32) (a : FVec Ideal S1024x1024 .bf16) (b : FVec Ideal S1024x3200 .bf16) (r : Fin 1024) (l : Fin 3200) :
    k0_pay2 (F := Ideal) acc a b (ix2 r l) = acc (ix2 r l) + ∑ x : Fin 1024, a (ix2 x r) * b (ix2 x l) := by
  pointwise [k0_pay2]

/-! ## The call -/

section Call

variable (m : (ℓ : Loc nD τ sig) → Buf (Elt Ideal) ℓ) (c : Dev nD)

abbrev arg0 : FVec Ideal S8192x1024 .f32 := m ((c : Thread nD τ).loc main_arg0)
abbrev arg1 : FVec Ideal S8192x3200 .f32 := m ((c : Thread nD τ).loc main_arg1)

theorem operands :
    V m c main_v0 = truncf .bf16 (arg0 m c) bitsLt_bf16_f32 ∧ V m c main_v1 = truncf .bf16 (arg1 m c) bitsLt_bf16_f32 := by
  refine ⟨?_, ?_⟩
  all_goals
    simp only [V, hostOps0, List.flatten_cons, List.flatten_nil, List.append_nil, List.cons_append, List.nil_append]
    after_results_simp
    try rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)

/-- Row `r` and lane `l` of the rows' product, the row's factor given by its lane. -/
def term (r : Fin 1024) (l : Fin 3200) (k : ℕ) : EReal :=
  if h : k < 8192 then arg0 m c (ix2 ⟨k, h⟩ r) * arg1 m c (ix2 ⟨k, h⟩ l) else 0

theorem block0_at (t : Fin cfg0.N) (x : Fin 1024) (r : Fin 1024) (hk : 1024 * t.val + x.val < 8192) :
    (iblk m c 0 t : FVec Ideal S1024x1024 .bf16) (ix2 x r) = arg0 m c (ix2 ⟨1024 * t.val + x.val, hk⟩ r) := by
  have e := idx0 t
  have e0 : win0_0.index t (0 : Fin 2) = t.val := congrFun e 0
  have e1 : win0_0.index t (1 : Fin 2) = 0 := congrFun e 1
  unfold iblk
  show V m c main_v0 _ = _
  rw [(operands m c).1]
  refine congrArg (arg0 m c) (funext fun a => Fin.ext ?_)
  match a with
  | ⟨0, _⟩ => show win0_0.index t (0 : Fin 2) * 1024 + 1 * x.val = 1024 * t.val + x.val; omega
  | ⟨1, _⟩ => show win0_0.index t (1 : Fin 2) * 1024 + 1 * r.val = r.val; omega

theorem block1_at (t : Fin cfg0.N) (x : Fin 1024) (l : Fin 3200) (hk : 1024 * t.val + x.val < 8192) :
    (iblk m c 1 t : FVec Ideal S1024x3200 .bf16) (ix2 x l) = arg1 m c (ix2 ⟨1024 * t.val + x.val, hk⟩ l) := by
  have e := idx1 t
  have e0 : win0_1.index t (0 : Fin 2) = t.val := congrFun e 0
  have e1 : win0_1.index t (1 : Fin 2) = 0 := congrFun e 1
  unfold iblk
  show V m c main_v1 _ = _
  rw [(operands m c).2]
  refine congrArg (arg1 m c) (funext fun a => Fin.ext ?_)
  match a with
  | ⟨0, _⟩ => show win0_1.index t (0 : Fin 2) * 1024 + 1 * x.val = 1024 * t.val + x.val; omega
  | ⟨1, _⟩ => show win0_1.index t (1 : Fin 2) * 3200 + 1 * l.val = l.val; omega

/-- One point adds its 1024 rows' products. -/
theorem point (t : Fin cfg0.N) (acc : FVec Ideal S1024x3200 .f32) (r : Fin 1024) (l : Fin 3200)
    (h : acc (ix2 r l) = ∑ k ∈ Finset.range (1024 * t.val), term m c r l k) :
    k0_pay2 (F := Ideal) acc (iblk m c 0 t) (iblk m c 1 t) (ix2 r l) = ∑ k ∈ Finset.range (1024 * (t.val + 1)), term m c r l k := by
  have ht : t.val < 8 := lt_of_lt_of_eq t.isLt N_0
  rw [pay2_at, h, Nat.mul_succ, Finset.sum_range_add, ← Fin.sum_univ_eq_sum_range (fun x => term m c r l (1024 * t.val + x)) 1024]
  refine congrArg _ (Finset.sum_congr rfl fun x _ => ?_)
  have hx := x.isLt
  have hk : 1024 * t.val + x.val < 8192 := by omega
  rw [block0_at m c t x r hk, block1_at m c t x l hk, term, dif_pos hk]

/-- After point `n` the scratch holds the sum over the first `n + 1` blocks of rows. -/
theorem scratch_at (r : Fin 1024) (l : Fin 3200) : ∀ (n : ℕ) (hn : n < cfg0.N), n < 7 →
    (outsAt0 m c n hn).2 (ix2 r l) = ∑ k ∈ Finset.range (1024 * (n + 1)), term m c r l k
  | 0, hn, _ => by
    rw [outsAt0_A m c ⟨0, hn⟩ (Nat.zero_mod _) (by dsimp only; omega)]
    dsimp only
    rw [first]
    exact point m c ⟨0, hn⟩ _ r l (by rw [pay1_at]; exact Finset.sum_range_zero _ |>.symm)
  | n + 1, hn, h7 => by
    rw [outsAt0_B m c ⟨n + 1, hn⟩ (by dsimp only; omega) (by dsimp only; omega)]
    dsimp only
    rw [later]
    exact point m c ⟨n + 1, hn⟩ _ r l (scratch_at r l n _ (by omega))

/-- What the call returns: the reference's product. -/
theorem result : Value.G2 m c = Cert.Reference3Ideal.Read.val_main_v4 (F := Ideal) (arg0 m c) (arg1 m c) := by
  have h7 : 7 < cfg0.N := lt_of_lt_of_eq (by decide) N_0.symm
  rw [Value.G2_last, ← Value.outsAt0_sweep m c 7 h7]
  funext y
  obtain ⟨r, l, rfl⟩ : ∃ (r : Fin 1024) (l : Fin 3200), y = ix2 r l := ⟨y 0, y 1, funext fun a => by match a with | ⟨0, _⟩ => rfl | ⟨1, _⟩ => rfl⟩
  rw [outsAt0_C m c ⟨7, h7⟩ (by dsimp only; omega) (by dsimp only)]
  dsimp only
  rw [last, Cert.Reference3Ideal.Read.val_main_v4_apply, Cert.Reference3Ideal.Read.val_main_v3_apply, Cert.Reference3Ideal.Read.val_main_v2_apply]
  refine (point m c ⟨7, h7⟩ _ r l (scratch_at m c r l 6 _ (by decide))).trans ?_
  refine (Fin.sum_univ_eq_sum_range (term m c r l) 8192).symm.trans (Finset.sum_congr rfl fun k _ => ?_)
  rw [term, dif_pos k.isLt, mul_comm]
  refine congrArg₂ (· * ·) (congrArg (arg1 m c) (funext fun a => ?_)) (congrArg (arg0 m c) (funext fun a => ?_))
  all_goals
    match a with
    | ⟨0, _⟩ => rfl
    | ⟨1, _⟩ => rfl

end Call

end Cert.Kernel3Ideal.Sum

end
-- ==== Proof.Output4.lean ====
/-
  The output product's call, one row block: what the body leaves in each result and in the scratch of the weights'
  gradient, as its payloads of the blocks it reads.
-/
module

public import proofs.«01_k».proof.Defs
public import proofs.«01_k».proof.Proof.Gen.Kernel4
public import proofs.«01_k».proof.Proof.Gen.Kernel4Ideal.Frame
public import Idealize.ShloMosaic.Lib.Pipeline.Value
public import Idealize.ShloMosaic.Lib.Pointwise

@[expose] public section

set_option maxRecDepth 16384

noncomputable section

namespace Cert.Kernel4Ideal.Output

open Idealize.ShloMosaic Idealize.ShloMosaic.TcCoe
open Cert.Kernel4Ideal.Gen

theorem zeros : (![0, 0] : Fin 2 → Nat) = fun _ => 0 := funext fun a => by fin_cases a <;> rfl

/-! ## Halves of an array of 1024 rows -/

section Halves

variable {F : FTy → Type} [FloatOps F] {e : EltTy}

/-- The first 512 rows. -/
def upper (w : Vec F S1024x1024 e) : Vec F S512x1024 e :=
  View.ld w (Rect.unit (s := S1024x1024) ![0, 0] S512x1024.size inb_S1024x1024_S512x1024_0_0)

/-- The last 512 rows. -/
def lower (w : Vec F S1024x1024 e) : Vec F S512x1024 e :=
  View.ld w (Rect.unit (s := S1024x1024) ![512, 0] S512x1024.size inb_S1024x1024_S512x1024_512_0)

/-- Two halves, one over the other. -/
def halves (a b : Vec F S512x1024 e) : Vec F S1024x1024 e := fun y =>
  if h : (y 0).val < 512 then a (ix2 ⟨(y 0).val, h⟩ (y 1))
  else b (ix2 ⟨(y 0).val - 512, by have := (y 0).isLt; change (y 0).val < 1024 at this; omega⟩ (y 1))

theorem canon_at {s : Shape} (r : Rect s) (w : r.shape.Idx → Elt F e) (L : List (View.Piece (Elt F) s e)) (y : s.Idx) (x : r.shape.Idx) (h : r.emb x = y) :
    View.canon ((⟨r, w⟩ : View.Piece (Elt F) s e) :: L) y = w x := by
  subst h
  exact View.canon_cons_emb r w L x

theorem canon_skip {s : Shape} (r : Rect s) (w : r.shape.Idx → Elt F e) (L : List (View.Piece (Elt F) s e)) (y : s.Idx) (h : y ∉ r.set) :
    View.canon ((⟨r, w⟩ : View.Piece (Elt F) s e) :: L) y = View.canon L y :=
  View.canon_cons_of_not_mem (⟨r, w⟩ : View.Piece (Elt F) s e) L h

theorem not_lower {y : S1024x1024.Idx} (h : (y 0).val < 512) :
    y ∉ (Rect.unit (s := S1024x1024) ![512, 0] S512x1024.size inb_S1024x1024_S512x1024_512_0).set := fun hm => by
  obtain ⟨x, hx⟩ := (Rect.unit (s := S1024x1024) ![512, 0] S512x1024.size inb_S1024x1024_S512x1024_512_0).exists_idx_of_mem hm
  have h512 : 512 + 1 * (x 0).val = (y 0).val := congrArg (fun z : S1024x1024.Idx => (z 0).val) hx
  omega

theorem not_upper {y : S1024x1024.Idx} (h : 512 ≤ (y 0).val) :
    y ∉ (Rect.unit (s := S1024x1024) ![0, 0] S512x1024.size inb_S1024x1024_S512x1024_0_0).set := fun hm => by
  obtain ⟨x, hx⟩ := (Rect.unit (s := S1024x1024) ![0, 0] S512x1024.size inb_S1024x1024_S512x1024_0_0).exists_idx_of_mem hm
  have h0 : 0 + 1 * (x 0).val = (y 0).val := congrArg (fun z : S1024x1024.Idx => (z 0).val) hx
  have hx0 : (x 0).val < 512 := (x 0).isLt
  omega

theorem emb_upper (x : S512x1024.Idx) (y : S1024x1024.Idx) (h0 : (y 0).val = (x 0).val) (h1 : (y 1).val = (x 1).val) :
    (Rect.unit (s := S1024x1024) ![0, 0] S512x1024.size inb_S1024x1024_S512x1024_0_0).emb x = y := funext fun d => Fin.ext (by
  match d with
  | ⟨0, _⟩ => show 0 + 1 * (x 0).val = (y 0).val; omega
  | ⟨1, _⟩ => show 0 + 1 * (x 1).val = (y 1).val; omega)

theorem emb_lower (x : S512x1024.Idx) (y : S1024x1024.Idx) (h0 : (y 0).val = 512 + (x 0).val) (h1 : (y 1).val = (x 1).val) :
    (Rect.unit (s := S1024x1024) ![512, 0] S512x1024.size inb_S1024x1024_S512x1024_512_0).emb x = y := funext fun d => Fin.ext (by
  match d with
  | ⟨0, _⟩ => show 512 + 1 * (x 0).val = (y 0).val; omega
  | ⟨1, _⟩ => show 0 + 1 * (x 1).val = (y 1).val; omega)

theorem halves_upper (a b : Vec F S512x1024 e) (y : S1024x1024.Idx) (h : (y 0).val < 512) : halves a b y = a (ix2 ⟨(y 0).val, h⟩ (y 1)) := dif_pos h

theorem halves_lower (a b : Vec F S512x1024 e) (y : S1024x1024.Idx) (x : S512x1024.Idx) (h0 : (y 0).val = 512 + (x 0).val) (h1 : (y 1).val = (x 1).val) :
    halves a b y = b x := by
  unfold halves
  rw [dif_neg (by omega)]
  refine congrArg b (funext fun d => Fin.ext ?_)
  match d with
  | ⟨0, _⟩ => show (y 0).val - 512 = (x 0).val; omega
  | ⟨1, _⟩ => show (y 1).val = (x 1).val; omega

theorem canon_halves (a b : Vec F S512x1024 e) (L : List (View.Piece (Elt F) S1024x1024 e)) :
    View.canon ((⟨Rect.unit (s := S1024x1024) ![512, 0] S512x1024.size inb_S1024x1024_S512x1024_512_0, b⟩ : View.Piece (Elt F) S1024x1024 e)
      :: (⟨Rect.unit (s := S1024x1024) ![0, 0] S512x1024.size inb_S1024x1024_S512x1024_0_0, a⟩ : View.Piece (Elt F) S1024x1024 e) :: L) = halves a b := by
  funext y
  by_cases h : (y 0).val < 512
  · rw [halves_upper a b y h, canon_skip _ b _ y (not_lower h)]
    exact canon_at (Rect.unit (s := S1024x1024) ![0, 0] S512x1024.size inb_S1024x1024_S512x1024_0_0) a L y _ (emb_upper (ix2 ⟨(y 0).val, h⟩ (y 1)) y rfl rfl)
  · have h0 : (y 0).val < 1024 := (y 0).isLt
    have e0 : (y 0).val = 512 + ((ix2 ⟨(y 0).val - 512, by omega⟩ (y 1) : S512x1024.Idx) 0).val := by
      show (y 0).val = 512 + ((y 0).val - 512)
      omega
    rw [halves_lower a b y (ix2 ⟨(y 0).val - 512, by omega⟩ (y 1)) e0 rfl]
    exact canon_at (Rect.unit (s := S1024x1024) ![512, 0] S512x1024.size inb_S1024x1024_S512x1024_512_0) b _ y _ (emb_lower _ y e0 rfl)

/-- The first rows of an array just filled. -/
theorem readCov_upper {κ : Kind} {sp : Space} (v : View sig κ sp S1024x1024 e) (z : Vec F S1024x1024 e) :
    v.readCov [(⟨Rect.unit (s := S1024x1024) ![0, 0] S1024x1024.size inb_S1024x1024_S1024x1024_0_0, z⟩ : View.Piece (Elt F) S1024x1024 e)]
      (Rect.unit (s := S1024x1024) ![0, 0] S512x1024.size inb_S1024x1024_S512x1024_0_0).toLoadRect = upper z := by
  rw [View.readCov_eq_canon', View.canon_unit_zero (S := S1024x1024) zeros]
  rfl

/-- The last rows of an array filled and then stored into at its first rows. -/
theorem readCov_lower {κ : Kind} {sp : Space} (v : View sig κ sp S1024x1024 e) (a : Vec F S512x1024 e) (z : Vec F S1024x1024 e) :
    v.readCov [(⟨Rect.unit (s := S1024x1024) ![0, 0] S512x1024.size inb_S1024x1024_S512x1024_0_0, a⟩ : View.Piece (Elt F) S1024x1024 e),
        (⟨Rect.unit (s := S1024x1024) ![0, 0] S1024x1024.size inb_S1024x1024_S1024x1024_0_0, z⟩ : View.Piece (Elt F) S1024x1024 e)]
      (Rect.unit (s := S1024x1024) ![512, 0] S512x1024.size inb_S1024x1024_S512x1024_512_0).toLoadRect = lower z := by
  rw [View.readCov_eq_canon']
  funext j
  have hj : 512 ≤ (((Rect.unit (s := S1024x1024) ![512, 0] S512x1024.size inb_S1024x1024_S512x1024_512_0).emb j : S1024x1024.Idx) 0).val := by
    show 512 ≤ 512 + 1 * (j 0).val
    omega
  refine (canon_skip _ a _ _ (not_upper hj)).trans ?_
  rw [View.canon_unit_zero (S := S1024x1024) zeros]
  rfl

end Halves

/-! ## What one point leaves -/

section Cases

variable {F : FTy → Type} [FloatOps F]

/-- The scaled error of a block, rounded. -/
abbrev scaled (x0 x1 : Vec F S512x1024 .f32) (x2 x3 x4 x5 : Vec F S512x512 .f32) (x6 : Vec F S1024x1024 .bf16) : FVec F S512x1024 .bf16 :=
  k0_pay16 (k0_pay10 x2 x4) (k0_pay11 x3 x5) x0 (upper x6) (lower x6) x1

/-- The rows of losses after a block, from those before it. -/
abbrev losses (x0 x1 : Vec F S512x1024 .f32) (x2 x3 x4 x5 : Vec F S512x512 .f32) (x6 : Vec F S1024x1024 .bf16) (l : Vec F S1x128 .f32) : FVec F S1x128 .f32 :=
  k0_pay14 (k0_pay10 x2 x4) (k0_pay11 x3 x5) x0 (upper x6) (lower x6) x1 l

/-- The weights' gradient after a block, from that before it. -/
abbrev weights (x0 x1 : Vec F S512x1024 .f32) (x2 x3 x4 x5 : Vec F S512x512 .f32) (x6 : Vec F S1024x1024 .bf16) (acc : Vec F S1024x1024 .f32) : Vec F S1024x1024 .f32 :=
  halves (k0_pay23 (k0_pay10 x2 x4) (scaled x0 x1 x2 x3 x4 x5 x6) (upper acc)) (k0_pay24 (k0_pay12 (k0_pay11 x3 x5)) (scaled x0 x1 x2 x3 x4 x5 x6) (lower acc))

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x512 .f32) (harg3 : arg3.IsWhole)
  (arg4 : Memref sig .tc .vmem S512x512 .f32) (harg4 : arg4.IsWhole)
  (arg5 : Memref sig .tc .vmem S512x512 .f32) (harg5 : arg5.IsWhole)
  (arg6 : Memref sig .tc .vmem S512x512 .f32) (harg6 : arg6.IsWhole)
  (arg7 : Memref sig .tc .vmem S1024x1024 .bf16) (harg7 : arg7.IsWhole)
  (arg8 : Memref sig .tc .vmem S512x1024 .f32) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S512x512 .f32) (harg11 : arg11.IsWhole)
  (arg12 : Memref sig .tc .vmem S512x512 .f32) (harg12 : arg12.IsWhole)
  (arg13 : Memref sig .tc .vmem S1024x1024 .bf16) (harg13 : arg13.IsWhole)
  (arg14 : Memref sig .tc .vmem S1x128 .f32) (harg14 : arg14.IsWhole)
  (arg15 : Memref sig .tc .vmem S1024x1024 .f32) (harg15 : arg15.IsWhole)
  (x0 x1 : Vec F S512x1024 .f32) (x2 x3 x4 x5 : Vec F S512x512 .f32) (x6 : Vec F S1024x1024 .bf16) (l : Vec F S1x128 .f32) (acc : Vec F S1024x1024 .f32)

theorem dh_A (hc0 : cond0_0 i) (hc1 : ¬cond0_1 i) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay15 (k0_pay10 x2 x4) (k0_pay11 x3 x5) x0 (upper x6) (lower x6) x1 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem doa_A (hc0 : cond0_0 i) (hc1 : ¬cond0_1 i) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay19 (k0_pay5 x4) (scaled x0 x1 x2 x3 x4 x5 x6) (upper x6) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem dob_A (hc0 : cond0_0 i) (hc1 : ¬cond0_1 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay20 (k0_pay8 x5) (scaled x0 x1 x2 x3 x4 x5 x6) (lower x6) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem dga_A (hc0 : cond0_0 i) (hc1 : ¬cond0_1 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay21 x2 (k0_pay6 x4) (scaled x0 x1 x2 x3 x4 x5 x6) (upper x6) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem dgb_A (hc0 : cond0_0 i) (hc1 : ¬cond0_1 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay22 x3 (k0_pay9 x5) (scaled x0 x1 x2 x3 x4 x5 x6) (lower x6) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem loss_A (hc0 : cond0_0 i) (hc1 : ¬cond0_1 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = losses x0 x1 x2 x3 x4 x5 x6 k0_pay3 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_cons_unit_zero (S := S1x128) zeros, View.readCov_unit_zero (S := S1x128) _ zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem weights_A (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = weights x0 x1 x2 x3 x4 x5 x6 k0_pay2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [canon_halves, readCov_upper, readCov_lower]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem dh_B (hc0 : ¬cond0_0 i) (hc1 : ¬cond0_1 i) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc = k0_pay15 (k0_pay10 x2 x4) (k0_pay11 x3 x5) x0 (upper x6) (lower x6) x1 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc)]
  unfold kernelRun0_B
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem doa_B (hc0 : ¬cond0_0 i) (hc1 : ¬cond0_1 i) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc = k0_pay19 (k0_pay5 x4) (scaled x0 x1 x2 x3 x4 x5 x6) (upper x6) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc)]
  unfold kernelRun0_B
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem dob_B (hc0 : ¬cond0_0 i) (hc1 : ¬cond0_1 i) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc = k0_pay20 (k0_pay8 x5) (scaled x0 x1 x2 x3 x4 x5 x6) (lower x6) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc)]
  unfold kernelRun0_B
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem dga_B (hc0 : ¬cond0_0 i) (hc1 : ¬cond0_1 i) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc = k0_pay21 x2 (k0_pay6 x4) (scaled x0 x1 x2 x3 x4 x5 x6) (upper x6) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc)]
  unfold kernelRun0_B
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem dgb_B (hc0 : ¬cond0_0 i) (hc1 : ¬cond0_1 i) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc = k0_pay22 x3 (k0_pay9 x5) (scaled x0 x1 x2 x3 x4 x5 x6) (lower x6) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc)]
  unfold kernelRun0_B
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem loss_B (hc0 : ¬cond0_0 i) (hc1 : ¬cond0_1 i) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc = losses x0 x1 x2 x3 x4 x5 x6 l := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc)]
  unfold kernelRun0_B
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem weights_B (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc = weights x0 x1 x2 x3 x4 x5 x6 acc := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc)]
  unfold kernelRun0_B
  dsimp only
  sl_unfold_words
  rw [canon_halves]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem dh_C (hc0 : ¬cond0_0 i) (hc1 : cond0_1 i) :
    out0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc = k0_pay15 (k0_pay10 x2 x4) (k0_pay11 x3 x5) x0 (upper x6) (lower x6) x1 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc)]
  unfold kernelRun0_C
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem doa_C (hc0 : ¬cond0_0 i) (hc1 : cond0_1 i) :
    out0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc = k0_pay19 (k0_pay5 x4) (scaled x0 x1 x2 x3 x4 x5 x6) (upper x6) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc)]
  unfold kernelRun0_C
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem dob_C (hc0 : ¬cond0_0 i) (hc1 : cond0_1 i) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc = k0_pay20 (k0_pay8 x5) (scaled x0 x1 x2 x3 x4 x5 x6) (lower x6) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc)]
  unfold kernelRun0_C
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem dga_C (hc0 : ¬cond0_0 i) (hc1 : cond0_1 i) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc = k0_pay21 x2 (k0_pay6 x4) (scaled x0 x1 x2 x3 x4 x5 x6) (upper x6) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc)]
  unfold kernelRun0_C
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem dgb_C (hc0 : ¬cond0_0 i) (hc1 : cond0_1 i) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc = k0_pay22 x3 (k0_pay9 x5) (scaled x0 x1 x2 x3 x4 x5 x6) (lower x6) := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc)]
  unfold kernelRun0_C
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem loss_C (hc0 : ¬cond0_0 i) (hc1 : cond0_1 i) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc = losses x0 x1 x2 x3 x4 x5 x6 l := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc)]
  unfold kernelRun0_C
  dsimp only
  sl_unfold_words
  rw [View.canon_unit_zero zeros]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  rfl

theorem dw_C (hc0 : ¬cond0_0 i) (hc1 : cond0_1 i) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc = k0_pay1 (weights x0 x1 x2 x3 x4 x5 x6 acc) := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 l acc)]
  unfold kernelRun0_C
  dsimp only
  sl_unfold_words
  refine (View.canon_unit_zero (S := S1024x1024) zeros inb_S1024x1024_S1024x1024_0_0 _).trans (congrArg k0_pay1 ?_)
  rw [View.readCov_eq_canon', canon_halves]
  simp only [View.readAt_eq_ld, harg1.read_unread, harg2.read_unread, harg3.read_unread, harg4.read_unread, harg5.read_unread, harg6.read_unread,
    harg7.read_unread, harg14.read_unread, harg15.read_unread, View.ld_unit_zero (S := S512x1024) zeros, View.ld_unit_zero (S := S512x512) zeros,
    View.ld_unit_zero (S := S1x128) zeros]
  exact View.ld_unit_zero (S := S1024x1024) zeros inb_S1024x1024_S1024x1024_0_0 (weights x0 x1 x2 x3 x4 x5 x6 acc)

end Cases

end Cert.Kernel4Ideal.Output

end
-- ==== Proof.Output4Ref.lean ====
/-
  The output product's reference at an index: each result as sums and products of the arguments' elements.
-/
module

public import proofs.«01_k».proof.Defs
public import proofs.«01_k».proof.Proof.Gen.Reference4Ideal.Read
public import proofs.«01_k».proof.Proof.Gen.Reference4Ideal.Run
public import proofs.«01_k».proof.Proof.Softmax
public import Idealize.ShloMosaic.Lib.Pointwise

@[expose] public section

set_option maxRecDepth 16384

noncomputable section

namespace Cert.Reference4Ideal.At

open Idealize.ShloMosaic Idealize.ShloMosaic.TcCoe
open Cert.Reference4Ideal.Read Cert.Reference4Ideal.Gen

/-- The logistic function as the programs compute it. -/
def logistic (g : EReal) : EReal := Ideal.div 1 (1 + Ideal.exp (0 - g))

theorem bits_one : Ideal.ofBits .f32 0x3F800000#32 = 1 := by
  simp [Ideal.ofBits, Ideal.ieee]
  rw [← EReal.coe_mul, ← EReal.coe_one]
  norm_num

theorem bits_zero : Ideal.ofBits .f32 0x00000000#32 = 0 := by simp [Ideal.ofBits, Ideal.ieee]

theorem bits_two : Ideal.ofBits .f32 0x40000000#32 = ((2 : ℝ) : EReal) := by
  simp [Ideal.ofBits, Ideal.ieee]
  rw [← EReal.coe_mul]
  norm_num

theorem bits_half : Ideal.ofBits .f32 0x3F000000#32 = ((1 / 2 : ℝ) : EReal) := by
  simp [Ideal.ofBits, Ideal.ieee]
  rw [← EReal.coe_mul]
  norm_num

theorem bits_1024 : Ideal.ofBits .f32 0x44800000#32 = ((1024 : ℝ) : EReal) := by
  simp [Ideal.ofBits, Ideal.ieee]
  rw [← EReal.coe_mul]
  norm_num

theorem bits_inv1024 : Ideal.ofBits .f32 0x3A800000#32 = ((1 / 1024 : ℝ) : EReal) := by
  simp [Ideal.ofBits, Ideal.ieee]
  rw [← EReal.coe_mul]
  norm_num

section Ref

variable (x0 x1 : FVec Ideal S8192x1024 .f32) (x2 x3 x4 x5 : FVec Ideal S8192x512 .f32) (x6 : FVec Ideal S1024x1024 .f32)

theorem sig_a (i : S8192x512.Idx) : val_main_v0_2 (F := Ideal) x4 i = logistic (x4 i) := by
  rw [val_main_v0_2_apply, val_main_call0_v4_apply, val_main_call0_cst_0_apply, val_main_call0_v3_apply, val_main_call0_v2_apply, val_main_call0_cst_apply,
    val_main_call0_v1_apply, val_main_call0_v0_apply]
  show Ideal.div (Ideal.ofBits .f32 0x3F800000#32) (Ideal.ofBits .f32 0x3F800000#32 + Ideal.exp (-(x4 i))) = _
  rw [bits_one, logistic, sub_eq_add_neg, zero_add]

theorem sig_b (i : S8192x512.Idx) : val_main_v2_2 (F := Ideal) x5 i = logistic (x5 i) := by
  rw [val_main_v2_2_apply, val_main_call1_v4_apply, val_main_call1_cst_0_apply, val_main_call1_v3_apply, val_main_call1_v2_apply, val_main_call1_cst_apply,
    val_main_call1_v1_apply, val_main_call1_v0_apply]
  show Ideal.div (Ideal.ofBits .f32 0x3F800000#32) (Ideal.ofBits .f32 0x3F800000#32 + Ideal.exp (-(x5 i))) = _
  rw [bits_one, logistic, sub_eq_add_neg, zero_add]

theorem dsig_a (i : S8192x512.Idx) : val_main_v0_1 (F := Ideal) x4 i = logistic (x4 i) * (1 - logistic (x4 i)) := by
  rw [val_main_v0_1_apply, val_main_call0_v7_apply, val_main_call0_v6_apply, val_main_call0_cst_1_apply, sig_a]
  show _ * (Ideal.ofBits .f32 0x3F800000#32 - _) = _
  rw [bits_one]

theorem dsig_b (i : S8192x512.Idx) : val_main_v2_1 (F := Ideal) x5 i = logistic (x5 i) * (1 - logistic (x5 i)) := by
  rw [val_main_v2_1_apply, val_main_call1_v7_apply, val_main_call1_v6_apply, val_main_call1_cst_1_apply, sig_b]
  show _ * (Ideal.ofBits .f32 0x3F800000#32 - _) = _
  rw [bits_one]

theorem gate_a (i : S8192x512.Idx) : val_main_v0_0 (F := Ideal) x4 i = x4 i * logistic (x4 i) := by
  rw [val_main_v0_0_apply, sig_a]; rfl

theorem gate_b (i : S8192x512.Idx) : val_main_v2_0 (F := Ideal) x5 i = x5 i * logistic (x5 i) := by
  rw [val_main_v2_0_apply, sig_b]; rfl

/-- The first half of the product's left operand: the first heads, gated. -/
theorem y_left (k : Fin 8192) (q : Fin 512) (n : Fin 1024) (h : n.val = q.val) :
    val_main_v4 (F := Ideal) x2 x3 x4 x5 (ix2 k n) = x2 (ix2 k q) * (x4 (ix2 k q) * logistic (x4 (ix2 k q))) := by
  unfold val_main_v4
  refine (concatenate_pair_apply_left (1 : Fin 2) (val_main_v1 (F := Ideal) x2 x4) (val_main_v3 (F := Ideal) x3 x5) concatenates_S8192x512_S8192x512_S8192x1024_d1 (ix2 k n) rfl (ix2 k q : S8192x512.Idx) (fun b => ?_)).trans ?_
  · match b with
    | ⟨0, _⟩ => rfl
    | ⟨1, _⟩ => exact h.symm
  · rw [val_main_v1_apply, gate_a]; rfl

/-- The second half: the second heads, gated. -/
theorem y_right (k : Fin 8192) (q : Fin 512) (n : Fin 1024) (h : n.val = 512 + q.val) :
    val_main_v4 (F := Ideal) x2 x3 x4 x5 (ix2 k n) = x3 (ix2 k q) * (x5 (ix2 k q) * logistic (x5 (ix2 k q))) := by
  unfold val_main_v4
  refine (concatenate_pair_apply_right (1 : Fin 2) (val_main_v1 (F := Ideal) x2 x4) (val_main_v3 (F := Ideal) x3 x5) concatenates_S8192x512_S8192x512_S8192x1024_d1 (ix2 k n) rfl rfl (ix2 k q : S8192x512.Idx) (fun b hb => ?_) ?_).trans ?_
  · match b with
    | ⟨0, _⟩ => rfl
    | ⟨1, _⟩ => exact absurd rfl hb
  · show q.val + 512 = n.val
    omega
  · rw [val_main_v3_apply, gate_b]; rfl

theorem err_at (k : Fin 8192) (l : Fin 1024) :
    val_main_v7 (F := Ideal) x0 x1 x2 x3 x4 x5 x6 (ix2 k l)
      = x0 (ix2 k l) + ∑ n : Fin 1024, val_main_v4 (F := Ideal) x2 x3 x4 x5 (ix2 k n) * x6 (ix2 n l) - x1 (ix2 k l) := by
  rw [val_main_v7_apply, val_main_v6_apply, val_main_v5_apply]
  show _ + (∑ n : Fin 1024, _) - _ = _
  refine congrArg (x0 (ix2 k l) + · - x1 (ix2 k l)) (Finset.sum_congr rfl fun n _ => congrArg₂ (· * ·) (congrArg _ (funext fun a => ?_)) (congrArg x6 (funext fun a => ?_)))
  all_goals
    match a with
    | ⟨0, _⟩ => rfl
    | ⟨1, _⟩ => rfl

/-- The scaled error: the error over 1024. -/
theorem scaled_at (k : Fin 8192) (l : Fin 1024) :
    val_main_v21 (F := Ideal) x0 x1 x2 x3 x4 x5 x6 (ix2 k l) = val_main_v7 (F := Ideal) x0 x1 x2 x3 x4 x5 x6 (ix2 k l) * Ideal.ofBits .f32 0x3A800000#32 := by
  rw [val_main_v21_apply, val_main_v20_apply, val_main_v19_apply, val_main_v18_apply, val_main_cst_6_apply, val_main_v17_apply, val_main_v16_apply,
    val_main_cst_4_apply, val_main_cst_5_apply, val_main_v10_apply, val_main_v9_apply, val_main_cst_apply]
  show Ideal.div (Ideal.ofBits .f32 0x3F000000#32 * Ideal.ofBits .f32 0x3F800000#32) (Ideal.ofBits .f32 0x44800000#32) * (Ideal.ofBits .f32 0x40000000#32 * _) = _
  rw [bits_half, bits_one, bits_1024, bits_two, bits_inv1024, mul_one, ← mul_assoc, mul_comm _ ((1 / 1024 : ℝ) : EReal)]
  refine congrArg (· * _) ?_
  rw [Cert.Softmax.div_coe_coe _ (by norm_num), ← EReal.coe_mul]
  norm_num

theorem dy_at (k : Fin 8192) (n : Fin 1024) :
    val_main_v24 (F := Ideal) x0 x1 x2 x3 x4 x5 x6 (ix2 k n) = ∑ l : Fin 1024, val_main_v21 (F := Ideal) x0 x1 x2 x3 x4 x5 x6 (ix2 k l) * x6 (ix2 n l) := by
  rw [val_main_v24_apply]
  refine Finset.sum_congr rfl fun l _ => congrArg₂ (· * ·) (congrArg _ (funext fun a => ?_)) (congrArg x6 (funext fun a => ?_))
  all_goals
    match a with
    | ⟨0, _⟩ => rfl
    | ⟨1, _⟩ => rfl

theorem dya_at (k : Fin 8192) (q : Fin 512) (n : Fin 1024) (h : n.val = q.val) :
    val_main_v25 (F := Ideal) x0 x1 x2 x3 x4 x5 x6 (ix2 k q) = val_main_v24 (F := Ideal) x0 x1 x2 x3 x4 x5 x6 (ix2 k n) := by
  rw [val_main_v25_apply]
  refine congrArg _ (funext fun a => Fin.ext ?_)
  match a with
  | ⟨0, _⟩ => rfl
  | ⟨1, _⟩ => exact h.symm

theorem dyb_at (k : Fin 8192) (q : Fin 512) (n : Fin 1024) (h : n.val = 512 + q.val) :
    val_main_v26 (F := Ideal) x0 x1 x2 x3 x4 x5 x6 (ix2 k q) = val_main_v24 (F := Ideal) x0 x1 x2 x3 x4 x5 x6 (ix2 k n) := by
  rw [val_main_v26_apply]
  refine congrArg _ (funext fun a => Fin.ext ?_)
  match a with
  | ⟨0, _⟩ => rfl
  | ⟨1, _⟩ => exact h.symm

theorem doa_at (i : S8192x512.Idx) :
    val_main_v33 (F := Ideal) x0 x1 x2 x3 x4 x5 x6 i = val_main_v25 (F := Ideal) x0 x1 x2 x3 x4 x5 x6 i * (x4 i * logistic (x4 i)) := by
  rw [val_main_v33_apply, val_main_v31_apply, gate_a]; rfl

theorem dob_at (i : S8192x512.Idx) :
    val_main_v34 (F := Ideal) x0 x1 x2 x3 x4 x5 x6 i = val_main_v26 (F := Ideal) x0 x1 x2 x3 x4 x5 x6 i * (x5 i * logistic (x5 i)) := by
  rw [val_main_v34_apply, val_main_v28_apply, gate_b]; rfl

theorem dga_at (i : S8192x512.Idx) :
    val_main_v32 (F := Ideal) x0 x1 x2 x3 x4 x5 x6 i
      = x2 i * val_main_v25 (F := Ideal) x0 x1 x2 x3 x4 x5 x6 i * logistic (x4 i)
        + x4 i * (x2 i * val_main_v25 (F := Ideal) x0 x1 x2 x3 x4 x5 x6 i) * (logistic (x4 i) * (1 - logistic (x4 i))) := by
  rw [val_main_v32_apply, val_main_call3_v1_apply, val_main_call3_v2_apply, val_main_call3_v0_apply, val_main_v30_apply, sig_a, dsig_a]; rfl

theorem dgb_at (i : S8192x512.Idx) :
    val_main_v29 (F := Ideal) x0 x1 x2 x3 x4 x5 x6 i
      = x3 i * val_main_v26 (F := Ideal) x0 x1 x2 x3 x4 x5 x6 i * logistic (x5 i)
        + x5 i * (x3 i * val_main_v26 (F := Ideal) x0 x1 x2 x3 x4 x5 x6 i) * (logistic (x5 i) * (1 - logistic (x5 i))) := by
  rw [val_main_v29_apply, val_main_call2_v1_apply, val_main_call2_v2_apply, val_main_call2_v0_apply, val_main_v27_apply, sig_b, dsig_b]; rfl

theorem dw_at (n l : Fin 1024) :
    val_main_v35 (F := Ideal) x0 x1 x2 x3 x4 x5 x6 (ix2 n l)
      = ∑ k : Fin 8192, val_main_v21 (F := Ideal) x0 x1 x2 x3 x4 x5 x6 (ix2 k l) * val_main_v4 (F := Ideal) x2 x3 x4 x5 (ix2 k n) := by
  rw [val_main_v35_apply, val_main_v23_apply, val_main_v22_apply]
  show (∑ k : Fin 8192, _) = _
  refine Finset.sum_congr rfl fun k _ => congrArg₂ (· * ·) (congrArg _ (funext fun a => ?_)) (congrArg _ (funext fun a => ?_))
  all_goals
    match a with
    | ⟨0, _⟩ => rfl
    | ⟨1, _⟩ => rfl

theorem loss_at (a : Fin 1) (b : Fin 128) (f : Fin 8 → Fin 1024) (hf : ∀ j, (f j).val = 128 * j.val + b.val) :
    val_main_v39 (F := Ideal) x0 x1 x2 x3 x4 x5 x6 (ix2 a b)
      = ∑ j : Fin 8, ∑ k : Fin 8192, val_main_v7 (F := Ideal) x0 x1 x2 x3 x4 x5 x6 (ix2 k (f j)) * val_main_v7 (F := Ideal) x0 x1 x2 x3 x4 x5 x6 (ix2 k (f j)) := by
  rw [val_main_v39_apply, val_main_v38_apply, val_main_cst_8_apply]
  show Ideal.ofBits .f32 0x00000000#32 + _ = _
  rw [bits_zero, zero_add]
  refine Finset.sum_congr rfl fun j _ => ?_
  rw [val_main_v37_apply, val_main_v36_apply, val_main_cst_7_apply]
  show Ideal.ofBits .f32 0x00000000#32 + _ = _
  rw [bits_zero, zero_add]
  refine Finset.sum_congr rfl fun k _ => ?_
  rw [val_main_v8_apply]
  have e : idx_main_v36 (idx_main_v37 (idx_main_v38 (idx_main_v39 (ix2 a b)) j)) k = ix2 k (f j) := funext fun d => Fin.ext (by
    have ha := a.isLt
    have hj := hf j
    match d with
    | ⟨0, _⟩ => rfl
    | ⟨1, _⟩ => show j.val * 128 + (a.val * 128 + b.val) = (f j).val; omega)
  rw [e]; rfl

end Ref

end Cert.Reference4Ideal.At

end
-- ==== Proof.Output4Block.lean ====
/-
  One row block of the output product over the extended reals: what the body leaves is the reference's results at the
  block's rows.
-/
module

public import proofs.«01_k».proof.Proof.Output4
public import proofs.«01_k».proof.Proof.Output4Ref

@[expose] public section

set_option maxRecDepth 16384

noncomputable section

namespace Cert.Kernel4Ideal.Output

open Idealize.ShloMosaic Idealize.ShloMosaic.TcCoe
open Cert.Kernel4Ideal.Gen
open Cert.Reference4Ideal.Read (val_main_v4 val_main_v7 val_main_v21 val_main_v24 val_main_v25 val_main_v26 val_main_v29 val_main_v32 val_main_v33 val_main_v34)
open Cert.Reference4Ideal.At (logistic)

theorem bits_one : Ideal.ofBits .f32 0x3F800000#32 = 1 := Cert.Reference4Ideal.At.bits_one

/-- A sum over 1024 as two over 512. -/
theorem sum_halves (f : Fin 1024 → EReal) :
    ∑ n : Fin 1024, f n = ∑ q : Fin 512, f ⟨q.val, by omega⟩ + ∑ q : Fin 512, f ⟨512 + q.val, by omega⟩ :=
  Fin.sum_univ_add (a := 512) (b := 512) f

/-- The first 512 rows of the weights. -/
abbrev up (w : FVec Ideal S1024x1024 .bf16) : FVec Ideal S512x1024 .bf16 := upper (F := Ideal) (e := .bf16) w

/-- The last 512 rows of the weights. -/
abbrev low (w : FVec Ideal S1024x1024 .bf16) : FVec Ideal S512x1024 .bf16 := lower (F := Ideal) (e := .bf16) w

section Block

variable (k : Fin 512 → Fin 8192)
  (x0 x1 : FVec Ideal S8192x1024 .f32) (x2 x3 x4 x5 : FVec Ideal S8192x512 .f32) (x6 : FVec Ideal S1024x1024 .f32)
  (b0 b1 : FVec Ideal S512x1024 .f32) (b2 b3 b4 b5 : FVec Ideal S512x512 .f32) (b6 : FVec Ideal S1024x1024 .bf16)

/-- The blocks are the arguments' rows `k`, and the weights whole. -/
structure Rows : Prop where
  h0 : ∀ r l, b0 (ix2 r l) = x0 (ix2 (k r) l)
  h1 : ∀ r l, b1 (ix2 r l) = x1 (ix2 (k r) l)
  h2 : ∀ r l, b2 (ix2 r l) = x2 (ix2 (k r) l)
  h3 : ∀ r l, b3 (ix2 r l) = x3 (ix2 (k r) l)
  h4 : ∀ r l, b4 (ix2 r l) = x4 (ix2 (k r) l)
  h5 : ∀ r l, b5 (ix2 r l) = x5 (ix2 (k r) l)
  hu : ∀ (q : Fin 512) (l : Fin 1024), up b6 (ix2 q l) = x6 (ix2 ⟨q.val, by omega⟩ l)
  hl : ∀ (q : Fin 512) (l : Fin 1024), low b6 (ix2 q l) = x6 (ix2 ⟨512 + q.val, by omega⟩ l)

variable {k x0 x1 x2 x3 x4 x5 x6 b0 b1 b2 b3 b4 b5 b6} (H : Rows k x0 x1 x2 x3 x4 x5 x6 b0 b1 b2 b3 b4 b5 b6)

theorem pay5_at (g : FVec Ideal S512x512 .f32) (r q : Fin 512) : k0_pay5 (F := Ideal) g (ix2 r q) = g (ix2 r q) * logistic (g (ix2 r q)) := by
  pointwise [k0_pay5, k0_pay4]
  rfl

theorem pay8_at (g : FVec Ideal S512x512 .f32) (r q : Fin 512) : k0_pay8 (F := Ideal) g (ix2 r q) = g (ix2 r q) * logistic (g (ix2 r q)) := by
  pointwise [k0_pay8, k0_pay7]
  rfl

theorem pay6_at (g : FVec Ideal S512x512 .f32) (r q : Fin 512) :
    k0_pay6 (F := Ideal) g (ix2 r q) = logistic (g (ix2 r q)) * (1 + g (ix2 r q) * (1 - logistic (g (ix2 r q)))) := by
  pointwise [k0_pay6, k0_pay4]
  rfl

theorem pay9_at (g : FVec Ideal S512x512 .f32) (r q : Fin 512) :
    k0_pay9 (F := Ideal) g (ix2 r q) = logistic (g (ix2 r q)) * (1 + g (ix2 r q) * (1 - logistic (g (ix2 r q)))) := by
  pointwise [k0_pay9, k0_pay7]
  rfl

include H

theorem ya_at (r q : Fin 512) : k0_pay10 (F := Ideal) b2 b4 (ix2 r q) = val_main_v4 (F := Ideal) x2 x3 x4 x5 (ix2 (k r) ⟨q.val, by omega⟩) := by
  pointwise [k0_pay10]
  rw [pay5_at, H.h2, H.h4, Cert.Reference4Ideal.At.y_left x2 x3 x4 x5 (k r) q _ rfl]

theorem yb_at (r q : Fin 512) : k0_pay12 (F := Ideal) (k0_pay11 b3 b5) (ix2 r q) = val_main_v4 (F := Ideal) x2 x3 x4 x5 (ix2 (k r) ⟨512 + q.val, by omega⟩) := by
  pointwise [k0_pay12, k0_pay11]
  rw [pay8_at, H.h3, H.h5, Cert.Reference4Ideal.At.y_right x2 x3 x4 x5 (k r) q _ rfl]

theorem err_at (r : Fin 512) (l : Fin 1024) :
    k0_pay13 (F := Ideal) (k0_pay10 b2 b4) (k0_pay11 b3 b5) b0 (up b6) (low b6) b1 (ix2 r l)
      = val_main_v7 (F := Ideal) x0 x1 x2 x3 x4 x5 x6 (ix2 (k r) l) := by
  pointwise [k0_pay13]
  rw [Cert.Reference4Ideal.At.err_at, sum_halves, H.h0, H.h1, add_assoc]
  simp only [ya_at H, yb_at H, H.hu, H.hl]

theorem dh_at (r : Fin 512) (l : Fin 1024) :
    k0_pay15 (F := Ideal) (k0_pay10 b2 b4) (k0_pay11 b3 b5) b0 (up b6) (low b6) b1 (ix2 r l)
      = val_main_v21 (F := Ideal) x0 x1 x2 x3 x4 x5 x6 (ix2 (k r) l) := by
  rw [Cert.Reference4Ideal.At.scaled_at, ← err_at H]
  pointwise [k0_pay15]

theorem scaled_at (r : Fin 512) (l : Fin 1024) :
    scaled (F := Ideal) b0 b1 b2 b3 b4 b5 b6 (ix2 r l) = val_main_v21 (F := Ideal) x0 x1 x2 x3 x4 x5 x6 (ix2 (k r) l) := by
  rw [← dh_at H]
  pointwise [k0_pay16]

theorem dya_at (r q : Fin 512) :
    k0_pay17 (F := Ideal) (scaled (F := Ideal) b0 b1 b2 b3 b4 b5 b6) (up b6) (ix2 r q)
      = val_main_v25 (F := Ideal) x0 x1 x2 x3 x4 x5 x6 (ix2 (k r) q) := by
  rw [Cert.Reference4Ideal.At.dya_at x0 x1 x2 x3 x4 x5 x6 (k r) q ⟨q.val, by omega⟩ rfl, Cert.Reference4Ideal.At.dy_at]
  have e : ∀ (s u : FVec Ideal S512x1024 .bf16), k0_pay17 (F := Ideal) s u (ix2 r q) = ∑ l : Fin 1024, s (ix2 r l) * u (ix2 q l) := fun s u => by
    pointwise [k0_pay17]
  rw [e]
  exact Finset.sum_congr rfl fun l _ => by rw [scaled_at H, H.hu]

theorem dyb_at (r q : Fin 512) :
    k0_pay18 (F := Ideal) (scaled (F := Ideal) b0 b1 b2 b3 b4 b5 b6) (low b6) (ix2 r q)
      = val_main_v26 (F := Ideal) x0 x1 x2 x3 x4 x5 x6 (ix2 (k r) q) := by
  rw [Cert.Reference4Ideal.At.dyb_at x0 x1 x2 x3 x4 x5 x6 (k r) q ⟨512 + q.val, by omega⟩ rfl, Cert.Reference4Ideal.At.dy_at]
  have e : ∀ (s u : FVec Ideal S512x1024 .bf16), k0_pay18 (F := Ideal) s u (ix2 r q) = ∑ l : Fin 1024, s (ix2 r l) * u (ix2 q l) := fun s u => by
    pointwise [k0_pay18]
  rw [e]
  exact Finset.sum_congr rfl fun l _ => by rw [scaled_at H, H.hl]

theorem doa_at (r q : Fin 512) :
    k0_pay19 (F := Ideal) (k0_pay5 b4) (scaled (F := Ideal) b0 b1 b2 b3 b4 b5 b6) (up b6) (ix2 r q)
      = val_main_v33 (F := Ideal) x0 x1 x2 x3 x4 x5 x6 (ix2 (k r) q) := by
  rw [Cert.Reference4Ideal.At.doa_at, ← dya_at H, ← H.h4, ← pay5_at]
  generalize scaled (F := Ideal) b0 b1 b2 b3 b4 b5 b6 = s
  pointwise [k0_pay19]

theorem dob_at (r q : Fin 512) :
    k0_pay20 (F := Ideal) (k0_pay8 b5) (scaled (F := Ideal) b0 b1 b2 b3 b4 b5 b6) (low b6) (ix2 r q)
      = val_main_v34 (F := Ideal) x0 x1 x2 x3 x4 x5 x6 (ix2 (k r) q) := by
  rw [Cert.Reference4Ideal.At.dob_at, ← dyb_at H, ← H.h5, ← pay8_at]
  generalize scaled (F := Ideal) b0 b1 b2 b3 b4 b5 b6 = s
  pointwise [k0_pay20]

/-- A block adds its rows' products to the weights' gradient. -/
theorem weights_at (acc : FVec Ideal S1024x1024 .f32) (n l : Fin 1024) :
    weights (F := Ideal) b0 b1 b2 b3 b4 b5 b6 acc (ix2 n l)
      = acc (ix2 n l) + ∑ r : Fin 512, val_main_v21 (F := Ideal) x0 x1 x2 x3 x4 x5 x6 (ix2 (k r) l) * val_main_v4 (F := Ideal) x2 x3 x4 x5 (ix2 (k r) n) := by
  by_cases hn : n.val < 512
  · refine (halves_upper (F := Ideal) _ _ (ix2 n l) hn).trans ?_
    have e : ∀ (y : FVec Ideal S512x512 .bf16) (s : FVec Ideal S512x1024 .bf16) (z : FVec Ideal S512x1024 .f32),
        k0_pay23 (F := Ideal) y s z (ix2 ⟨n.val, hn⟩ l) = z (ix2 ⟨n.val, hn⟩ l) + ∑ r : Fin 512, y (ix2 r ⟨n.val, hn⟩) * s (ix2 r l) := fun y s z => by
      pointwise [k0_pay23]
    refine (e _ _ _).trans (congrArg₂ (· + ·) (congrArg acc (funext fun a => Fin.ext ?_)) (Finset.sum_congr rfl fun r _ => ?_))
    · match a with
      | ⟨0, _⟩ => show 0 + 1 * n.val = n.val; omega
      | ⟨1, _⟩ => show 0 + 1 * l.val = l.val; omega
    · rw [scaled_at H, ya_at H, mul_comm]
  · have hq : n.val - 512 < 512 := by omega
    refine (halves_lower (F := Ideal) _ _ (ix2 n l) (ix2 ⟨n.val - 512, hq⟩ l) (by show n.val = 512 + (n.val - 512); omega) rfl).trans ?_
    have e : ∀ (y : FVec Ideal S512x512 .bf16) (s : FVec Ideal S512x1024 .bf16) (z : FVec Ideal S512x1024 .f32),
        k0_pay24 (F := Ideal) y s z (ix2 ⟨n.val - 512, hq⟩ l) = z (ix2 ⟨n.val - 512, hq⟩ l) + ∑ r : Fin 512, y (ix2 r ⟨n.val - 512, hq⟩) * s (ix2 r l) := fun y s z => by
      pointwise [k0_pay24]
    refine (e _ _ _).trans (congrArg₂ (· + ·) (congrArg acc (funext fun a => Fin.ext ?_)) (Finset.sum_congr rfl fun r _ => ?_))
    · match a with
      | ⟨0, _⟩ => show 512 + 1 * (n.val - 512) = n.val; omega
      | ⟨1, _⟩ => show 0 + 1 * l.val = l.val; omega
    · rw [scaled_at H, yb_at H, mul_comm]
      have en : (⟨512 + (n.val - 512), by omega⟩ : Fin 1024) = n := Fin.ext (by show 512 + (n.val - 512) = n.val; omega)
      exact congrArg (fun z : Fin 1024 => _ * val_main_v4 (F := Ideal) x2 x3 x4 x5 (ix2 (k r) z)) en

/-- A block adds its rows' squared errors to the losses, lane by lane modulo 128. -/
theorem losses_at (l : FVec Ideal S1x128 .f32) (a : Fin 1) (b : Fin 128) (f : Fin 8 → Fin 1024) (hf : ∀ j, (f j).val = 128 * j.val + b.val) :
    losses (F := Ideal) b0 b1 b2 b3 b4 b5 b6 l (ix2 a b)
      = l (ix2 a b) + ∑ j : Fin 8, ∑ r : Fin 512, val_main_v7 (F := Ideal) x0 x1 x2 x3 x4 x5 x6 (ix2 (k r) (f j)) * val_main_v7 (F := Ideal) x0 x1 x2 x3 x4 x5 x6 (ix2 (k r) (f j)) := by
  pointwise [k0_pay14]
  simp only [err_at H]
  rw [Fin.sum_univ_eight]
  have e : ∀ (j : Fin 8) (n : Fin 1024), n.val = 128 * j.val + b.val → n = f j := fun j n h => Fin.ext (h.trans (hf j).symm)
  rw [← e 0 ⟨b.val, by omega⟩ (by show b.val = 128 * 0 + b.val; omega), ← e 1 ⟨128 + b.val, by omega⟩ rfl, ← e 2 ⟨256 + b.val, by omega⟩ rfl, ← e 3 ⟨384 + b.val, by omega⟩ rfl,
    ← e 4 ⟨512 + b.val, by omega⟩ rfl, ← e 5 ⟨640 + b.val, by omega⟩ rfl, ← e 6 ⟨768 + b.val, by omega⟩ rfl, ← e 7 ⟨896 + b.val, by omega⟩ rfl]

end Block

end Cert.Kernel4Ideal.Output

end
-- ==== Proof.Finite4.lean ====
/-
  The output product's arrays of finite elements hold real numbers, and with them its gate gradients are the
  reference's: the two programs distribute the logistic's derivative differently.
-/
module

public import proofs.«01_k».proof.Proof.Gen.Pre_finite4
public import proofs.«01_k».proof.Proof.Finite
public import proofs.«01_k».proof.Proof.Output4Block

@[expose] public section

set_option maxRecDepth 16384

noncomputable section

namespace Cert.Softmax

open Idealize.ShloMosaic

/-- A real number among the extended ones. -/
def IsReal (x : EReal) : Prop := ∃ r : ℝ, x = (r : EReal)

theorem isReal_of_ne {x : EReal} (h : x ≠ ⊥ ∧ x ≠ ⊤) : IsReal x := ⟨x.toReal, (coe_of_abs_lt h).symm⟩

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.sum {n : ℕ} {f : Fin n → EReal} (h : ∀ i, IsReal (f i)) : IsReal (∑ i, f i) := by
  choose g hg using h
  exact ⟨∑ i, g i, by rw [coe_sum]; exact Finset.sum_congr rfl fun i _ => hg i⟩

theorem IsReal.logistic {x : EReal} : IsReal x → IsReal (Cert.Reference4Ideal.At.logistic x)
  | ⟨a, ha⟩ => by
    refine ⟨1 / (1 + Real.exp (0 - a)), ?_⟩
    rw [ha, Cert.Reference4Ideal.At.logistic, ← EReal.coe_zero, ← EReal.coe_sub]
    show Ideal.div 1 (1 + ((Real.exp (0 - a) : ℝ) : EReal)) = _
    rw [← EReal.coe_one, ← EReal.coe_add, div_coe_coe _ (by positivity)]

/-- The fourth precondition gives arrays of real numbers. -/
theorem isReal_of_finite4 [Cert.Pre_finite4.Facts] (x0 x1 : FVec Ideal Cert.Pre_finite4.S8192x1024 .f32) (x2 x3 x4 x5 : FVec Ideal Cert.Pre_finite4.S8192x512 .f32)
    (x6 : FVec Ideal Cert.Pre_finite4.S1024x1024 .f32)
    (h : (Cert.Pre_finite4.fn x0 x1 x2 x3 x4 x5 x6).1 = (fun _ => 1#1) ∧ (Cert.Pre_finite4.fn x0 x1 x2 x3 x4 x5 x6).2.1 = (fun _ => 1#1)
      ∧ (Cert.Pre_finite4.fn x0 x1 x2 x3 x4 x5 x6).2.2.1 = (fun _ => 1#1) ∧ (Cert.Pre_finite4.fn x0 x1 x2 x3 x4 x5 x6).2.2.2.1 = (fun _ => 1#1)
      ∧ (Cert.Pre_finite4.fn x0 x1 x2 x3 x4 x5 x6).2.2.2.2.1 = (fun _ => 1#1) ∧ (Cert.Pre_finite4.fn x0 x1 x2 x3 x4 x5 x6).2.2.2.2.2.1 = (fun _ => 1#1)
      ∧ (Cert.Pre_finite4.fn x0 x1 x2 x3 x4 x5 x6).2.2.2.2.2.2 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ ∀ i, IsReal (x6 i) := by
  obtain ⟨h0, h1, h2, h3, h4, h5, h6⟩ := h
  refine ⟨fun i => isReal_of_ne ?_, fun i => isReal_of_ne ?_, fun i => isReal_of_ne ?_, fun i => isReal_of_ne ?_, fun i => isReal_of_ne ?_, fun i => isReal_of_ne ?_,
    fun i => isReal_of_ne ?_⟩
  · have hi := congrFun h0 i
    pointwise [Cert.Pre_finite4.fn, Cert.Pre_finite4.fn_part1] at hi
    exact ne_of_below hi
  · have hi := congrFun h1 i
    pointwise [Cert.Pre_finite4.fn, Cert.Pre_finite4.fn_part1] at hi
    exact ne_of_below hi
  · have hi := congrFun h2 i
    pointwise [Cert.Pre_finite4.fn, Cert.Pre_finite4.fn_part1] at hi
    exact ne_of_below hi
  · have hi := congrFun h3 i
    pointwise [Cert.Pre_finite4.fn, Cert.Pre_finite4.fn_part1] at hi
    exact ne_of_below hi
  · have hi := congrFun h4 i
    pointwise [Cert.Pre_finite4.fn, Cert.Pre_finite4.fn_part1] at hi
    exact ne_of_below hi
  · have hi := congrFun h5 i
    pointwise [Cert.Pre_finite4.fn, Cert.Pre_finite4.fn_part1] at hi
    exact ne_of_below hi
  · have hi := congrFun h6 i
    pointwise [Cert.Pre_finite4.fn, Cert.Pre_finite4.fn_part1] at hi
    exact ne_of_below hi

/-- The gate's gradient in its two spellings. -/
theorem gate_gradient {d o g : EReal} (hd : IsReal d) (ho : IsReal o) (hg : IsReal g) :
    d * o * (Cert.Reference4Ideal.At.logistic g * (1 + g * (1 - Cert.Reference4Ideal.At.logistic g)))
      = o * d * Cert.Reference4Ideal.At.logistic g + g * (o * d) * (Cert.Reference4Ideal.At.logistic g * (1 - Cert.Reference4Ideal.At.logistic g)) := by
  obtain ⟨s, hs⟩ := hg.logistic
  obtain ⟨d, rfl⟩ := hd
  obtain ⟨o, rfl⟩ := ho
  obtain ⟨g, rfl⟩ := hg
  rw [hs, ← EReal.coe_one]
  simp only [← EReal.coe_mul, ← EReal.coe_sub, ← EReal.coe_add]
  congr 1
  ring

end Cert.Softmax

namespace Cert.Kernel4Ideal.Output

open Idealize.ShloMosaic Cert.Softmax
open Cert.Kernel4Ideal.Gen
open Cert.Reference4Ideal.Read (val_main_v4 val_main_v7 val_main_v21 val_main_v24 val_main_v25 val_main_v26 val_main_v29 val_main_v32)

section Block

variable {k : Fin 512 → Fin 8192}
  {x0 x1 : FVec Ideal S8192x1024 .f32} {x2 x3 x4 x5 : FVec Ideal S8192x512 .f32} {x6 : FVec Ideal S1024x1024 .f32}
  {b0 b1 : FVec Ideal S512x1024 .f32} {b2 b3 b4 b5 : FVec Ideal S512x512 .f32} {b6 : FVec Ideal S1024x1024 .bf16}
  (H : Rows k x0 x1 x2 x3 x4 x5 x6 b0 b1 b2 b3 b4 b5 b6)
  (r0 : ∀ i, IsReal (x0 i)) (r1 : ∀ i, IsReal (x1 i)) (r2 : ∀ i, IsReal (x2 i)) (r3 : ∀ i, IsReal (x3 i)) (r4 : ∀ i, IsReal (x4 i)) (r5 : ∀ i, IsReal (x5 i))
  (r6 : ∀ i, IsReal (x6 i))

include r2 r3 r4 r5 in
theorem real_y (p : Fin 8192) (n : Fin 1024) : IsReal (val_main_v4 (F := Ideal) x2 x3 x4 x5 (ix2 p n)) := by
  by_cases h : n.val < 512
  · rw [Cert.Reference4Ideal.At.y_left x2 x3 x4 x5 p ⟨n.val, h⟩ n rfl]
    exact (r2 _).mul ((r4 _).mul (r4 _).logistic)
  · rw [Cert.Reference4Ideal.At.y_right x2 x3 x4 x5 p ⟨n.val - 512, by omega⟩ n (by show n.val = 512 + (n.val - 512); omega)]
    exact (r3 _).mul ((r5 _).mul (r5 _).logistic)

include r0 r1 r2 r3 r4 r5 r6

theorem real_dy (p : Fin 8192) (n : Fin 1024) : IsReal (val_main_v24 (F := Ideal) x0 x1 x2 x3 x4 x5 x6 (ix2 p n)) := by
  rw [Cert.Reference4Ideal.At.dy_at]
  refine IsReal.sum fun l => IsReal.mul ?_ (r6 _)
  rw [Cert.Reference4Ideal.At.scaled_at, Cert.Reference4Ideal.At.err_at, Cert.Reference4Ideal.At.bits_inv1024]
  exact ((((r0 _).add (IsReal.sum fun q => (real_y r2 r3 r4 r5 p q).mul (r6 _))).sub (r1 _))).mul ⟨_, rfl⟩

include H

theorem dga_at (r q : Fin 512) :
    k0_pay21 (F := Ideal) b2 (k0_pay6 b4) (scaled (F := Ideal) b0 b1 b2 b3 b4 b5 b6) (up b6) (ix2 r q)
      = val_main_v32 (F := Ideal) x0 x1 x2 x3 x4 x5 x6 (ix2 (k r) q) := by
  have hd : IsReal (val_main_v25 (F := Ideal) x0 x1 x2 x3 x4 x5 x6 (ix2 (k r) q)) := by
    rw [Cert.Reference4Ideal.At.dya_at x0 x1 x2 x3 x4 x5 x6 (k r) q ⟨q.val, by omega⟩ rfl]
    exact real_dy r0 r1 r2 r3 r4 r5 r6 _ _
  rw [Cert.Reference4Ideal.At.dga_at, ← gate_gradient hd (r2 _) (r4 _), ← dya_at H, ← H.h2, ← H.h4, ← pay6_at]
  generalize scaled (F := Ideal) b0 b1 b2 b3 b4 b5 b6 = s
  pointwise [k0_pay21]

theorem dgb_at (r q : Fin 512) :
    k0_pay22 (F := Ideal) b3 (k0_pay9 b5) (scaled (F := Ideal) b0 b1 b2 b3 b4 b5 b6) (low b6) (ix2 r q)
      = val_main_v29 (F := Ideal) x0 x1 x2 x3 x4 x5 x6 (ix2 (k r) q) := by
  have hd : IsReal (val_main_v26 (F := Ideal) x0 x1 x2 x3 x4 x5 x6 (ix2 (k r) q)) := by
    rw [Cert.Reference4Ideal.At.dyb_at x0 x1 x2 x3 x4 x5 x6 (k r) q ⟨512 + q.val, by omega⟩ rfl]
    exact real_dy r0 r1 r2 r3 r4 r5 r6 _ _
  rw [Cert.Reference4Ideal.At.dgb_at, ← gate_gradient hd (r3 _) (r5 _), ← dyb_at H, ← H.h3, ← H.h5, ← pay9_at]
  generalize scaled (F := Ideal) b0 b1 b2 b3 b4 b5 b6 = s
  pointwise [k0_pay22]

end Block

end Cert.Kernel4Ideal.Output

end
-- ==== Proof.Output4Value.lean ====
/-
  The output product's call over the extended reals: block by block its results are the reference's; the weights'
  gradient and the losses are sums over the blocks.
-/
module

public import proofs.«01_k».proof.Proof.Gen.Kernel4Ideal.Value
public import proofs.«01_k».proof.Proof.Finite4

@[expose] public section

set_option maxRecDepth 16384

noncomputable section

namespace Cert.Kernel4Ideal.Output

open Idealize.ShloMosaic Idealize.ShloMosaic.TcCoe Cert.Softmax
open Cert.Kernel4Ideal.Gen
open Cert.Reference4Ideal.Read (val_main_v4 val_main_v7 val_main_v21 val_main_v29 val_main_v32 val_main_v33 val_main_v34 val_main_v35 val_main_v39)

section Call

variable (m : (ℓ : Loc nD τ sig) → Buf (Elt Ideal) ℓ) (c : Dev nD)

abbrev arg0 : FVec Ideal S8192x1024 .f32 := m ((c : Thread nD τ).loc main_arg0)
abbrev arg1 : FVec Ideal S8192x1024 .f32 := m ((c : Thread nD τ).loc main_arg1)
abbrev arg2 : FVec Ideal S8192x512 .f32 := m ((c : Thread nD τ).loc main_arg2)
abbrev arg3 : FVec Ideal S8192x512 .f32 := m ((c : Thread nD τ).loc main_arg3)
abbrev arg4 : FVec Ideal S8192x512 .f32 := m ((c : Thread nD τ).loc main_arg4)
abbrev arg5 : FVec Ideal S8192x512 .f32 := m ((c : Thread nD τ).loc main_arg5)
abbrev arg6 : FVec Ideal S1024x1024 .f32 := m ((c : Thread nD τ).loc main_arg6)

theorem operand : V m c main_v0 = truncf .bf16 (arg6 m c) bitsLt_bf16_f32 := by
  simp only [V, hostOps0, List.flatten_cons, List.flatten_nil, List.append_nil, List.cons_append, List.nil_append]
  after_results_simp
  try rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

/-- The rows of the block at point `t`. -/
def rowsOf (t : Fin cfg0.N) (r : Fin 512) : Fin 8192 :=
  ⟨512 * t.val + r.val, by have ht : t.val < 16 := lt_of_lt_of_eq t.isLt N_0; omega⟩

theorem block0_at (t : Fin cfg0.N) (r : Fin 512) (l : Fin 1024) :
    (iblk m c 0 t : FVec Ideal S512x1024 .f32) (ix2 r l) = arg0 m c (ix2 (rowsOf t r) l) := by
  have e0 : win0_0.index t (0 : Fin 2) = t.val := congrFun (idx0 t) 0
  have e1 : win0_0.index t (1 : Fin 2) = 0 := congrFun (idx0 t) 1
  unfold iblk
  show V m c main_arg0 _ = _
  rw [V_main_arg0]
  refine congrArg (arg0 m c) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * l.val = l.val; omega

theorem block1_at (t : Fin cfg0.N) (r : Fin 512) (l : Fin 1024) :
    (iblk m c 1 t : FVec Ideal S512x1024 .f32) (ix2 r l) = arg1 m c (ix2 (rowsOf t r) l) := by
  have e0 : win0_1.index t (0 : Fin 2) = t.val := congrFun (idx1 t) 0
  have e1 : win0_1.index t (1 : Fin 2) = 0 := congrFun (idx1 t) 1
  unfold iblk
  show V m c main_arg1 _ = _
  rw [V_main_arg1]
  refine congrArg (arg1 m c) (funext fun a => Fin.ext ?_)
  match a with
  | ⟨0, _⟩ => show win0_1.index t (0 : Fin 2) * 512 + 1 * r.val = 512 * t.val + r.val; omega
  | ⟨1, _⟩ => show win0_1.index t (1 : Fin 2) * 1024 + 1 * l.val = l.val; omega

theorem block2_at (t : Fin cfg0.N) (r : Fin 512) (l : Fin 512) :
    (iblk m c 2 t : FVec Ideal S512x512 .f32) (ix2 r l) = arg2 m c (ix2 (rowsOf t r) l) := by
  have e0 : win0_2.index t (0 : Fin 2) = t.val := congrFun (idx2 t) 0
  have e1 : win0_2.index t (1 : Fin 2) = 0 := congrFun (idx2 t) 1
  unfold iblk
  show V m c main_arg2 _ = _
  rw [V_main_arg2]
  refine congrArg (arg2 m c) (funext fun a => Fin.ext ?_)
  match a with
  | ⟨0, _⟩ => show win0_2.index t (0 : Fin 2) * 512 + 1 * r.val = 512 * t.val + r.val; omega
  | ⟨1, _⟩ => show win0_2.index t (1 : Fin 2) * 512 + 1 * l.val = l.val; omega

theorem block3_at (t : Fin cfg0.N) (r : Fin 512) (l : Fin 512) :
    (iblk m c 3 t : FVec Ideal S512x512 .f32) (ix2 r l) = arg3 m c (ix2 (rowsOf t r) l) := by
  have e0 : win0_3.index t (0 : Fin 2) = t.val := congrFun (idx3 t) 0
  have e1 : win0_3.index t (1 : Fin 2) = 0 := congrFun (idx3 t) 1
  unfold iblk
  show V m c main_arg3 _ = _
  rw [V_main_arg3]
  refine congrArg (arg3 m c) (funext fun a => Fin.ext ?_)
  match a with
  | ⟨0, _⟩ => show win0_3.index t (0 : Fin 2) * 512 + 1 * r.val = 512 * t.val + r.val; omega
  | ⟨1, _⟩ => show win0_3.index t (1 : Fin 2) * 512 + 1 * l.val = l.val; omega

theorem block4_at (t : Fin cfg0.N) (r : Fin 512) (l : Fin 512) :
    (iblk m c 4 t : FVec Ideal S512x512 .f32) (ix2 r l) = arg4 m c (ix2 (rowsOf t r) l) := by
  have e0 : win0_4.index t (0 : Fin 2) = t.val := congrFun (idx4 t) 0
  have e1 : win0_4.index t (1 : Fin 2) = 0 := congrFun (idx4 t) 1
  unfold iblk
  show V m c main_arg4 _ = _
  rw [V_main_arg4]
  refine congrArg (arg4 m c) (funext fun a => Fin.ext ?_)
  match a with
  | ⟨0, _⟩ => show win0_4.index t (0 : Fin 2) * 512 + 1 * r.val = 512 * t.val + r.val; omega
  | ⟨1, _⟩ => show win0_4.index t (1 : Fin 2) * 512 + 1 * l.val = l.val; omega

theorem block5_at (t : Fin cfg0.N) (r : Fin 512) (l : Fin 512) :
    (iblk m c 5 t : FVec Ideal S512x512 .f32) (ix2 r l) = arg5 m c (ix2 (rowsOf t r) l) := by
  have e0 : win0_5.index t (0 : Fin 2) = t.val := congrFun (idx5 t) 0
  have e1 : win0_5.index t (1 : Fin 2) = 0 := congrFun (idx5 t) 1
  unfold iblk
  show V m c main_arg5 _ = _
  rw [V_main_arg5]
  refine congrArg (arg5 m c) (funext fun a => Fin.ext ?_)
  match a with
  | ⟨0, _⟩ => show win0_5.index t (0 : Fin 2) * 512 + 1 * r.val = 512 * t.val + r.val; omega
  | ⟨1, _⟩ => show win0_5.index t (1 : Fin 2) * 512 + 1 * l.val = l.val; omega

theorem block6_at (t : Fin cfg0.N) (p l : Fin 1024) :
    (iblk m c 6 t : FVec Ideal S1024x1024 .bf16) (ix2 p l) = arg6 m c (ix2 p l) := by
  have e0 : win0_6.index t (0 : Fin 2) = 0 := congrFun (idx6 t) 0
  have e1 : win0_6.index t (1 : Fin 2) = 0 := congrFun (idx6 t) 1
  unfold iblk
  show V m c main_v0 _ = _
  rw [operand m c]
  refine congrArg (arg6 m c) (funext fun a => Fin.ext ?_)
  match a with
  | ⟨0, _⟩ => show win0_6.index t (0 : Fin 2) * 1024 + 1 * p.val = p.val; omega
  | ⟨1, _⟩ => show win0_6.index t (1 : Fin 2) * 1024 + 1 * l.val = l.val; omega

theorem rows (t : Fin cfg0.N) : Rows (rowsOf t) (arg0 m c) (arg1 m c) (arg2 m c) (arg3 m c) (arg4 m c) (arg5 m c) (arg6 m c)
    (iblk m c 0 t) (iblk m c 1 t) (iblk m c 2 t) (iblk m c 3 t) (iblk m c 4 t) (iblk m c 5 t) (iblk m c 6 t) where
  h0 := block0_at m c t
  h1 := block1_at m c t
  h2 := block2_at m c t
  h3 := block3_at m c t
  h4 := block4_at m c t
  h5 := block5_at m c t
  hu q l := by
    refine Eq.trans (congrArg (iblk m c 6 t : FVec Ideal S1024x1024 .bf16) (funext fun a => Fin.ext ?_)) (block6_at m c t ⟨q.val, by omega⟩ l)
    match a with
    | ⟨0, _⟩ => show 0 + 1 * q.val = q.val; omega
    | ⟨1, _⟩ => show 0 + 1 * l.val = l.val; omega
  hl q l := by
    refine Eq.trans (congrArg (iblk m c 6 t : FVec Ideal S1024x1024 .bf16) (funext fun a => Fin.ext ?_)) (block6_at m c t ⟨512 + q.val, by omega⟩ l)
    match a with
    | ⟨0, _⟩ => show 512 + 1 * q.val = 512 + q.val; omega
    | ⟨1, _⟩ => show 0 + 1 * l.val = l.val; omega

/-- Every point leaves its block of the results that are not summed. -/
theorem leaves (t : Fin cfg0.N) :
    (outsAt0 m c t.val t.isLt).1 = k0_pay15 (k0_pay10 (iblk m c 2 t) (iblk m c 4 t)) (k0_pay11 (iblk m c 3 t) (iblk m c 5 t)) (iblk m c 0 t) (upper (iblk m c 6 t)) (lower (iblk m c 6 t)) (iblk m c 1 t)
    ∧ (outsAt0 m c t.val t.isLt).2.1 = k0_pay19 (k0_pay5 (iblk m c 4 t)) (scaled (iblk m c 0 t) (iblk m c 1 t) (iblk m c 2 t) (iblk m c 3 t) (iblk m c 4 t) (iblk m c 5 t) (iblk m c 6 t)) (upper (iblk m c 6 t))
    ∧ (outsAt0 m c t.val t.isLt).2.2.1 = k0_pay20 (k0_pay8 (iblk m c 5 t)) (scaled (iblk m c 0 t) (iblk m c 1 t) (iblk m c 2 t) (iblk m c 3 t) (iblk m c 4 t) (iblk m c 5 t) (iblk m c 6 t)) (lower (iblk m c 6 t))
    ∧ (outsAt0 m c t.val t.isLt).2.2.2.1 = k0_pay21 (iblk m c 2 t) (k0_pay6 (iblk m c 4 t)) (scaled (iblk m c 0 t) (iblk m c 1 t) (iblk m c 2 t) (iblk m c 3 t) (iblk m c 4 t) (iblk m c 5 t) (iblk m c 6 t)) (upper (iblk m c 6 t))
    ∧ (outsAt0 m c t.val t.isLt).2.2.2.2.1 = k0_pay22 (iblk m c 3 t) (k0_pay9 (iblk m c 5 t)) (scaled (iblk m c 0 t) (iblk m c 1 t) (iblk m c 2 t) (iblk m c 3 t) (iblk m c 4 t) (iblk m c 5 t) (iblk m c 6 t)) (lower (iblk m c 6 t)) := by
  have ht : t.val < 16 := lt_of_lt_of_eq t.isLt N_0
  by_cases h0 : t.val % 16 = 0
  · have h1 : ¬t.val % 16 = 15 := by omega
    rw [outsAt0_A m c t h0 h1]
    dsimp only
    exact ⟨dh_A .., doa_A .., dob_A .., dga_A .., dgb_A ..⟩
  · by_cases h1 : t.val % 16 = 15
    · rw [outsAt0_C m c t h0 h1]
      dsimp only
      exact ⟨dh_C .., doa_C .., dob_C .., dga_C .., dgb_C ..⟩
    · rw [outsAt0_B m c t h0 h1]
      dsimp only
      exact ⟨dh_B .., doa_B .., dob_B .., dga_B .., dgb_B ..⟩

/-! ## The results by blocks -/

theorem result7 : Value.G7 m c = val_main_v21 (F := Ideal) (arg0 m c) (arg1 m c) (arg2 m c) (arg3 m c) (arg4 m c) (arg5 m c) (arg6 m c) := by
  funext y
  have hy0 : (y 0).val < 8192 := (y 0).isLt
  have hy1 : (y 1).val < 1024 := (y 1).isLt
  have hp : Value.pt7Of y = (y 0).val / 512 := by
    show 1 * ((y 0).val / 512 - 0) + 1 * ((y 1).val / 1024 - 0) = _
    omega
  have hN : Value.pt7Of y < cfg0.N := by
    rw [hp]
    exact lt_of_lt_of_eq (by omega) N_0.symm
  unfold Value.G7
  rw [dif_pos hN, ← Value.outsAt0_sweep m c (Value.pt7Of y) hN, (leaves m c ⟨Value.pt7Of y, hN⟩).1]
  have hl : Value.loc7Of y = ix2 ⟨(y 0).val % 512, by omega⟩ (⟨(y 1).val % 1024, by omega⟩ : Fin 1024) := funext fun a => by
    match a with
    | ⟨0, _⟩ => rfl
    | ⟨1, _⟩ => rfl
  rw [hl]
  refine (dh_at (rows m c ⟨Value.pt7Of y, hN⟩) _ _).trans (congrArg (val_main_v21 (F := Ideal) (arg0 m c) (arg1 m c) (arg2 m c) (arg3 m c) (arg4 m c) (arg5 m c) (arg6 m c)) (funext fun a => Fin.ext ?_))
  match a with
  | ⟨0, _⟩ => show 512 * Value.pt7Of y + (y 0).val % 512 = (y 0).val; omega
  | ⟨1, _⟩ => show (y 1).val % 1024 = (y 1).val; omega

theorem result8 : Value.G8 m c = val_main_v33 (F := Ideal) (arg0 m c) (arg1 m c) (arg2 m c) (arg3 m c) (arg4 m c) (arg5 m c) (arg6 m c) := by
  funext y
  have hy0 : (y 0).val < 8192 := (y 0).isLt
  have hy1 : (y 1).val < 512 := (y 1).isLt
  have hp : Value.pt8Of y = (y 0).val / 512 := by
    show 1 * ((y 0).val / 512 - 0) + 1 * ((y 1).val / 512 - 0) = _
    omega
  have hN : Value.pt8Of y < cfg0.N := by
    rw [hp]
    exact lt_of_lt_of_eq (by omega) N_0.symm
  unfold Value.G8
  rw [dif_pos hN, ← Value.outsAt0_sweep m c (Value.pt8Of y) hN, (leaves m c ⟨Value.pt8Of y, hN⟩).2.1]
  have hl : Value.loc8Of y = ix2 ⟨(y 0).val % 512, by omega⟩ (⟨(y 1).val % 512, by omega⟩ : Fin 512) := funext fun a => by
    match a with
    | ⟨0, _⟩ => rfl
    | ⟨1, _⟩ => rfl
  rw [hl]
  refine (doa_at (rows m c ⟨Value.pt8Of y, hN⟩) _ _).trans (congrArg (val_main_v33 (F := Ideal) (arg0 m c) (arg1 m c) (arg2 m c) (arg3 m c) (arg4 m c) (arg5 m c) (arg6 m c)) (funext fun a => Fin.ext ?_))
  match a with
  | ⟨0, _⟩ => show 512 * Value.pt8Of y + (y 0).val % 512 = (y 0).val; omega
  | ⟨1, _⟩ => show (y 1).val % 512 = (y 1).val; omega

theorem result9 : Value.G9 m c = val_main_v34 (F := Ideal) (arg0 m c) (arg1 m c) (arg2 m c) (arg3 m c) (arg4 m c) (arg5 m c) (arg6 m c) := by
  funext y
  have hy0 : (y 0).val < 8192 := (y 0).isLt
  have hy1 : (y 1).val < 512 := (y 1).isLt
  have hp : Value.pt9Of y = (y 0).val / 512 := by
    show 1 * ((y 0).val / 512 - 0) + 1 * ((y 1).val / 512 - 0) = _
    omega
  have hN : Value.pt9Of y < cfg0.N := by
    rw [hp]
    exact lt_of_lt_of_eq (by omega) N_0.symm
  unfold Value.G9
  rw [dif_pos hN, ← Value.outsAt0_sweep m c (Value.pt9Of y) hN, (leaves m c ⟨Value.pt9Of y, hN⟩).2.2.1]
  have hl : Value.loc9Of y = ix2 ⟨(y 0).val % 512, by omega⟩ (⟨(y 1).val % 512, by omega⟩ : Fin 512) := funext fun a => by
    match a with
    | ⟨0, _⟩ => rfl
    | ⟨1, _⟩ => rfl
  rw [hl]
  refine (dob_at (rows m c ⟨Value.pt9Of y, hN⟩) _ _).trans (congrArg (val_main_v34 (F := Ideal) (arg0 m c) (arg1 m c) (arg2 m c) (arg3 m c) (arg4 m c) (arg5 m c) (arg6 m c)) (funext fun a => Fin.ext ?_))
  match a with
  | ⟨0, _⟩ => show 512 * Value.pt9Of y + (y 0).val % 512 = (y 0).val; omega
  | ⟨1, _⟩ => show (y 1).val % 512 = (y 1).val; omega

theorem result10 (r0 : ∀ i, IsReal (arg0 m c i)) (r1 : ∀ i, IsReal (arg1 m c i)) (r2 : ∀ i, IsReal (arg2 m c i)) (r3 : ∀ i, IsReal (arg3 m c i))
    (r4 : ∀ i, IsReal (arg4 m c i)) (r5 : ∀ i, IsReal (arg5 m c i)) (r6 : ∀ i, IsReal (arg6 m c i)) : Value.G10 m c = val_main_v32 (F := Ideal) (arg0 m c) (arg1 m c) (arg2 m c) (arg3 m c) (arg4 m c) (arg5 m c) (arg6 m c) := by
  funext y
  have hy0 : (y 0).val < 8192 := (y 0).isLt
  have hy1 : (y 1).val < 512 := (y 1).isLt
  have hp : Value.pt10Of y = (y 0).val / 512 := by
    show 1 * ((y 0).val / 512 - 0) + 1 * ((y 1).val / 512 - 0) = _
    omega
  have hN : Value.pt10Of y < cfg0.N := by
    rw [hp]
    exact lt_of_lt_of_eq (by omega) N_0.symm
  unfold Value.G10
  rw [dif_pos hN, ← Value.outsAt0_sweep m c (Value.pt10Of y) hN, (leaves m c ⟨Value.pt10Of y, hN⟩).2.2.2.1]
  have hl : Value.loc10Of y = ix2 ⟨(y 0).val % 512, by omega⟩ (⟨(y 1).val % 512, by omega⟩ : Fin 512) := funext fun a => by
    match a with
    | ⟨0, _⟩ => rfl
    | ⟨1, _⟩ => rfl
  rw [hl]
  refine (dga_at (rows m c ⟨Value.pt10Of y, hN⟩) r0 r1 r2 r3 r4 r5 r6 _ _).trans (congrArg (val_main_v32 (F := Ideal) (arg0 m c) (arg1 m c) (arg2 m c) (arg3 m c) (arg4 m c) (arg5 m c) (arg6 m c)) (funext fun a => Fin.ext ?_))
  match a with
  | ⟨0, _⟩ => show 512 * Value.pt10Of y + (y 0).val % 512 = (y 0).val; omega
  | ⟨1, _⟩ => show (y 1).val % 512 = (y 1).val; omega

theorem result11 (r0 : ∀ i, IsReal (arg0 m c i)) (r1 : ∀ i, IsReal (arg1 m c i)) (r2 : ∀ i, IsReal (arg2 m c i)) (r3 : ∀ i, IsReal (arg3 m c i))
    (r4 : ∀ i, IsReal (arg4 m c i)) (r5 : ∀ i, IsReal (arg5 m c i)) (r6 : ∀ i, IsReal (arg6 m c i)) : Value.G11 m c = val_main_v29 (F := Ideal) (arg0 m c) (arg1 m c) (arg2 m c) (arg3 m c) (arg4 m c) (arg5 m c) (arg6 m c) := by
  funext y
  have hy0 : (y 0).val < 8192 := (y 0).isLt
  have hy1 : (y 1).val < 512 := (y 1).isLt
  have hp : Value.pt11Of y = (y 0).val / 512 := by
    show 1 * ((y 0).val / 512 - 0) + 1 * ((y 1).val / 512 - 0) = _
    omega
  have hN : Value.pt11Of y < cfg0.N := by
    rw [hp]
    exact lt_of_lt_of_eq (by omega) N_0.symm
  unfold Value.G11
  rw [dif_pos hN, ← Value.outsAt0_sweep m c (Value.pt11Of y) hN, (leaves m c ⟨Value.pt11Of y, hN⟩).2.2.2.2]
  have hl : Value.loc11Of y = ix2 ⟨(y 0).val % 512, by omega⟩ (⟨(y 1).val % 512, by omega⟩ : Fin 512) := funext fun a => by
    match a with
    | ⟨0, _⟩ => rfl
    | ⟨1, _⟩ => rfl
  rw [hl]
  refine (dgb_at (rows m c ⟨Value.pt11Of y, hN⟩) r0 r1 r2 r3 r4 r5 r6 _ _).trans (congrArg (val_main_v29 (F := Ideal) (arg0 m c) (arg1 m c) (arg2 m c) (arg3 m c) (arg4 m c) (arg5 m c) (arg6 m c)) (funext fun a => Fin.ext ?_))
  match a with
  | ⟨0, _⟩ => show 512 * Value.pt11Of y + (y 0).val % 512 = (y 0).val; omega
  | ⟨1, _⟩ => show (y 1).val % 512 = (y 1).val; omega

/-! ## The sums -/

/-- Row `k`'s product in the weights' gradient. -/
def product (n l : Fin 1024) (k : ℕ) : EReal :=
  if h : k < 8192 then val_main_v21 (F := Ideal) (arg0 m c) (arg1 m c) (arg2 m c) (arg3 m c) (arg4 m c) (arg5 m c) (arg6 m c) (ix2 ⟨k, h⟩ l) * val_main_v4 (F := Ideal) (arg2 m c) (arg3 m c) (arg4 m c) (arg5 m c) (ix2 ⟨k, h⟩ n) else 0

/-- Row `k`'s squared error at column `l`. -/
def square (l : Fin 1024) (k : ℕ) : EReal :=
  if h : k < 8192 then val_main_v7 (F := Ideal) (arg0 m c) (arg1 m c) (arg2 m c) (arg3 m c) (arg4 m c) (arg5 m c) (arg6 m c) (ix2 ⟨k, h⟩ l) * val_main_v7 (F := Ideal) (arg0 m c) (arg1 m c) (arg2 m c) (arg3 m c) (arg4 m c) (arg5 m c) (arg6 m c) (ix2 ⟨k, h⟩ l) else 0

/-- The column at slice `j` and lane `b`. -/
def column (b : Fin 128) (j : Fin 8) : Fin 1024 := ⟨128 * j.val + b.val, by omega⟩

/-- A block's rows extend a sum over the rows before it. -/
theorem sum_rows (t : Fin cfg0.N) (f : ℕ → EReal) :
    ∑ x ∈ Finset.range (512 * (t.val + 1)), f x = ∑ x ∈ Finset.range (512 * t.val), f x + ∑ r : Fin 512, f (rowsOf t r).val := by
  rw [Nat.mul_succ, Finset.sum_range_add, ← Fin.sum_univ_eq_sum_range (fun x => f (512 * t.val + x)) 512]
  rfl

theorem weights_step (t : Fin cfg0.N) (acc : FVec Ideal S1024x1024 .f32) (n l : Fin 1024) (h : acc (ix2 n l) = ∑ x ∈ Finset.range (512 * t.val), product m c n l x) :
    weights (F := Ideal) (iblk m c 0 t) (iblk m c 1 t) (iblk m c 2 t) (iblk m c 3 t) (iblk m c 4 t) (iblk m c 5 t) (iblk m c 6 t) acc (ix2 n l) = ∑ x ∈ Finset.range (512 * (t.val + 1)), product m c n l x := by
  refine (weights_at (rows m c t) acc n l).trans ?_
  rw [sum_rows, h]
  exact congrArg _ (Finset.sum_congr rfl fun r _ => ((dif_pos (rowsOf t r).isLt).symm : _ = product m c n l (rowsOf t r).val))

theorem losses_step (t : Fin cfg0.N) (acc : FVec Ideal S1x128 .f32) (a : Fin 1) (b : Fin 128)
    (h : acc (ix2 a b) = ∑ j : Fin 8, ∑ x ∈ Finset.range (512 * t.val), square m c (column b j) x) :
    losses (F := Ideal) (iblk m c 0 t) (iblk m c 1 t) (iblk m c 2 t) (iblk m c 3 t) (iblk m c 4 t) (iblk m c 5 t) (iblk m c 6 t) acc (ix2 a b) = ∑ j : Fin 8, ∑ x ∈ Finset.range (512 * (t.val + 1)), square m c (column b j) x := by
  refine (losses_at (rows m c t) acc a b (column b) fun _ => rfl).trans ?_
  simp only [sum_rows]
  rw [Finset.sum_add_distrib, h]
  exact congrArg _ (Finset.sum_congr rfl fun j _ => Finset.sum_congr rfl fun r _ =>
    ((dif_pos (rowsOf t r).isLt).symm : _ = square m c (column b j) (rowsOf t r).val))

theorem pay2_at (y) : k0_pay2 (F := Ideal) y = 0 := by
  pointwise [k0_pay2]

theorem pay3_at (y) : k0_pay3 (F := Ideal) y = 0 := by
  pointwise [k0_pay3]

/-- After point `n` the scratch holds the products of the first `n + 1` blocks of rows. -/
theorem scratch_at (p l : Fin 1024) : ∀ (n : ℕ) (hn : n < cfg0.N), n < 15 →
    (outsAt0 m c n hn).2.2.2.2.2.2.2 (ix2 p l) = ∑ x ∈ Finset.range (512 * (n + 1)), product m c p l x
  | 0, hn, _ => by
    rw [outsAt0_A m c ⟨0, hn⟩ (Nat.zero_mod _) (by dsimp only; omega)]
    dsimp only
    rw [weights_A]
    exact weights_step m c ⟨0, hn⟩ _ p l (by rw [pay2_at]; exact Finset.sum_range_zero _ |>.symm)
  | n + 1, hn, h => by
    rw [outsAt0_B m c ⟨n + 1, hn⟩ (by dsimp only; omega) (by dsimp only; omega)]
    dsimp only
    rw [weights_B]
    exact weights_step m c ⟨n + 1, hn⟩ _ p l (scratch_at p l n _ (by omega))

/-- After point `n` the row of losses holds the squared errors of the first `n + 1` blocks of rows. -/
theorem loss_upto (a : Fin 1) (b : Fin 128) : ∀ (n : ℕ) (hn : n < cfg0.N),
    (outsAt0 m c n hn).2.2.2.2.2.2.1 (ix2 a b) = ∑ j : Fin 8, ∑ x ∈ Finset.range (512 * (n + 1)), square m c (column b j) x
  | 0, hn => by
    rw [outsAt0_A m c ⟨0, hn⟩ (Nat.zero_mod _) (by dsimp only; omega)]
    dsimp only
    rw [loss_A]
    refine losses_step m c ⟨0, hn⟩ _ a b ?_
    rw [pay3_at]
    exact (Finset.sum_eq_zero fun j _ => Finset.sum_range_zero _).symm
  | n + 1, hn => by
    have h16 : n + 1 < 16 := lt_of_lt_of_eq hn N_0
    by_cases h : n + 1 = 15
    · rw [outsAt0_C m c ⟨n + 1, hn⟩ (by dsimp only; omega) (by dsimp only; omega)]
      dsimp only
      rw [loss_C]
      exact losses_step m c ⟨n + 1, hn⟩ _ a b (loss_upto a b n _)
    · rw [outsAt0_B m c ⟨n + 1, hn⟩ (by dsimp only; omega) (by dsimp only; omega)]
      dsimp only
      rw [loss_B]
      exact losses_step m c ⟨n + 1, hn⟩ _ a b (loss_upto a b n _)

theorem pay1_at (v : FVec Ideal S1024x1024 .f32) (n l : Fin 1024) : k0_pay1 (F := Ideal) v (ix2 n l) = v (ix2 n l) := by
  pointwise [k0_pay1]

theorem result12 : Value.G12 m c = val_main_v35 (F := Ideal) (arg0 m c) (arg1 m c) (arg2 m c) (arg3 m c) (arg4 m c) (arg5 m c) (arg6 m c) := by
  have h15 : 15 < cfg0.N := lt_of_lt_of_eq (by decide) N_0.symm
  rw [Value.G12_last, ← Value.outsAt0_sweep m c 15 h15]
  funext y
  obtain ⟨n, l, rfl⟩ : ∃ (n l : Fin 1024), y = ix2 n l := ⟨y 0, y 1, funext fun a => by match a with | ⟨0, _⟩ => rfl | ⟨1, _⟩ => rfl⟩
  rw [outsAt0_C m c ⟨15, h15⟩ (by dsimp only; omega) (by dsimp only)]
  dsimp only
  rw [dw_C, pay1_at, Cert.Reference4Ideal.At.dw_at]
  refine (weights_step m c ⟨15, h15⟩ _ n l (scratch_at m c n l 14 _ (by decide))).trans ?_
  refine (Fin.sum_univ_eq_sum_range (product m c n l) 8192).symm.trans (Finset.sum_congr rfl fun k _ => ?_)
  exact dif_pos k.isLt

theorem result13 : Value.G13 m c = val_main_v39 (F := Ideal) (arg0 m c) (arg1 m c) (arg2 m c) (arg3 m c) (arg4 m c) (arg5 m c) (arg6 m c) := by
  have h15 : 15 < cfg0.N := lt_of_lt_of_eq (by decide) N_0.symm
  rw [Value.G13_last, ← Value.outsAt0_sweep m c 15 h15]
  funext y
  obtain ⟨a, b, rfl⟩ : ∃ (a : Fin 1) (b : Fin 128), y = ix2 a b := ⟨y 0, y 1, funext fun a => by match a with | ⟨0, _⟩ => rfl | ⟨1, _⟩ => rfl⟩
  rw [Cert.Reference4Ideal.At.loss_at _ _ _ _ _ _ _ a b (column b) fun _ => rfl]
  refine (loss_upto m c a b 15 h15).trans (Finset.sum_congr rfl fun j _ => ?_)
  refine (Fin.sum_univ_eq_sum_range (square m c (column b j)) 8192).symm.trans (Finset.sum_congr rfl fun k _ => ?_)
  exact dif_pos k.isLt

end Call

end Cert.Kernel4Ideal.Output

end
-- ==== Proof.lean ====
/-
  The claims: each of the two attention gradient calls, the weight gradient's call and the output product's call runs, ends
  quiet and, over the real numbers, returns its reference's results.
-/
module

public import proofs.«01_k».proof.Defs
public import proofs.«01_k».proof.Proof.Gen.Kernel
public import proofs.«01_k».proof.Proof.Gen.Kernel2
public import proofs.«01_k».proof.Proof.Gen.Reference2Ideal.Run
public import proofs.«01_k».proof.Proof.Gen.ReferenceIdeal.Run
public import proofs.«01_k».proof.Proof.Given
public import proofs.«01_k».proof.Proof.Given2
public import proofs.«01_k».proof.Proof.Ref
public import proofs.«01_k».proof.Proof.Ref2
public import proofs.«01_k».proof.Proof.Finite2
public import proofs.«01_k».proof.Proof.Sum3
public import proofs.«01_k».proof.Proof.Output4Value
public import Idealize.ShloMosaic.Lib.Quiescent
public import Idealize.ShloMosaic.Lib.Claim

@[expose] public section

set_option maxRecDepth 16384

noncomputable section

namespace Cert.Proof

open Idealize.ShloMosaic Idealize.SL.Sem Cert.Softmax

/-! ## The gradient of the attention -/

section Tables

attribute [local instance] Cert.Kernel.Gen.facts Cert.KernelIdeal.Gen.facts

theorem bodies : @Cert.Kernel.cc0_attn_bwd_b Bits _ _ = @Cert.KernelIdeal.cc0_attn_bwd_b Bits _ _ := rfl

set_option maxHeartbeats 1000000 in
/-- The two programs have the same body table. -/
theorem tables₀ : @Cert.Kernel.defs₀ Bits _ _ = @Cert.KernelIdeal.defs₀ Bits _ _ := by
  refine congrArg Defs.onTc (funext fun l => funext fun a => ?_)
  match l, a with
  | 0, (t, s) =>
    dsimp only
    rw [bodies]
    congr 1

theorem tables : Cert.Kernel.defs (F := Bits) = Cert.KernelIdeal.defs (F := Bits) :=
  congrArg (Pipeline.defs (Cert.KernelIdeal.pcfgs (F := Bits))) tables₀

end Tables

set_option maxHeartbeats 4000000 in
theorem frame_kernel : Cert.quiescent_Kernel (hKernel := Cert.Kernel.Gen.facts) := by
  intro m ρ _
  rw [tables]
  exact (θ_run Cert.KernelIdeal.defs _ _).mono (fun _ h => h) (Cert.KernelIdeal.Bwd.frame (F := Bits) m ρ)

theorem frame_reference : Cert.quiescent_ReferenceIdeal (hReferenceIdeal := Cert.ReferenceIdeal.Gen.facts) := by
  intro m g _
  exact (θ_run Cert.ReferenceIdeal.defs _ _).mono
    (fun r h => ⟨fun c => (h c).2.2.2, sem_eq_zero_of_no_sems rfl r.2⟩) (Cert.ReferenceIdeal.Value.run (F := Ideal) m g)

/-- The kernel's run: each gradient at its array's contents after the last point, the arguments unchanged. -/
theorem run_kernel (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r =>
      ∀ c : Dev Cert.KernelIdeal.nD,
        r.2.mem ((c.tc : Thread _ Cert.KernelIdeal.τ).loc Cert.KernelIdeal.main_v32_0) = (Cert.KernelIdeal.Bwd.dats m 0 c).arrAt 6 (Cert.KernelIdeal.cfgs 0).N
        ∧ r.2.mem ((c.tc : Thread _ Cert.KernelIdeal.τ).loc Cert.KernelIdeal.main_v32_1) = (Cert.KernelIdeal.Bwd.dats m 0 c).arrAt 7 (Cert.KernelIdeal.cfgs 0).N
        ∧ r.2.mem ((c.tc : Thread _ Cert.KernelIdeal.τ).loc Cert.KernelIdeal.main_v32_2) = (Cert.KernelIdeal.Bwd.dats m 0 c).arrAt 8 (Cert.KernelIdeal.cfgs 0).N
        ∧ r.2.mem ((c.tc : Thread _ Cert.KernelIdeal.τ).loc Cert.KernelIdeal.main_arg0) = m ((c.tc : Thread _ Cert.KernelIdeal.τ).loc Cert.KernelIdeal.main_arg0)
        ∧ r.2.mem ((c.tc : Thread _ Cert.KernelIdeal.τ).loc Cert.KernelIdeal.main_arg1) = m ((c.tc : Thread _ Cert.KernelIdeal.τ).loc Cert.KernelIdeal.main_arg1)
        ∧ r.2.mem ((c.tc : Thread _ Cert.KernelIdeal.τ).loc Cert.KernelIdeal.main_arg2) = m ((c.tc : Thread _ Cert.KernelIdeal.τ).loc Cert.KernelIdeal.main_arg2)
        ∧ r.2.mem ((c.tc : Thread _ Cert.KernelIdeal.τ).loc Cert.KernelIdeal.main_arg3) = m ((c.tc : Thread _ Cert.KernelIdeal.τ).loc Cert.KernelIdeal.main_arg3) :=
  (θ_run Cert.KernelIdeal.defs _ _).mono (fun _ h c => ⟨(h.1 c).1 6, (h.1 c).1 7, (h.1 c).1 8, h.2.1 c⟩)
    (θ_run_and (Cert.KernelIdeal.Bwd.run_main m ρ) (Cert.KernelIdeal.Bwd.frame m ρ))

set_option maxHeartbeats 1600000 in
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from run_kernel m g
  · run_from Cert.ReferenceIdeal.Value.run m' g'
    · obtain ⟨h0, h1, h2, h3⟩ := lift_of_finite _ _ _ _ (hpre c)
      obtain ⟨a0, a1, a2, a3⟩ := hagree c
      refine Eq.trans ?_ (Cert.KernelIdeal.Bwd.given_dq h0 h1 h2 h3).symm
      rw [Cert.ReferenceIdeal.Read.val_main_v55_eq, a0, a1, a2, a3, h0, h1, h2, h3]
      exact Cert.ReferenceIdeal.Grad.dq_at _ _ _ _
    · obtain ⟨h0, h1, h2, h3⟩ := lift_of_finite _ _ _ _ (hpre c)
      obtain ⟨a0, a1, a2, a3⟩ := hagree c
      refine Eq.trans ?_ (Cert.KernelIdeal.Bwd.given_dk h0 h1 h2 h3).symm
      rw [Cert.ReferenceIdeal.Read.val_main_v58_eq, a0, a1, a2, a3, h0, h1, h2, h3]
      exact Cert.ReferenceIdeal.Grad.dk_at _ _ _ _
    · obtain ⟨h0, h1, h2, h3⟩ := lift_of_finite _ _ _ _ (hpre c)
      refine Eq.trans ?_ (Cert.KernelIdeal.Bwd.given_dv h0 h1 h2 h3).symm
      rw [Cert.ReferenceIdeal.Read.val_main_v60_eq, h0, h1, h3]
      exact Cert.ReferenceIdeal.Grad.dv_at _ _ _ _

/-! ## The grouped attention's gradient -/

section Tables2

attribute [local instance] Cert.Kernel2.Gen.facts Cert.Kernel2Ideal.Gen.facts

theorem bodies2 : @Cert.Kernel2.cc0_attn_bwd_a Bits _ _ = @Cert.Kernel2Ideal.cc0_attn_bwd_a Bits _ _ := rfl

set_option maxHeartbeats 1000000 in
/-- The two programs have the same body table. -/
theorem tables2₀ : @Cert.Kernel2.defs₀ Bits _ _ = @Cert.Kernel2Ideal.defs₀ Bits _ _ := by
  refine congrArg Defs.onTc (funext fun l => funext fun a => ?_)
  match l, a with
  | 0, (t, s) =>
    dsimp only
    rw [bodies2]
    congr 1

theorem tables2 : Cert.Kernel2.defs (F := Bits) = Cert.Kernel2Ideal.defs (F := Bits) :=
  congrArg (Pipeline.defs (Cert.Kernel2Ideal.pcfgs (F := Bits))) tables2₀

end Tables2

set_option maxHeartbeats 4000000 in
theorem frame_kernel2 : Cert.quiescent_Kernel2 (hKernel2 := Cert.Kernel2.Gen.facts) := by
  intro m ρ _
  rw [tables2]
  exact (θ_run Cert.Kernel2Ideal.defs _ _).mono (fun _ h => h) (Cert.Kernel2Ideal.Bwd.frame (F := Bits) m ρ)

theorem frame_reference2 : Cert.quiescent_Reference2Ideal (hReference2Ideal := Cert.Reference2Ideal.Gen.facts) := by
  intro m g _
  exact (θ_run Cert.Reference2Ideal.defs _ _).mono
    (fun r h => ⟨fun c => (h c).2.2.2, sem_eq_zero_of_no_sems rfl r.2⟩) (Cert.Reference2Ideal.Value.run (F := Ideal) m g)

/-- The kernel's run: each gradient at its array's contents after the last point, the arguments unchanged. -/
theorem run_kernel2 (m : (ℓ : Loc Cert.Kernel2Ideal.nD Cert.Kernel2Ideal.τ Cert.Kernel2Ideal.sig) → Buf (Elt Ideal) ℓ)
    (ρ : Dev Cert.Kernel2Ideal.nD → PrngReg) :
    θ_run (Cert.Kernel2Ideal.defs (F := Ideal)) (onTc (τ := Cert.Kernel2Ideal.τ) (Cert.Kernel2Ideal.main (F := Ideal))) ⟨m, fun _ => 0, ρ⟩ fun r =>
      ∀ c : Dev Cert.Kernel2Ideal.nD,
        r.2.mem ((c.tc : Thread _ Cert.Kernel2Ideal.τ).loc Cert.Kernel2Ideal.main_v36_0) = (Cert.Kernel2Ideal.Bwd.dats m 0 c).arrAt 6 (Cert.Kernel2Ideal.cfgs 0).N
        ∧ r.2.mem ((c.tc : Thread _ Cert.Kernel2Ideal.τ).loc Cert.Kernel2Ideal.main_v36_1) = (Cert.Kernel2Ideal.Bwd.dats m 0 c).arrAt 7 (Cert.Kernel2Ideal.cfgs 0).N
        ∧ r.2.mem ((c.tc : Thread _ Cert.Kernel2Ideal.τ).loc Cert.Kernel2Ideal.main_v36_2) = (Cert.Kernel2Ideal.Bwd.dats m 0 c).arrAt 8 (Cert.Kernel2Ideal.cfgs 0).N
        ∧ r.2.mem ((c.tc : Thread _ Cert.Kernel2Ideal.τ).loc Cert.Kernel2Ideal.main_arg0) = m ((c.tc : Thread _ Cert.Kernel2Ideal.τ).loc Cert.Kernel2Ideal.main_arg0)
        ∧ r.2.mem ((c.tc : Thread _ Cert.Kernel2Ideal.τ).loc Cert.Kernel2Ideal.main_arg1) = m ((c.tc : Thread _ Cert.Kernel2Ideal.τ).loc Cert.Kernel2Ideal.main_arg1)
        ∧ r.2.mem ((c.tc : Thread _ Cert.Kernel2Ideal.τ).loc Cert.Kernel2Ideal.main_arg2) = m ((c.tc : Thread _ Cert.Kernel2Ideal.τ).loc Cert.Kernel2Ideal.main_arg2)
        ∧ r.2.mem ((c.tc : Thread _ Cert.Kernel2Ideal.τ).loc Cert.Kernel2Ideal.main_arg3) = m ((c.tc : Thread _ Cert.Kernel2Ideal.τ).loc Cert.Kernel2Ideal.main_arg3) :=
  (θ_run Cert.Kernel2Ideal.defs _ _).mono (fun _ h c => ⟨(h.1 c).1 6, (h.1 c).1 7, (h.1 c).1 8, h.2.1 c⟩)
    (θ_run_and (Cert.Kernel2Ideal.Bwd.run_main m ρ) (Cert.Kernel2Ideal.Bwd.frame m ρ))

set_option maxHeartbeats 1600000 in
theorem algebraic2 : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  pair_intro
  · run_from run_kernel2 m g
  · run_from Cert.Reference2Ideal.Value.run m' g'
    · obtain ⟨h0, h1, h2, h3⟩ := lift_of_finite2 _ _ _ _ (hpre c)
      obtain ⟨a0, a1, a2, a3⟩ := hagree c
      refine Eq.trans ?_ (Cert.Kernel2Ideal.Bwd.given_dq h0 h1 h2 h3).symm
      rw [Cert.Reference2Ideal.Read.val_main_v72_eq, a0, a1, a2, a3, h0, h1, h2, h3]
      exact Cert.Reference2Ideal.Grad.dq_at _ _ _ _
    · obtain ⟨h0, h1, h2, h3⟩ := lift_of_finite2 _ _ _ _ (hpre c)
      obtain ⟨a0, a1, a2, a3⟩ := hagree c
      refine Eq.trans ?_ (Cert.Kernel2Ideal.Bwd.given_dk h0 h1 h2 h3).symm
      rw [Cert.Reference2Ideal.Read.val_main_v74_eq, a0, a1, a2, a3, h0, h1, h2, h3]
      exact Cert.Reference2Ideal.Grad.dk_at _ _ _ _
    · obtain ⟨h0, h1, h2, h3⟩ := lift_of_finite2 _ _ _ _ (hpre c)
      obtain ⟨a0, a1, -, a3⟩ := hagree c
      refine Eq.trans ?_ (Cert.Kernel2Ideal.Bwd.given_dv h0 h1 h2 h3).symm
      rw [Cert.Reference2Ideal.Read.val_main_v76_eq, a0, a1, a3, h0, h1, h3]
      exact Cert.Reference2Ideal.Grad.dv_at _ _ _ _

/-! ## The input projection's weight gradient -/

section Tables3

attribute [local instance] Cert.Kernel3.Gen.facts Cert.Kernel3Ideal.Gen.facts

theorem bodies3 : @Cert.Kernel3.cc0_dw_in Bits _ _ = @Cert.Kernel3Ideal.cc0_dw_in Bits _ _ := rfl

/-- The two programs have the same body table. -/
theorem tables3₀ : @Cert.Kernel3.defs₀ Bits _ _ = @Cert.Kernel3Ideal.defs₀ Bits _ _ := by
  refine congrArg Defs.onTc (funext fun l => funext fun a => ?_)
  match l, a with
  | 0, (t, s) =>
    dsimp only
    rw [bodies3]
    congr 1

theorem tables3 : Cert.Kernel3.defs (F := Bits) = Cert.Kernel3Ideal.defs (F := Bits) :=
  congrArg (Pipeline.defs (Cert.Kernel3Ideal.pcfgs (F := Bits))) tables3₀

end Tables3

theorem frame_kernel3 : Cert.quiescent_Kernel3 (hKernel3 := Cert.Kernel3.Gen.facts) := by
  intro m ρ _
  rw [tables3]
  exact (θ_run Cert.Kernel3Ideal.defs _ _).mono (fun _ h => h) (Cert.Kernel3Ideal.Gen.frame (F := Bits) m ρ)

theorem frame_reference3 : Cert.quiescent_Reference3Ideal (hReference3Ideal := Cert.Reference3Ideal.Gen.facts) := by
  intro m g _
  exact (θ_run Cert.Reference3Ideal.defs _ _).mono
    (fun r h => ⟨fun c => (h c).2, sem_eq_zero_of_no_sems rfl r.2⟩) (Cert.Reference3Ideal.Value.run (F := Ideal) m g)

theorem algebraic3 : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run m g
  · run_from Cert.Reference3Ideal.Value.run m' g'
    · rw [Cert.Reference3Ideal.Read.val_main_v4_eq]
      exact (Cert.Kernel3Ideal.Sum.result m c).symm

/-! ## The output product -/

section Tables4

attribute [local instance] Cert.Kernel4.Gen.facts Cert.Kernel4Ideal.Gen.facts

theorem bodies4 : @Cert.Kernel4.cc0_out_fwd Bits _ _ = @Cert.Kernel4Ideal.cc0_out_fwd Bits _ _ := rfl

set_option maxHeartbeats 4000000 in
/-- The two programs have the same body table. -/
theorem tables4₀ : @Cert.Kernel4.defs₀ Bits _ _ = @Cert.Kernel4Ideal.defs₀ Bits _ _ := by
  refine congrArg Defs.onTc (funext fun l => funext fun a => ?_)
  match l, a with
  | 0, (t, s) =>
    dsimp only
    rw [bodies4]
    congr 1

theorem tables4 : Cert.Kernel4.defs (F := Bits) = Cert.Kernel4Ideal.defs (F := Bits) :=
  congrArg (Pipeline.defs (Cert.Kernel4Ideal.pcfgs (F := Bits))) tables4₀

end Tables4

theorem frame_kernel4 : Cert.quiescent_Kernel4 (hKernel4 := Cert.Kernel4.Gen.facts) := by
  intro m ρ _
  rw [tables4]
  exact (θ_run Cert.Kernel4Ideal.defs _ _).mono (fun _ h => h) (Cert.Kernel4Ideal.Gen.frame (F := Bits) m ρ)

theorem frame_reference4 : Cert.quiescent_Reference4Ideal (hReference4Ideal := Cert.Reference4Ideal.Gen.facts) := by
  intro m g _
  exact (θ_run Cert.Reference4Ideal.defs _ _).mono
    (fun r h => ⟨fun c => (h c).2.2.2.2.2.2.2, sem_eq_zero_of_no_sems rfl r.2⟩) (Cert.Reference4Ideal.Value.run (F := Ideal) m g)

theorem algebraic4 : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  pair_intro
  · run_from Cert.Kernel4Ideal.Value.run m g
  · run_from Cert.Reference4Ideal.Value.run m' g'
    · obtain ⟨a0, a1, a2, a3, a4, a5, a6⟩ := hagree c
      try simp only [← a0, ← a1, ← a2, ← a3, ← a4, ← a5, ← a6]
      rw [Cert.Reference4Ideal.Read.val_main_v21_eq, a0, a1, a2, a3, a4, a5, a6]
      exact (Cert.Kernel4Ideal.Output.result7 m c).symm
    · obtain ⟨a0, a1, a2, a3, a4, a5, a6⟩ := hagree c
      try simp only [← a0, ← a1, ← a2, ← a3, ← a4, ← a5, ← a6]
      rw [Cert.Reference4Ideal.Read.val_main_v33_eq, a0, a1, a2, a3, a4, a5, a6]
      exact (Cert.Kernel4Ideal.Output.result8 m c).symm
    · obtain ⟨a0, a1, a2, a3, a4, a5, a6⟩ := hagree c
      try simp only [← a0, ← a1, ← a2, ← a3, ← a4, ← a5, ← a6]
      rw [Cert.Reference4Ideal.Read.val_main_v34_eq, a0, a1, a2, a3, a4, a5, a6]
      exact (Cert.Kernel4Ideal.Output.result9 m c).symm
    · obtain ⟨r0, r1, r2, r3, r4, r5, r6⟩ := isReal_of_finite4 _ _ _ _ _ _ _ (hpre c)
      obtain ⟨a0, a1, a2, a3, a4, a5, a6⟩ := hagree c
      try simp only [← a0, ← a1, ← a2, ← a3, ← a4, ← a5, ← a6]
      rw [Cert.Reference4Ideal.Read.val_main_v32_eq, a0, a1, a2, a3, a4, a5, a6]
      exact (Cert.Kernel4Ideal.Output.result10 m c r0 r1 r2 r3 r4 r5 r6).symm
    · obtain ⟨r0, r1, r2, r3, r4, r5, r6⟩ := isReal_of_finite4 _ _ _ _ _ _ _ (hpre c)
      obtain ⟨a0, a1, a2, a3, a4, a5, a6⟩ := hagree c
      try simp only [← a0, ← a1, ← a2, ← a3, ← a4, ← a5, ← a6]
      rw [Cert.Reference4Ideal.Read.val_main_v29_eq, a0, a1, a2, a3, a4, a5, a6]
      exact (Cert.Kernel4Ideal.Output.result11 m c r0 r1 r2 r3 r4 r5 r6).symm
    · obtain ⟨a0, a1, a2, a3, a4, a5, a6⟩ := hagree c
      try simp only [← a0, ← a1, ← a2, ← a3, ← a4, ← a5, ← a6]
      rw [Cert.Reference4Ideal.Read.val_main_v35_eq, a0, a1, a2, a3, a4, a5, a6]
      exact (Cert.Kernel4Ideal.Output.result12 m c).symm
    · obtain ⟨a0, a1, a2, a3, a4, a5, a6⟩ := hagree c
      try simp only [← a0, ← a1, ← a2, ← a3, ← a4, ← a5, ← a6]
      rw [Cert.Reference4Ideal.Read.val_main_v39_eq, a0, a1, a2, a3, a4, a5, a6]
      exact (Cert.Kernel4Ideal.Output.result13 m c).symm

/-! ## All claims -/

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite.Gen.facts, Cert.Pre_finite2.Gen.facts, Cert.Pre_finite4.Gen.facts,
    frame_kernel, fun m ρ _ => Cert.KernelIdeal.Bwd.frame (F := Ideal) m ρ, fun m ρ _ => Cert.KernelIdeal.Bwd.frame (F := Ideal) m ρ,
    frame_reference, fun m ρ _ => frame_reference m ρ trivial,
    frame_kernel2, fun m ρ _ => Cert.Kernel2Ideal.Bwd.frame (F := Ideal) m ρ, fun m ρ _ => Cert.Kernel2Ideal.Bwd.frame (F := Ideal) m ρ,
    frame_reference2, fun m ρ _ => frame_reference2 m ρ trivial,
    frame_kernel3, fun m ρ _ => Cert.Kernel3Ideal.Gen.frame (F := Ideal) m ρ, frame_reference3,
    frame_kernel4, fun m ρ _ => Cert.Kernel4Ideal.Gen.frame (F := Ideal) m ρ, fun m ρ _ => Cert.Kernel4Ideal.Gen.frame (F := Ideal) m ρ,
    frame_reference4, fun m ρ _ => frame_reference4 m ρ trivial,
    trivial, algebraic, trivial, algebraic2, trivial, algebraic3, trivial, algebraic4⟩

end Cert.Proof

end
